-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)) (v2 : (c : Dev Cert.Kernel5Ideal.nD) → Buf (Elt Ideal) ((c.tc : Thread Cert.Kernel5Ideal.nD Cert.Kernel5Ideal.τ).loc Cert.Kernel5Ideal.main_v24_2)) (v3 : (c : Dev Cert.Kernel5Ideal.nD) → Buf (Elt Ideal) ((c.tc : Thread Cert.Kernel5Ideal.nD Cert.Kernel5Ideal.τ).loc Cert.Kernel5Ideal.main_v24_3)) (v4 : (c : Dev Cert.Kernel5Ideal.nD) → Buf (Elt Ideal) ((c.tc : Thread Cert.Kernel5Ideal.nD Cert.Kernel5Ideal.τ).loc Cert.Kernel5Ideal.main_v24_4)) (v5 : (c : Dev Cert.Kernel5Ideal.nD) → Buf (Elt Ideal) ((c.tc : Thread Cert.Kernel5Ideal.nD Cert.Kernel5Ideal.τ).loc Cert.Kernel5Ideal.main_v24_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_v24_2) = v2 c
          ∧ r.2.mem ((c.tc : Thread Cert.Kernel5Ideal.nD Cert.Kernel5Ideal.τ).loc Cert.Kernel5Ideal.main_v24_3) = v3 c
          ∧ r.2.mem ((c.tc : Thread Cert.Kernel5Ideal.nD Cert.Kernel5Ideal.τ).loc Cert.Kernel5Ideal.main_v24_4) = v4 c
          ∧ r.2.mem ((c.tc : Thread Cert.Kernel5Ideal.nD Cert.Kernel5Ideal.τ).loc Cert.Kernel5Ideal.main_v24_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_v43) = v2 c
          ∧ r.2.mem ((c.tc : Thread Cert.Reference5Ideal.nD Cert.Reference5Ideal.τ).loc Cert.Reference5Ideal.main_v20) = v3 c
          ∧ r.2.mem ((c.tc : Thread Cert.Reference5Ideal.nD Cert.Reference5Ideal.τ).loc Cert.Reference5Ideal.main_v31) = v4 c
          ∧ r.2.mem ((c.tc : Thread Cert.Reference5Ideal.nD Cert.Reference5Ideal.τ).loc Cert.Reference5Ideal.main_v40) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S16x2048x4096 : Shape := ⟨3, ![16, 2048, 4096]⟩
abbrev S16x4096x2048 : Shape := ⟨3, ![16, 4096, 2048]⟩
abbrev S16x1024x4096 : Shape := ⟨3, ![16, 1024, 4096]⟩
abbrev S_ : Shape := ⟨0, ![]⟩

class Facts : Prop where
  bitsLt_bf16_f32 : FTy.bits .bf16 < FTy.bits .f32
  bcast_S_S16x2048x4096 : S_.BroadcastsInDim S16x2048x4096 (![] : Fin 0 → Fin S16x2048x4096.rank)
  reducesTo_S16x2048x4096_S_d0_1_2 : S16x2048x4096.ReducesTo [0, 1, 2] S_
  h_S_ : 0 < S_.numel
  bcast_S_S16x4096x2048 : S_.BroadcastsInDim S16x4096x2048 (![] : Fin 0 → Fin S16x4096x2048.rank)
  reducesTo_S16x4096x2048_S_d0_1_2 : S16x4096x2048.ReducesTo [0, 1, 2] S_

variable [Facts]

def fn {F : FTy → Type} [FloatOps F] (main_arg0 : FVec F S16x2048x4096 .bf16) (main_arg1 : FVec F S16x4096x2048 .bf16) (main_arg2 : FVec F S16x1024x4096 .bf16) : IVec S_ 1 :=
  let main_v0 : FVec F S16x2048x4096 .f32 := (extf .f32 · bitsLt_bf16_f32) main_arg0
  let main_v1 : FVec F S16x2048x4096 .f32 := Host.absf main_v0
  let main_cst : FVec F S_ .f32 := constant S_ .f32 0x7F800000#32
  let main_v2 : FVec F S16x2048x4096 .f32 := broadcastInDim S16x2048x4096 ![] bcast_S_S16x2048x4096 main_cst
  let main_v3 : IVec S16x2048x4096 1 := cmpf .olt main_v1 main_v2
  let main_c : IVec S_ 1 := constantI S_ 1 1#1
  let main_v4 : IVec S_ 1 := (fun x v => Host.reduce IntOp.andi x v reducesTo_S16x2048x4096_S_d0_1_2 h_S_) main_v3 main_c
  let main_v5 : FVec F S16x4096x2048 .f32 := (extf .f32 · bitsLt_bf16_f32) main_arg1
  let main_v6 : FVec F S16x4096x2048 .f32 := Host.absf main_v5
  let main_cst_0 : FVec F S_ .f32 := constant S_ .f32 0x7F800000#32
  let main_v7 : FVec F S16x4096x2048 .f32 := broadcastInDim S16x4096x2048 ![] bcast_S_S16x4096x2048 main_cst_0
  let main_v8 : IVec S16x4096x2048 1 := cmpf .olt main_v6 main_v7
  let main_c_1 : IVec S_ 1 := constantI S_ 1 1#1
  let main_v9 : IVec S_ 1 := (fun x v => Host.reduce IntOp.andi x v reducesTo_S16x4096x2048_S_d0_1_2 h_S_) main_v8 main_c_1
  let main_v10 : IVec S_ 1 := andi main_v4 main_v9
  main_v10
-- ==== Kernel.lean ====
abbrev S16x2048x4096 : Shape := ⟨3, ![16, 2048, 4096]⟩
abbrev S16x4096x2048 : Shape := ⟨3, ![16, 4096, 2048]⟩
abbrev S16x1024x4096 : Shape := ⟨3, ![16, 1024, 4096]⟩
abbrev S16x4096x1024 : Shape := ⟨3, ![16, 4096, 1024]⟩
abbrev S1x256x1024 : Shape := ⟨3, ![1, 256, 1024]⟩
abbrev S1x4096x256 : Shape := ⟨3, ![1, 4096, 256]⟩
abbrev S1x128x4096 : Shape := ⟨3, ![1, 128, 4096]⟩
abbrev S1x1024x128 : Shape := ⟨3, ![1, 1024, 128]⟩
abbrev S4096x1024 : Shape := ⟨2, ![4096, 1024]⟩
abbrev S1x1024 : Shape := ⟨2, ![1, 1024]⟩
abbrev S1x256x256 : Shape := ⟨3, ![1, 256, 256]⟩
abbrev S256x256 : Shape := ⟨2, ![256, 256]⟩
abbrev S256x1024 : Shape := ⟨2, ![256, 1024]⟩
abbrev S1024 : Shape := ⟨1, ![1024]⟩
abbrev S1x128x256 : Shape := ⟨3, ![1, 128, 256]⟩
abbrev S128x256 : Shape := ⟨2, ![128, 256]⟩
abbrev S128x1024 : Shape := ⟨2, ![128, 1024]⟩
abbrev S1024x128 : Shape := ⟨2, ![1024, 128]⟩

abbrev nBuf : Space → Nat
  | .hbm => 4
  | .vmem => 12
  | .smem => 0
  | _ => 0

abbrev bufTy : (tb : Table) → Fin (tcTables nBuf tb) → BufTy
  | .hbm, ⟨0, _⟩ => ⟨S16x2048x4096, .bf16⟩
  | .hbm, ⟨1, _⟩ => ⟨S16x4096x2048, .bf16⟩
  | .hbm, ⟨2, _⟩ => ⟨S16x1024x4096, .bf16⟩
  | .hbm, ⟨3, _⟩ => ⟨S16x4096x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x1024x128, .bf16⟩
  | .local _ .vmem, ⟨7, _⟩ => ⟨S1x1024x128, .bf16⟩
  | .local _ .vmem, ⟨8, _⟩ => ⟨S4096x1024, .f32⟩
  | .local _ .vmem, ⟨9, _⟩ => ⟨S4096x1024, .f32⟩
  | .local _ .vmem, ⟨10, _⟩ => ⟨S1x1024, .f32⟩
  | .local _ .vmem, ⟨11, _⟩ => ⟨S1x1024, .f32⟩
  | _, _ => ⟨S16x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![513], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c512_i32 : BitVec 32 := 512#32
  let v4 : BitVec 1 := Scalar.cmpi .slt arg0 c512_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c512_i32_9 : BitVec 32 := 512#32
  let v21 : BitVec 1 := Scalar.cmpi .slt arg0 c512_i32_9
  let v22 : BitVec 1 := Scalar.andi v20 v21
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg0 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_16 : BitVec 32 := 1#32
  let v33 : BitVec 1 := Scalar.cmpi .eq v32 c1_i32_16
  let v34 : BitVec 1 := Scalar.andi v22 v33
  let v35 : BitVec 32 := Scalar.extui v34
  let c0_i32_17 : BitVec 32 := 0#32
  let v36 : BitVec 1 := Scalar.cmpi .ne v35 c0_i32_17
  v36

def k0_cond4 (i : grid0.Coords) : BitVec 1 :=
  let arg0 : BitVec 32 := BitVec.ofNat 32 (i 0).val
  let c512_i32_18 : BitVec 32 := 512#32
  let v37 : BitVec 1 := Scalar.cmpi .eq arg0 c512_i32_18
  let v38 : BitVec 32 := Scalar.extui v37
  let c0_i32_19 : BitVec 32 := 0#32
  let v39 : BitVec 1 := Scalar.cmpi .ne v38 c0_i32_19
  v39

def cc0_transform_0 (i : grid0.Coords) : Fin 3 → Nat :=
  let arg0 : BitVec 32 := BitVec.ofNat 32 (i 0).val
  let c511_i32 : BitVec 32 := 511#32
  let v0 : BitVec 32 := Scalar.minsi arg0 c511_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.divsi v17 c8_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c8_i32 c0_i32_6
  let v25 : BitVec 32 := Scalar.extui v24
  let c0_i32_7 : BitVec 32 := 0#32
  let v26 : BitVec 1 := Scalar.cmpi .slt c8_i32 c0_i32_7
  let v27 : BitVec 32 := Scalar.extui v26
  let v28 : BitVec 32 := Scalar.subi v25 v27
  let v29 : BitVec 1 := Scalar.cmpi .ne v23 v28
  let v30 : BitVec 32 := Scalar.remsi v17 c8_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c8_i32_10 : BitVec 32 := 8#32
  let c0_i32_11 : BitVec 32 := 0#32
  let v35 : BitVec 1 := Scalar.cmpi .eq c8_i32_10 c0_i32_11
  let c1_i32_12 : BitVec 32 := 1#32
  let v36 : BitVec 32 := Scalar.select v35 c1_i32_12 c8_i32_10
  let v37 : BitVec 32 := Scalar.remsi v17 v36
  let c0_i32_13 : BitVec 32 := 0#32
  let v38 : BitVec 1 := Scalar.cmpi .ne v37 c0_i32_13
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let v42 : BitVec 1 := Scalar.andi v41 v38
  let v43 : BitVec 32 := Scalar.addi v37 v36
  let v44 : BitVec 32 := Scalar.select v42 v43 v37
  let c4_i32_16 : BitVec 32 := 4#32
  let c0_i32_17 : BitVec 32 := 0#32
  let v45 : BitVec 1 := Scalar.cmpi .eq c4_i32_16 c0_i32_17
  let c1_i32_18 : BitVec 32 := 1#32
  let v46 : BitVec 32 := Scalar.select v45 c1_i32_18 c4_i32_16
  let v47 : BitVec 32 := Scalar.remsi v0 v46
  let c0_i32_19 : BitVec 32 := 0#32
  let v48 : BitVec 1 := Scalar.cmpi .ne v47 c0_i32_19
  let c0_i32_20 : BitVec 32 := 0#32
  let v49 : BitVec 1 := Scalar.cmpi .slt v47 c0_i32_20
  let c0_i32_21 : BitVec 32 := 0#32
  let v50 : BitVec 1 := Scalar.cmpi .slt v46 c0_i32_21
  let v51 : BitVec 1 := Scalar.xori v49 v50
  let v52 : BitVec 1 := Scalar.andi v51 v48
  let v53 : BitVec 32 := Scalar.addi v47 v46
  let v54 : BitVec 32 := Scalar.select v52 v53 v47
  let c0_i32_22 : BitVec 32 := 0#32
  ![v34.toNat, v44.toNat, v54.toNat]

def cc0_transform_1 (i : grid0.Coords) : Fin 3 → Nat :=
  let arg0 : BitVec 32 := BitVec.ofNat 32 (i 0).val
  let c511_i32 : BitVec 32 := 511#32
  let v0 : BitVec 32 := Scalar.minsi arg0 c511_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.divsi v17 c8_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c8_i32 c0_i32_6
  let v25 : BitVec 32 := Scalar.extui v24
  let c0_i32_7 : BitVec 32 := 0#32
  let v26 : BitVec 1 := Scalar.cmpi .slt c8_i32 c0_i32_7
  let v27 : BitVec 32 := Scalar.extui v26
  let v28 : BitVec 32 := Scalar.subi v25 v27
  let v29 : BitVec 1 := Scalar.cmpi .ne v23 v28
  let v30 : BitVec 32 := Scalar.remsi v17 c8_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c8_i32_10 : BitVec 32 := 8#32
  let c0_i32_11 : BitVec 32 := 0#32
  let v35 : BitVec 1 := Scalar.cmpi .eq c8_i32_10 c0_i32_11
  let c1_i32_12 : BitVec 32 := 1#32
  let v36 : BitVec 32 := Scalar.select v35 c1_i32_12 c8_i32_10
  let v37 : BitVec 32 := Scalar.remsi v17 v36
  let c0_i32_13 : BitVec 32 := 0#32
  let v38 : BitVec 1 := Scalar.cmpi .ne v37 c0_i32_13
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let v42 : BitVec 1 := Scalar.andi v41 v38
  let v43 : BitVec 32 := Scalar.addi v37 v36
  let v44 : BitVec 32 := Scalar.select v42 v43 v37
  let c4_i32_16 : BitVec 32 := 4#32
  let c0_i32_17 : BitVec 32 := 0#32
  let v45 : BitVec 1 := Scalar.cmpi .eq c4_i32_16 c0_i32_17
  let c1_i32_18 : BitVec 32 := 1#32
  let v46 : BitVec 32 := Scalar.select v45 c1_i32_18 c4_i32_16
  let v47 : BitVec 32 := Scalar.remsi v0 v46
  let c0_i32_19 : BitVec 32 := 0#32
  let v48 : BitVec 1 := Scalar.cmpi .ne v47 c0_i32_19
  let c0_i32_20 : BitVec 32 := 0#32
  let v49 : BitVec 1 := Scalar.cmpi .slt v47 c0_i32_20
  let c0_i32_21 : BitVec 32 := 0#32
  let v50 : BitVec 1 := Scalar.cmpi .slt v46 c0_i32_21
  let v51 : BitVec 1 := Scalar.xori v49 v50
  let v52 : BitVec 1 := Scalar.andi v51 v48
  let v53 : BitVec 32 := Scalar.addi v47 v46
  let v54 : BitVec 32 := Scalar.select v52 v53 v47
  let c0_i32_22 : BitVec 32 := 0#32
  let c0_i32_23 : BitVec 32 := 0#32
  ![v34.toNat, c0_i32_22.toNat, v44.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32 : BitVec 32 := 8#32
  let v19 : BitVec 32 := Scalar.divsi v18 c8_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v18 c8_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c8_i32_12 : BitVec 32 := 8#32
  let c0_i32_13 : BitVec 32 := 0#32
  let v36 : BitVec 1 := Scalar.cmpi .eq c8_i32_12 c0_i32_13
  let c1_i32_14 : BitVec 32 := 1#32
  let v37 : BitVec 32 := Scalar.select v36 c1_i32_14 c8_i32_12
  let v38 : BitVec 32 := Scalar.remsi v18 v37
  let c0_i32_15 : BitVec 32 := 0#32
  let v39 : BitVec 1 := Scalar.cmpi .ne v38 c0_i32_15
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let v43 : BitVec 1 := Scalar.andi v42 v39
  let v44 : BitVec 32 := Scalar.addi v38 v37
  let v45 : BitVec 32 := Scalar.select v43 v44 v38
  let c4_i32_18 : BitVec 32 := 4#32
  let c0_i32_19 : BitVec 32 := 0#32
  let v46 : BitVec 1 := Scalar.cmpi .eq c4_i32_18 c0_i32_19
  let c1_i32_20 : BitVec 32 := 1#32
  let v47 : BitVec 32 := Scalar.select v46 c1_i32_20 c4_i32_18
  let v48 : BitVec 32 := Scalar.remsi v1 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  let c0_i32_25 : BitVec 32 := 0#32
  ![v35.toNat, v45.toNat, c0_i32_24.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32 : BitVec 32 := 8#32
  let v19 : BitVec 32 := Scalar.divsi v18 c8_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c8_i32 c0_i32_8
  let v26 : BitVec 32 := Scalar.extui v25
  let c0_i32_9 : BitVec 32 := 0#32
  let v27 : BitVec 1 := Scalar.cmpi .slt c8_i32 c0_i32_9
  let v28 : BitVec 32 := Scalar.extui v27
  let v29 : BitVec 32 := Scalar.subi v26 v28
  let v30 : BitVec 1 := Scalar.cmpi .ne v24 v29
  let v31 : BitVec 32 := Scalar.remsi v18 c8_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c8_i32_12 : BitVec 32 := 8#32
  let c0_i32_13 : BitVec 32 := 0#32
  let v36 : BitVec 1 := Scalar.cmpi .eq c8_i32_12 c0_i32_13
  let c1_i32_14 : BitVec 32 := 1#32
  let v37 : BitVec 32 := Scalar.select v36 c1_i32_14 c8_i32_12
  let v38 : BitVec 32 := Scalar.remsi v18 v37
  let c0_i32_15 : BitVec 32 := 0#32
  let v39 : BitVec 1 := Scalar.cmpi .ne v38 c0_i32_15
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let v43 : BitVec 1 := Scalar.andi v42 v39
  let v44 : BitVec 32 := Scalar.addi v38 v37
  let v45 : BitVec 32 := Scalar.select v43 v44 v38
  let c4_i32_18 : BitVec 32 := 4#32
  let c0_i32_19 : BitVec 32 := 0#32
  let v46 : BitVec 1 := Scalar.cmpi .eq c4_i32_18 c0_i32_19
  let c1_i32_20 : BitVec 32 := 1#32
  let v47 : BitVec 32 := Scalar.select v46 c1_i32_20 c4_i32_18
  let v48 : BitVec 32 := Scalar.remsi v1 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  ![v35.toNat, v55.toNat, v45.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x2048x4096 : Shape := ⟨3, ![16, 2048, 4096]⟩
abbrev S16x4096x2048 : Shape := ⟨3, ![16, 4096, 2048]⟩
abbrev S16x1024x4096 : Shape := ⟨3, ![16, 1024, 4096]⟩
abbrev S16x8x256x4096 : Shape := ⟨4, ![16, 8, 256, 4096]⟩
abbrev S16x4096x8x256 : Shape := ⟨4, ![16, 4096, 8, 256]⟩
abbrev S16x8x128x4096 : Shape := ⟨4, ![16, 8, 128, 4096]⟩
abbrev S16x8x4096x4096 : Shape := ⟨4, ![16, 8, 4096, 4096]⟩
abbrev S_ : Shape := ⟨0, ![]⟩
abbrev S16x8x4096 : Shape := ⟨3, ![16, 8, 4096]⟩
abbrev S16x8x4096x1 : Shape := ⟨4, ![16, 8, 4096, 1]⟩
abbrev S16x4096x8x128 : Shape := ⟨4, ![16, 4096, 8, 128]⟩
abbrev S16x4096x1024 : Shape := ⟨3, ![16, 4096, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x4096, .bf16⟩
  | .hbm, ⟨1, _⟩ => ⟨S16x4096x2048, .bf16⟩
  | .hbm, ⟨2, _⟩ => ⟨S16x1024x4096, .bf16⟩
  | .hbm, ⟨3, _⟩ => ⟨S16x2048x4096, .f32⟩
  | .hbm, ⟨4, _⟩ => ⟨S16x8x256x4096, .f32⟩
  | .hbm, ⟨5, _⟩ => ⟨S16x4096x2048, .f32⟩
  | .hbm, ⟨6, _⟩ => ⟨S16x4096x8x256, .f32⟩
  | .hbm, ⟨7, _⟩ => ⟨S16x1024x4096, .f32⟩
  | .hbm, ⟨8, _⟩ => ⟨S16x8x128x4096, .f32⟩
  | .hbm, ⟨9, _⟩ => ⟨S16x8x4096x4096, .f32⟩
  | .hbm, ⟨10, _⟩ => ⟨S16x8x4096x4096, .bf16⟩
  | .hbm, ⟨11, _⟩ => ⟨S16x8x4096x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16x8x4096x4096, .f32⟩
  | .hbm, ⟨16, _⟩ => ⟨S16x8x4096x4096, .f32⟩
  | .hbm, ⟨17, _⟩ => ⟨S_, .f32⟩
  | .hbm, ⟨18, _⟩ => ⟨S16x8x4096, .f32⟩
  | .hbm, ⟨19, _⟩ => ⟨S_, .f32⟩
  | .hbm, ⟨20, _⟩ => ⟨S16x8x4096, .f32⟩
  | .hbm, ⟨21, _⟩ => ⟨S16x8x4096, .f32⟩
  | .hbm, ⟨22, _⟩ => ⟨S16x8x4096x1, .f32⟩
  | .hbm, ⟨23, _⟩ => ⟨S16x8x4096x4096, .f32⟩
  | .hbm, ⟨24, _⟩ => ⟨S16x8x4096x4096, .f32⟩
  | .hbm, ⟨25, _⟩ => ⟨S16x8x4096x4096, .f32⟩
  | .hbm, ⟨26, _⟩ => ⟨S_, .f32⟩
  | .hbm, ⟨27, _⟩ => ⟨S16x8x4096, .f32⟩
  | .hbm, ⟨28, _⟩ => ⟨S16x8x4096x1, .f32⟩
  | .hbm, ⟨29, _⟩ => ⟨S16x8x4096x4096, .f32⟩
  | .hbm, ⟨30, _⟩ => ⟨S16x8x4096x4096, .f32⟩
  | .hbm, ⟨31, _⟩ => ⟨S16x8x4096x4096, .bf16⟩
  | .hbm, ⟨32, _⟩ => ⟨S16x8x4096x4096, .f32⟩
  | .hbm, ⟨33, _⟩ => ⟨S16x8x128x4096, .f32⟩
  | .hbm, ⟨34, _⟩ => ⟨S16x4096x8x128, .f32⟩
  | .hbm, ⟨35, _⟩ => ⟨S16x4096x1024, .f32⟩
  | .hbm, ⟨36, _⟩ => ⟨S16x4096x1024, .bf16⟩
  | _, _ => ⟨S16x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel2.lean ====
abbrev S65536x1024 : Shape := ⟨2, ![65536, 1024]⟩
abbrev S2x2x1024 : Shape := ⟨3, ![2, 2, 1024]⟩
abbrev S2x2x1024x5632 : Shape := ⟨4, ![2, 2, 1024, 5632]⟩
abbrev S2x2x2816x1024 : Shape := ⟨4, ![2, 2, 2816, 1024]⟩
abbrev S2x2x11x256x1024 : Shape := ⟨5, ![2, 2, 11, 256, 1024]⟩
abbrev S2x2x1x1024 : Shape := ⟨4, ![2, 2, 1, 1024]⟩
abbrev S1024x1024 : Shape := ⟨2, ![1024, 1024]⟩
abbrev S1x1x1x1024 : Shape := ⟨4, ![1, 1, 1, 1024]⟩
abbrev S1x1x1024x5632 : Shape := ⟨4, ![1, 1, 1024, 5632]⟩
abbrev S1x1x11x256x1024 : Shape := ⟨5, ![1, 1, 11, 256, 1024]⟩
abbrev S1x1024 : Shape := ⟨2, ![1, 1024]⟩
abbrev S1024 : Shape := ⟨1, ![1024]⟩
abbrev S1024x1 : Shape := ⟨2, ![1024, 1]⟩
abbrev S1x1x1024x256 : Shape := ⟨4, ![1, 1, 1024, 256]⟩
abbrev S1024x256 : Shape := ⟨2, ![1024, 256]⟩
abbrev S1024x512 : Shape := ⟨2, ![1024, 512]⟩
abbrev S1x1x2x256x1024 : Shape := ⟨5, ![1, 1, 2, 256, 1024]⟩
abbrev S2x256x1024 : Shape := ⟨3, ![2, 256, 1024]⟩
abbrev S512x1024 : Shape := ⟨2, ![512, 1024]⟩
abbrev S1x1x1x256x1024 : Shape := ⟨5, ![1, 1, 1, 256, 1024]⟩
abbrev S256x1024 : Shape := ⟨2, ![256, 1024]⟩

abbrev nBuf : Space → Nat
  | .hbm => 9
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S2x2x1024, .f32⟩
  | .hbm, ⟨2, _⟩ => ⟨S2x2x1024x5632, .f32⟩
  | .hbm, ⟨3, _⟩ => ⟨S2x2x2816x1024, .f32⟩
  | .hbm, ⟨4, _⟩ => ⟨S2x2x1024x5632, .bf16⟩
  | .hbm, ⟨5, _⟩ => ⟨S2x2x11x256x1024, .f32⟩
  | .hbm, ⟨6, _⟩ => ⟨S2x2x11x256x1024, .bf16⟩
  | .hbm, ⟨7, _⟩ => ⟨S2x2x1x1024, .f32⟩
  | .hbm, ⟨8, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1x1024, .f32⟩
  | .local _ .vmem, ⟨3, _⟩ => ⟨S1x1x1024x5632, .bf16⟩
  | .local _ .vmem, ⟨4, _⟩ => ⟨S1x1x11x256x1024, .bf16⟩
  | .local _ .vmem, ⟨5, _⟩ => ⟨S1024x1024, .f32⟩
  | .local _ .vmem, ⟨6, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x11x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S65536x1024 : Shape := ⟨2, ![65536, 1024]⟩
abbrev S2x2x1024 : Shape := ⟨3, ![2, 2, 1024]⟩
abbrev S2x2x1024x5632 : Shape := ⟨4, ![2, 2, 1024, 5632]⟩
abbrev S2x2x2816x1024 : Shape := ⟨4, ![2, 2, 2816, 1024]⟩
abbrev S1x1x1024 : Shape := ⟨3, ![1, 1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S65536x5632 : Shape := ⟨2, ![65536, 5632]⟩
abbrev S65536x2816 : Shape := ⟨2, ![65536, 2816]⟩

abbrev nBuf : Space → Nat
  | .hbm => 44
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x2x1024, .f32⟩
  | .hbm, ⟨2, _⟩ => ⟨S2x2x1024x5632, .f32⟩
  | .hbm, ⟨3, _⟩ => ⟨S2x2x2816x1024, .f32⟩
  | .hbm, ⟨4, _⟩ => ⟨S1x1x1024, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S1x1x1024x5632, .f32⟩
  | .hbm, ⟨23, _⟩ => ⟨S1024x5632, .f32⟩
  | .hbm, ⟨24, _⟩ => ⟨S1x1x2816x1024, .f32⟩
  | .hbm, ⟨25, _⟩ => ⟨S2816x1024, .f32⟩
  | .hbm, ⟨26, _⟩ => ⟨S65536x5632, .f32⟩
  | .hbm, ⟨27, _⟩ => ⟨S65536x2816, .f32⟩
  | .hbm, ⟨28, _⟩ => ⟨S65536x2816, .f32⟩
  | .hbm, ⟨29, _⟩ => ⟨S65536x2816, .f32⟩
  | .hbm, ⟨30, _⟩ => ⟨S65536x2816, .f32⟩
  | .hbm, ⟨31, _⟩ => ⟨S_, .f32⟩
  | .hbm, ⟨32, _⟩ => ⟨S65536x2816, .f32⟩
  | .hbm, ⟨33, _⟩ => ⟨S65536x2816, .f32⟩
  | .hbm, ⟨34, _⟩ => ⟨S_, .f32⟩
  | .hbm, ⟨35, _⟩ => ⟨S65536x2816, .f32⟩
  | .hbm, ⟨36, _⟩ => ⟨S65536x2816, .f32⟩
  | .hbm, ⟨37, _⟩ => ⟨S65536x2816, .f32⟩
  | .hbm, ⟨38, _⟩ => ⟨S65536x2816, .f32⟩
  | .hbm, ⟨39, _⟩ => ⟨S65536x1024, .f32⟩
  | .hbm, ⟨40, _⟩ => ⟨S_, .f32⟩
  | .hbm, ⟨41, _⟩ => ⟨S65536x1024, .f32⟩
  | .hbm, ⟨42, _⟩ => ⟨S65536x1024, .f32⟩
  | .hbm, ⟨43, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel3.lean ====
abbrev S65536x1024 : Shape := ⟨2, ![65536, 1024]⟩
abbrev S2x65536x256 : Shape := ⟨3, ![2, 65536, 256]⟩
abbrev S2x2x1024 : Shape := ⟨3, ![2, 2, 1024]⟩
abbrev S2x2x1024x5632 : Shape := ⟨4, ![2, 2, 1024, 5632]⟩
abbrev S2x2x2816x1024 : Shape := ⟨4, ![2, 2, 2816, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S1x1024x1024 : Shape := ⟨3, ![1, 1024, 1024]⟩
abbrev S1024 : Shape := ⟨1, ![1024]⟩
abbrev S2x2x11x256x1024 : Shape := ⟨5, ![2, 2, 11, 256, 1024]⟩
abbrev S2x2x1x1024 : Shape := ⟨4, ![2, 2, 1, 1024]⟩
abbrev S2x1x1024 : Shape := ⟨3, ![2, 1, 1024]⟩
abbrev S1x1024 : Shape := ⟨2, ![1, 1024]⟩
abbrev S1024x1024 : Shape := ⟨2, ![1024, 1024]⟩
abbrev S1x1x1x1024 : Shape := ⟨4, ![1, 1, 1, 1024]⟩
abbrev S1x1x1024x5632 : Shape := ⟨4, ![1, 1, 1024, 5632]⟩
abbrev S1x1x11x256x1024 : Shape := ⟨5, ![1, 1, 11, 256, 1024]⟩
abbrev S1x1024x256 : Shape := ⟨3, ![1, 1024, 256]⟩
abbrev S1x1x1024 : Shape := ⟨3, ![1, 1, 1024]⟩
abbrev S1x256x1024 : Shape := ⟨3, ![1, 256, 1024]⟩
abbrev S1024x1 : Shape := ⟨2, ![1024, 1]⟩
abbrev S1x1x1024x256 : Shape := ⟨4, ![1, 1, 1024, 256]⟩
abbrev S1024x256 : Shape := ⟨2, ![1024, 256]⟩
abbrev S1024x512 : Shape := ⟨2, ![1024, 512]⟩
abbrev S1x1x2x256x1024 : Shape := ⟨5, ![1, 1, 2, 256, 1024]⟩
abbrev S512x1024 : Shape := ⟨2, ![512, 1024]⟩
abbrev S1x1x1x256x1024 : Shape := ⟨5, ![1, 1, 1, 256, 1024]⟩
abbrev S256x1024 : Shape := ⟨2, ![256, 1024]⟩

abbrev nBuf : Space → Nat
  | .hbm => 21
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S2x65536x256, .f32⟩
  | .hbm, ⟨3, _⟩ => ⟨S2x2x1024, .f32⟩
  | .hbm, ⟨4, _⟩ => ⟨S2x2x1024x5632, .f32⟩
  | .hbm, ⟨5, _⟩ => ⟨S2x2x2816x1024, .f32⟩
  | .hbm, ⟨6, _⟩ => ⟨S2x1024, .f32⟩
  | .hbm, ⟨7, _⟩ => ⟨S2x1024x1024, .f32⟩
  | .hbm, ⟨8, _⟩ => ⟨S2x256x1024, .f32⟩
  | .hbm, ⟨9, _⟩ => ⟨S1x1024x1024, .f32⟩
  | .hbm, ⟨10, _⟩ => ⟨S1024, .f32⟩
  | .hbm, ⟨11, _⟩ => ⟨S2x2x1024x5632, .bf16⟩
  | .hbm, ⟨12, _⟩ => ⟨S2x2x11x256x1024, .f32⟩
  | .hbm, ⟨13, _⟩ => ⟨S2x2x11x256x1024, .bf16⟩
  | .hbm, ⟨14, _⟩ => ⟨S2x2x1x1024, .f32⟩
  | .hbm, ⟨15, _⟩ => ⟨S2x1x1024, .f32⟩
  | .hbm, ⟨16, _⟩ => ⟨S2x1024x1024, .bf16⟩
  | .hbm, ⟨17, _⟩ => ⟨S2x256x1024, .bf16⟩
  | .hbm, ⟨18, _⟩ => ⟨S1x1024, .f32⟩
  | .hbm, ⟨19, _⟩ => ⟨S1x1024x1024, .bf16⟩
  | .hbm, ⟨20, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1x1x1024, .f32⟩
  | .local _ .vmem, ⟨6, _⟩ => ⟨S1x1x1024x5632, .bf16⟩
  | .local _ .vmem, ⟨7, _⟩ => ⟨S1x1x11x256x1024, .bf16⟩
  | .local _ .vmem, ⟨8, _⟩ => ⟨S1x1024x256, .f32⟩
  | .local _ .vmem, ⟨9, _⟩ => ⟨S1x1024x256, .f32⟩
  | .local _ .vmem, ⟨10, _⟩ => ⟨S1x1x1024, .f32⟩
  | .local _ .vmem, ⟨11, _⟩ => ⟨S1x1024x1024, .bf16⟩
  | .local _ .vmem, ⟨12, _⟩ => ⟨S1x256x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 5 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  let c0_i32_3 : BitVec 32 := 0#32
  ![c1_i32.toNat, c1_i32_0.toNat, c0_i32.toNat, c0_i32_1.toNat, c0_i32_2.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x11x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
abbrev S65536x1024 : Shape := ⟨2, ![65536, 1024]⟩
abbrev S2x65536x256 : Shape := ⟨3, ![2, 65536, 256]⟩
abbrev S2x2x1024 : Shape := ⟨3, ![2, 2, 1024]⟩
abbrev S2x2x1024x5632 : Shape := ⟨4, ![2, 2, 1024, 5632]⟩
abbrev S2x2x2816x1024 : Shape := ⟨4, ![2, 2, 2816, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S1x1024x1024 : Shape := ⟨3, ![1, 1024, 1024]⟩
abbrev S1024 : Shape := ⟨1, ![1024]⟩
abbrev S2x2x11x256x1024 : Shape := ⟨5, ![2, 2, 11, 256, 1024]⟩
abbrev S2x2x1x1024 : Shape := ⟨4, ![2, 2, 1, 1024]⟩
abbrev S2x1x1024 : Shape := ⟨3, ![2, 1, 1024]⟩
abbrev S1x1024 : Shape := ⟨2, ![1, 1024]⟩
abbrev S1024x1024 : Shape := ⟨2, ![1024, 1024]⟩
abbrev S1x1x1x1024 : Shape := ⟨4, ![1, 1, 1, 1024]⟩
abbrev S1x1x1024x5632 : Shape := ⟨4, ![1, 1, 1024, 5632]⟩
abbrev S1x1x11x256x1024 : Shape := ⟨5, ![1, 1, 11, 256, 1024]⟩
abbrev S1x1024x256 : Shape := ⟨3, ![1, 1024, 256]⟩
abbrev S1x1x1024 : Shape := ⟨3, ![1, 1, 1024]⟩
abbrev S1x256x1024 : Shape := ⟨3, ![1, 256, 1024]⟩
abbrev S1024x1 : Shape := ⟨2, ![1024, 1]⟩
abbrev S1x1x1024x256 : Shape := ⟨4, ![1, 1, 1024, 256]⟩
abbrev S1024x256 : Shape := ⟨2, ![1024, 256]⟩
abbrev S1024x512 : Shape := ⟨2, ![1024, 512]⟩
abbrev S1x1x2x256x1024 : Shape := ⟨5, ![1, 1, 2, 256, 1024]⟩
abbrev S512x1024 : Shape := ⟨2, ![512, 1024]⟩
abbrev S1x1x1x256x1024 : Shape := ⟨5, ![1, 1, 1, 256, 1024]⟩
abbrev S256x1024 : Shape := ⟨2, ![256, 1024]⟩

abbrev nBuf : Space → Nat
  | .hbm => 21
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S2x65536x256, .f32⟩
  | .hbm, ⟨3, _⟩ => ⟨S2x2x1024, .f32⟩
  | .hbm, ⟨4, _⟩ => ⟨S2x2x1024x5632, .f32⟩
  | .hbm, ⟨5, _⟩ => ⟨S2x2x2816x1024, .f32⟩
  | .hbm, ⟨6, _⟩ => ⟨S2x1024, .f32⟩
  | .hbm, ⟨7, _⟩ => ⟨S2x1024x1024, .f32⟩
  | .hbm, ⟨8, _⟩ => ⟨S2x256x1024, .f32⟩
  | .hbm, ⟨9, _⟩ => ⟨S1x1024x1024, .f32⟩
  | .hbm, ⟨10, _⟩ => ⟨S1024, .f32⟩
  | .hbm, ⟨11, _⟩ => ⟨S2x2x1024x5632, .bf16⟩
  | .hbm, ⟨12, _⟩ => ⟨S2x2x11x256x1024, .f32⟩
  | .hbm, ⟨13, _⟩ => ⟨S2x2x11x256x1024, .bf16⟩
  | .hbm, ⟨14, _⟩ => ⟨S2x2x1x1024, .f32⟩
  | .hbm, ⟨15, _⟩ => ⟨S2x1x1024, .f32⟩
  | .hbm, ⟨16, _⟩ => ⟨S2x1024x1024, .bf16⟩
  | .hbm, ⟨17, _⟩ => ⟨S2x256x1024, .bf16⟩
  | .hbm, ⟨18, _⟩ => ⟨S1x1024, .f32⟩
  | .hbm, ⟨19, _⟩ => ⟨S1x1024x1024, .bf16⟩
  | .hbm, ⟨20, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1x1x1024, .f32⟩
  | .local _ .vmem, ⟨6, _⟩ => ⟨S1x1x1024x5632, .bf16⟩
  | .local _ .vmem, ⟨7, _⟩ => ⟨S1x1x11x256x1024, .bf16⟩
  | .local _ .vmem, ⟨8, _⟩ => ⟨S1x1024x256, .f32⟩
  | .local _ .vmem, ⟨9, _⟩ => ⟨S1x1024x256, .f32⟩
  | .local _ .vmem, ⟨10, _⟩ => ⟨S1x1x1024, .f32⟩
  | .local _ .vmem, ⟨11, _⟩ => ⟨S1x1024x1024, .bf16⟩
  | .local _ .vmem, ⟨12, _⟩ => ⟨S1x256x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 5 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  let c0_i32_3 : BitVec 32 := 0#32
  ![c1_i32.toNat, c1_i32_0.toNat, c0_i32.toNat, c0_i32_1.toNat, c0_i32_2.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x11x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S65536x1024 : Shape := ⟨2, ![65536, 1024]⟩
abbrev S2x65536x256 : Shape := ⟨3, ![2, 65536, 256]⟩
abbrev S2x2x1024 : Shape := ⟨3, ![2, 2, 1024]⟩
abbrev S2x2x1024x5632 : Shape := ⟨4, ![2, 2, 1024, 5632]⟩
abbrev S2x2x2816x1024 : Shape := ⟨4, ![2, 2, 2816, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S1x1024x1024 : Shape := ⟨3, ![1, 1024, 1024]⟩
abbrev S1024 : Shape := ⟨1, ![1024]⟩
abbrev S1024x1024 : Shape := ⟨2, ![1024, 1024]⟩
abbrev S1x1x1024 : Shape := ⟨3, ![1, 1, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S65536x5632 : Shape := ⟨2, ![65536, 5632]⟩
abbrev S65536x2816 : Shape := ⟨2, ![65536, 2816]⟩
abbrev S1x65536x256 : Shape := ⟨3, ![1, 65536, 256]⟩
abbrev S65536x256 : Shape := ⟨2, ![65536, 256]⟩
abbrev S1x256x1024 : Shape := ⟨3, ![1, 256, 1024]⟩
abbrev S256x1024 : Shape := ⟨2, ![256, 1024]⟩

abbrev nBuf : Space → Nat
  | .hbm => 107
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S2x65536x256, .f32⟩
  | .hbm, ⟨3, _⟩ => ⟨S2x2x1024, .f32⟩
  | .hbm, ⟨4, _⟩ => ⟨S2x2x1024x5632, .f32⟩
  | .hbm, ⟨5, _⟩ => ⟨S2x2x2816x1024, .f32⟩
  | .hbm, ⟨6, _⟩ => ⟨S2x1024, .f32⟩
  | .hbm, ⟨7, _⟩ => ⟨S2x1024x1024, .f32⟩
  | .hbm, ⟨8, _⟩ => ⟨S2x256x1024, .f32⟩
  | .hbm, ⟨9, _⟩ => ⟨S1x1024x1024, .f32⟩
  | .hbm, ⟨10, _⟩ => ⟨S1024, .f32⟩
  | .hbm, ⟨11, _⟩ => ⟨S65536x1024, .f32⟩
  | .hbm, ⟨12, _⟩ => ⟨S1024x1024, .f32⟩
  | .hbm, ⟨13, _⟩ => ⟨S65536x1024, .f32⟩
  | .hbm, ⟨14, _⟩ => ⟨S65536x1024, .f32⟩
  | .hbm, ⟨15, _⟩ => ⟨S1x1x1024, .f32⟩
  | .hbm, ⟨16, _⟩ => ⟨S1024, .f32⟩
  | .hbm, ⟨17, _⟩ => ⟨S65536x1024, .f32⟩
  | .hbm, ⟨18, _⟩ => ⟨S_, .f32⟩
  | .hbm, ⟨19, _⟩ => ⟨S65536, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S1x1024, .f32⟩
  | .hbm, ⟨31, _⟩ => ⟨S65536x1024, .f32⟩
  | .hbm, ⟨32, _⟩ => ⟨S65536x1024, .f32⟩
  | .hbm, ⟨33, _⟩ => ⟨S1x1x1024x5632, .f32⟩
  | .hbm, ⟨34, _⟩ => ⟨S1024x5632, .f32⟩
  | .hbm, ⟨35, _⟩ => ⟨S1x1x2816x1024, .f32⟩
  | .hbm, ⟨36, _⟩ => ⟨S2816x1024, .f32⟩
  | .hbm, ⟨37, _⟩ => ⟨S65536x5632, .f32⟩
  | .hbm, ⟨38, _⟩ => ⟨S65536x2816, .f32⟩
  | .hbm, ⟨39, _⟩ => ⟨S65536x2816, .f32⟩
  | .hbm, ⟨40, _⟩ => ⟨S65536x2816, .f32⟩
  | .hbm, ⟨41, _⟩ => ⟨S65536x2816, .f32⟩
  | .hbm, ⟨42, _⟩ => ⟨S_, .f32⟩
  | .hbm, ⟨43, _⟩ => ⟨S65536x2816, .f32⟩
  | .hbm, ⟨44, _⟩ => ⟨S65536x2816, .f32⟩
  | .hbm, ⟨45, _⟩ => ⟨S_, .f32⟩
  | .hbm, ⟨46, _⟩ => ⟨S65536x2816, .f32⟩
  | .hbm, ⟨47, _⟩ => ⟨S65536x2816, .f32⟩
  | .hbm, ⟨48, _⟩ => ⟨S65536x2816, .f32⟩
  | .hbm, ⟨49, _⟩ => ⟨S65536x2816, .f32⟩
  | .hbm, ⟨50, _⟩ => ⟨S65536x1024, .f32⟩
  | .hbm, ⟨51, _⟩ => ⟨S_, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S1x1024, .f32⟩
  | .hbm, ⟨56, _⟩ => ⟨S1024, .f32⟩
  | .hbm, ⟨57, _⟩ => ⟨S65536x1024, .f32⟩
  | .hbm, ⟨58, _⟩ => ⟨S_, .f32⟩
  | .hbm, ⟨59, _⟩ => ⟨S65536, .f32⟩
  | .hbm, ⟨60, _⟩ => ⟨S65536x1, .f32⟩
  | .hbm, ⟨61, _⟩ => ⟨S_, .f32⟩
  | .hbm, ⟨62, _⟩ => ⟨S65536x1, .f32⟩
  | .hbm, ⟨63, _⟩ => ⟨S65536x1, .f32⟩
  | .hbm, ⟨64, _⟩ => ⟨S_, .f32⟩
  | .hbm, ⟨65, _⟩ => ⟨S65536x1, .f32⟩
  | .hbm, ⟨66, _⟩ => ⟨S65536x1, .f32⟩
  | .hbm, ⟨67, _⟩ => ⟨S65536x1, .f32⟩
  | .hbm, ⟨68, _⟩ => ⟨S65536x1024, .f32⟩
  | .hbm, ⟨69, _⟩ => ⟨S65536x1024, .f32⟩
  | .hbm, ⟨70, _⟩ => ⟨S1x1024, .f32⟩
  | .hbm, ⟨71, _⟩ => ⟨S65536x1024, .f32⟩
  | .hbm, ⟨72, _⟩ => ⟨S65536x1024, .f32⟩
  | .hbm, ⟨73, _⟩ => ⟨S1x1024x1024, .f32⟩
  | .hbm, ⟨74, _⟩ => ⟨S1024x1024, .f32⟩
  | .hbm, ⟨75, _⟩ => ⟨S65536x1024, .f32⟩
  | .hbm, ⟨76, _⟩ => ⟨S65536x1024, .f32⟩
  | .hbm, ⟨77, _⟩ => ⟨S65536x1024, .f32⟩
  | .hbm, ⟨78, _⟩ => ⟨S_, .f32⟩
  | .hbm, ⟨79, _⟩ => ⟨S65536x1024, .f32⟩
  | .hbm, ⟨80, _⟩ => ⟨S65536x1024, .f32⟩
  | .hbm, ⟨81, _⟩ => ⟨S_, .f32⟩
  | .hbm, ⟨82, _⟩ => ⟨S65536x1024, .f32⟩
  | .hbm, ⟨83, _⟩ => ⟨S65536x1024, .f32⟩
  | .hbm, ⟨84, _⟩ => ⟨S1x65536x256, .f32⟩
  | .hbm, ⟨85, _⟩ => ⟨S65536x256, .f32⟩
  | .hbm, ⟨86, _⟩ => ⟨S1x256x1024, .f32⟩
  | .hbm, ⟨87, _⟩ => ⟨S256x1024, .f32⟩
  | .hbm, ⟨88, _⟩ => ⟨S65536x1024, .f32⟩
  | .hbm, ⟨89, _⟩ => ⟨S65536x1024, .f32⟩
  | .hbm, ⟨90, _⟩ => ⟨S65536x1024, .f32⟩
  | .hbm, ⟨91, _⟩ => ⟨S65536x1024, .f32⟩
  | .hbm, ⟨92, _⟩ => ⟨S_, .f32⟩
  | .hbm, ⟨93, _⟩ => ⟨S65536, .f32⟩
  | .hbm, ⟨94, _⟩ => ⟨S65536x1, .f32⟩
  | .hbm, ⟨95, _⟩ => ⟨S_, .f32⟩
  | .hbm, ⟨96, _⟩ => ⟨S65536x1, .f32⟩
  | .hbm, ⟨97, _⟩ => ⟨S65536x1, .f32⟩
  | .hbm, ⟨98, _⟩ => ⟨S_, .f32⟩
  | .hbm, ⟨99, _⟩ => ⟨S65536x1, .f32⟩
  | .hbm, ⟨100, _⟩ => ⟨S65536x1, .f32⟩
  | .hbm, ⟨101, _⟩ => ⟨S65536x1, .f32⟩
  | .hbm, ⟨102, _⟩ => ⟨S65536x1024, .f32⟩
  | .hbm, ⟨103, _⟩ => ⟨S65536x1024, .f32⟩
  | .hbm, ⟨104, _⟩ => ⟨S1x1024, .f32⟩
  | .hbm, ⟨105, _⟩ => ⟨S65536x1024, .f32⟩
  | .hbm, ⟨106, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_8 : Ref sig .tc := ⟨.hbm, 92, rfl⟩
abbrev main_v64 : Ref sig .tc := ⟨.hbm, 93, rfl⟩
abbrev main_v65 : Ref sig .tc := ⟨.hbm, 94, rfl⟩
abbrev main_cst_9 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]
-- ==== Kernel4.lean ====
abbrev S16384x1024 : Shape := ⟨2, ![16384, 1024]⟩
abbrev S2x16384x256 : Shape := ⟨3, ![2, 16384, 256]⟩
abbrev S2x2x1024 : Shape := ⟨3, ![2, 2, 1024]⟩
abbrev S2x2x1024x5632 : Shape := ⟨4, ![2, 2, 1024, 5632]⟩
abbrev S2x2x2816x1024 : Shape := ⟨4, ![2, 2, 2816, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S1x1024x1024 : Shape := ⟨3, ![1, 1024, 1024]⟩
abbrev S1024 : Shape := ⟨1, ![1024]⟩
abbrev S2x2x11x256x1024 : Shape := ⟨5, ![2, 2, 11, 256, 1024]⟩
abbrev S2x2x1x1024 : Shape := ⟨4, ![2, 2, 1, 1024]⟩
abbrev S2x1x1024 : Shape := ⟨3, ![2, 1, 1024]⟩
abbrev S1x1024 : Shape := ⟨2, ![1, 1024]⟩
abbrev S1024x1024 : Shape := ⟨2, ![1024, 1024]⟩
abbrev S1x1x1x1024 : Shape := ⟨4, ![1, 1, 1, 1024]⟩
abbrev S1x1x1024x5632 : Shape := ⟨4, ![1, 1, 1024, 5632]⟩
abbrev S1x1x11x256x1024 : Shape := ⟨5, ![1, 1, 11, 256, 1024]⟩
abbrev S1x1024x256 : Shape := ⟨3, ![1, 1024, 256]⟩
abbrev S1x1x1024 : Shape := ⟨3, ![1, 1, 1024]⟩
abbrev S1x256x1024 : Shape := ⟨3, ![1, 256, 1024]⟩
abbrev S1024x1 : Shape := ⟨2, ![1024, 1]⟩
abbrev S1x1x1024x256 : Shape := ⟨4, ![1, 1, 1024, 256]⟩
abbrev S1024x256 : Shape := ⟨2, ![1024, 256]⟩
abbrev S1024x512 : Shape := ⟨2, ![1024, 512]⟩
abbrev S1x1x2x256x1024 : Shape := ⟨5, ![1, 1, 2, 256, 1024]⟩
abbrev S512x1024 : Shape := ⟨2, ![512, 1024]⟩
abbrev S1x1x1x256x1024 : Shape := ⟨5, ![1, 1, 1, 256, 1024]⟩
abbrev S256x1024 : Shape := ⟨2, ![256, 1024]⟩

abbrev nBuf : Space → Nat
  | .hbm => 21
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x16384x256, .f32⟩
  | .hbm, ⟨3, _⟩ => ⟨S2x2x1024, .f32⟩
  | .hbm, ⟨4, _⟩ => ⟨S2x2x1024x5632, .f32⟩
  | .hbm, ⟨5, _⟩ => ⟨S2x2x2816x1024, .f32⟩
  | .hbm, ⟨6, _⟩ => ⟨S2x1024, .f32⟩
  | .hbm, ⟨7, _⟩ => ⟨S2x1024x1024, .f32⟩
  | .hbm, ⟨8, _⟩ => ⟨S2x256x1024, .f32⟩
  | .hbm, ⟨9, _⟩ => ⟨S1x1024x1024, .f32⟩
  | .hbm, ⟨10, _⟩ => ⟨S1024, .f32⟩
  | .hbm, ⟨11, _⟩ => ⟨S2x2x1024x5632, .bf16⟩
  | .hbm, ⟨12, _⟩ => ⟨S2x2x11x256x1024, .f32⟩
  | .hbm, ⟨13, _⟩ => ⟨S2x2x11x256x1024, .bf16⟩
  | .hbm, ⟨14, _⟩ => ⟨S2x2x1x1024, .f32⟩
  | .hbm, ⟨15, _⟩ => ⟨S2x1x1024, .f32⟩
  | .hbm, ⟨16, _⟩ => ⟨S2x1024x1024, .bf16⟩
  | .hbm, ⟨17, _⟩ => ⟨S2x256x1024, .bf16⟩
  | .hbm, ⟨18, _⟩ => ⟨S1x1024, .f32⟩
  | .hbm, ⟨19, _⟩ => ⟨S1x1024x1024, .bf16⟩
  | .hbm, ⟨20, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1x1x1024, .f32⟩
  | .local _ .vmem, ⟨6, _⟩ => ⟨S1x1x1024x5632, .bf16⟩
  | .local _ .vmem, ⟨7, _⟩ => ⟨S1x1x11x256x1024, .bf16⟩
  | .local _ .vmem, ⟨8, _⟩ => ⟨S1x1024x256, .f32⟩
  | .local _ .vmem, ⟨9, _⟩ => ⟨S1x1024x256, .f32⟩
  | .local _ .vmem, ⟨10, _⟩ => ⟨S1x1x1024, .f32⟩
  | .local _ .vmem, ⟨11, _⟩ => ⟨S1x1024x1024, .bf16⟩
  | .local _ .vmem, ⟨12, _⟩ => ⟨S1x256x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 5 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  let c0_i32_3 : BitVec 32 := 0#32
  ![c1_i32.toNat, c1_i32_0.toNat, c0_i32.toNat, c0_i32_1.toNat, c0_i32_2.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x11x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16384x1024 : Shape := ⟨2, ![16384, 1024]⟩
abbrev S2x16384x256 : Shape := ⟨3, ![2, 16384, 256]⟩
abbrev S2x2x1024 : Shape := ⟨3, ![2, 2, 1024]⟩
abbrev S2x2x1024x5632 : Shape := ⟨4, ![2, 2, 1024, 5632]⟩
abbrev S2x2x2816x1024 : Shape := ⟨4, ![2, 2, 2816, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S1x1024x1024 : Shape := ⟨3, ![1, 1024, 1024]⟩
abbrev S1024 : Shape := ⟨1, ![1024]⟩
abbrev S1024x1024 : Shape := ⟨2, ![1024, 1024]⟩
abbrev S1x1x1024 : Shape := ⟨3, ![1, 1, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16384x5632 : Shape := ⟨2, ![16384, 5632]⟩
abbrev S16384x2816 : Shape := ⟨2, ![16384, 2816]⟩
abbrev S1x16384x256 : Shape := ⟨3, ![1, 16384, 256]⟩
abbrev S16384x256 : Shape := ⟨2, ![16384, 256]⟩
abbrev S1x256x1024 : Shape := ⟨3, ![1, 256, 1024]⟩
abbrev S256x1024 : Shape := ⟨2, ![256, 1024]⟩

abbrev nBuf : Space → Nat
  | .hbm => 107
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x16384x256, .f32⟩
  | .hbm, ⟨3, _⟩ => ⟨S2x2x1024, .f32⟩
  | .hbm, ⟨4, _⟩ => ⟨S2x2x1024x5632, .f32⟩
  | .hbm, ⟨5, _⟩ => ⟨S2x2x2816x1024, .f32⟩
  | .hbm, ⟨6, _⟩ => ⟨S2x1024, .f32⟩
  | .hbm, ⟨7, _⟩ => ⟨S2x1024x1024, .f32⟩
  | .hbm, ⟨8, _⟩ => ⟨S2x256x1024, .f32⟩
  | .hbm, ⟨9, _⟩ => ⟨S1x1024x1024, .f32⟩
  | .hbm, ⟨10, _⟩ => ⟨S1024, .f32⟩
  | .hbm, ⟨11, _⟩ => ⟨S16384x1024, .f32⟩
  | .hbm, ⟨12, _⟩ => ⟨S1024x1024, .f32⟩
  | .hbm, ⟨13, _⟩ => ⟨S16384x1024, .f32⟩
  | .hbm, ⟨14, _⟩ => ⟨S16384x1024, .f32⟩
  | .hbm, ⟨15, _⟩ => ⟨S1x1x1024, .f32⟩
  | .hbm, ⟨16, _⟩ => ⟨S1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1x1x1024x5632, .f32⟩
  | .hbm, ⟨34, _⟩ => ⟨S1024x5632, .f32⟩
  | .hbm, ⟨35, _⟩ => ⟨S1x1x2816x1024, .f32⟩
  | .hbm, ⟨36, _⟩ => ⟨S2816x1024, .f32⟩
  | .hbm, ⟨37, _⟩ => ⟨S16384x5632, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S_, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S1x1024x1024, .f32⟩
  | .hbm, ⟨74, _⟩ => ⟨S1024x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384x1024, .f32⟩
  | .hbm, ⟨83, _⟩ => ⟨S16384x1024, .f32⟩
  | .hbm, ⟨84, _⟩ => ⟨S1x16384x256, .f32⟩
  | .hbm, ⟨85, _⟩ => ⟨S16384x256, .f32⟩
  | .hbm, ⟨86, _⟩ => ⟨S1x256x1024, .f32⟩
  | .hbm, ⟨87, _⟩ => ⟨S256x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S_, .f32⟩
  | .hbm, ⟨93, _⟩ => ⟨S16384, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S_, .f32⟩
  | .hbm, ⟨99, _⟩ => ⟨S16384x1, .f32⟩
  | .hbm, ⟨100, _⟩ => ⟨S16384x1, .f32⟩
  | .hbm, ⟨101, _⟩ => ⟨S16384x1, .f32⟩
  | .hbm, ⟨102, _⟩ => ⟨S16384x1024, .f32⟩
  | .hbm, ⟨103, _⟩ => ⟨S16384x1024, .f32⟩
  | .hbm, ⟨104, _⟩ => ⟨S1x1024, .f32⟩
  | .hbm, ⟨105, _⟩ => ⟨S16384x1024, .f32⟩
  | .hbm, ⟨106, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_8 : Ref sig .tc := ⟨.hbm, 92, rfl⟩
abbrev main_v64 : Ref sig .tc := ⟨.hbm, 93, rfl⟩
abbrev main_v65 : Ref sig .tc := ⟨.hbm, 94, rfl⟩
abbrev main_cst_9 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]
-- ==== Kernel5.lean ====
abbrev S65536x1024 : Shape := ⟨2, ![65536, 1024]⟩
abbrev S2x1024 : Shape := ⟨2, ![2, 1024]⟩
abbrev S1x1024x3104 : Shape := ⟨3, ![1, 1024, 3104]⟩
abbrev S1x16x512 : Shape := ⟨3, ![1, 16, 512]⟩
abbrev S1x512 : Shape := ⟨2, ![1, 512]⟩
abbrev S2x1x1024 : Shape := ⟨3, ![2, 1, 1024]⟩
abbrev S1x1024x3072 : Shape := ⟨3, ![1, 1024, 3072]⟩
abbrev S1x1024x32 : Shape := ⟨3, ![1, 1024, 32]⟩
abbrev S_ : Shape := ⟨0, ![]⟩
abbrev S1x1024x128 : Shape := ⟨3, ![1, 1024, 128]⟩
abbrev S1x128x1024 : Shape := ⟨3, ![1, 128, 1024]⟩
abbrev S1 : Shape := ⟨1, ![1]⟩
abbrev S2 : Shape := ⟨1, ![2]⟩
abbrev S1x1024 : Shape := ⟨2, ![1, 1024]⟩
abbrev S1x1x1024 : Shape := ⟨3, ![1, 1, 1024]⟩
abbrev S1024x3072 : Shape := ⟨2, ![1024, 3072]⟩
abbrev S1024x128 : Shape := ⟨2, ![1024, 128]⟩
abbrev S128x1024 : Shape := ⟨2, ![128, 1024]⟩
abbrev S65536x512 : Shape := ⟨2, ![65536, 512]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S128x512 : Shape := ⟨2, ![128, 512]⟩

abbrev nBuf : Space → Nat
  | .hbm => 44
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x3104, .f32⟩
  | .hbm, ⟨3, _⟩ => ⟨S1x16x512, .f32⟩
  | .hbm, ⟨4, _⟩ => ⟨S1x512, .f32⟩
  | .hbm, ⟨5, _⟩ => ⟨S1x16x512, .f32⟩
  | .hbm, ⟨6, _⟩ => ⟨S1x512, .f32⟩
  | .hbm, ⟨7, _⟩ => ⟨S2x1x1024, .f32⟩
  | .hbm, ⟨8, _⟩ => ⟨S1x1024x3072, .f32⟩
  | .hbm, ⟨9, _⟩ => ⟨S1x1024x3072, .bf16⟩
  | .hbm, ⟨10, _⟩ => ⟨S1x1024x32, .f32⟩
  | .hbm, ⟨11, _⟩ => ⟨S_, .i32⟩
  | .hbm, ⟨12, _⟩ => ⟨S_, .f32⟩
  | .hbm, ⟨13, _⟩ => ⟨S1x1024x128, .f32⟩
  | .hbm, ⟨14, _⟩ => ⟨S1x1024x128, .bf16⟩
  | .hbm, ⟨15, _⟩ => ⟨S_, .f32⟩
  | .hbm, ⟨16, _⟩ => ⟨S1x128x1024, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128x1024, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1x128x1024, .f32⟩
  | .hbm, ⟨29, _⟩ => ⟨S1x128x1024, .bf16⟩
  | .hbm, ⟨30, _⟩ => ⟨S1x1024, .f32⟩
  | .hbm, ⟨31, _⟩ => ⟨S1x1x1024, .f32⟩
  | .hbm, ⟨32, _⟩ => ⟨S1x1x1024, .f32⟩
  | .hbm, ⟨33, _⟩ => ⟨S1x1024, .f32⟩
  | .hbm, ⟨34, _⟩ => ⟨S1024x3072, .bf16⟩
  | .hbm, ⟨35, _⟩ => ⟨S1024x128, .bf16⟩
  | .hbm, ⟨36, _⟩ => ⟨S128x1024, .bf16⟩
  | .hbm, ⟨37, _⟩ => ⟨S1x1024, .f32⟩
  | .hbm, ⟨38, _⟩ => ⟨S65536x512, .f32⟩
  | .hbm, ⟨39, _⟩ => ⟨S65536x512, .f32⟩
  | .hbm, ⟨40, _⟩ => ⟨S65536x1024, .bf16⟩
  | .hbm, ⟨41, _⟩ => ⟨S65536x1024, .f32⟩
  | .hbm, ⟨42, _⟩ => ⟨S65536x512, .f32⟩
  | .hbm, ⟨43, _⟩ => ⟨S65536x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S128x1024, .bf16⟩
  | .local _ .vmem, ⟨6, _⟩ => ⟨S1x1024, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v24_3 : Ref sig .tc := ⟨.hbm, 41, rfl⟩
abbrev main_v24_4 : Ref sig .tc := ⟨.hbm, 42, rfl⟩
abbrev main_v24_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S65536x1024 : Shape := ⟨2, ![65536, 1024]⟩
abbrev S2x1024 : Shape := ⟨2, ![2, 1024]⟩
abbrev S1x1024x3104 : Shape := ⟨3, ![1, 1024, 3104]⟩
abbrev S1x16x512 : Shape := ⟨3, ![1, 16, 512]⟩
abbrev S1x512 : Shape := ⟨2, ![1, 512]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x3104 : Shape := ⟨2, ![1024, 3104]⟩
abbrev S65536x3104 : Shape := ⟨2, ![65536, 3104]⟩
abbrev S65536x512 : Shape := ⟨2, ![65536, 512]⟩
abbrev S65536x16 : Shape := ⟨2, ![65536, 16]⟩
abbrev S16x512 : Shape := ⟨2, ![16, 512]⟩
abbrev S512 : Shape := ⟨1, ![512]⟩

abbrev nBuf : Space → Nat
  | .hbm => 87
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x1024, .f32⟩
  | .hbm, ⟨2, _⟩ => ⟨S1x1024x3104, .f32⟩
  | .hbm, ⟨3, _⟩ => ⟨S1x16x512, .f32⟩
  | .hbm, ⟨4, _⟩ => ⟨S1x512, .f32⟩
  | .hbm, ⟨5, _⟩ => ⟨S1x16x512, .f32⟩
  | .hbm, ⟨6, _⟩ => ⟨S1x512, .f32⟩
  | .hbm, ⟨7, _⟩ => ⟨S1x1024, .f32⟩
  | .hbm, ⟨8, _⟩ => ⟨S1024, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S1024x3104, .f32⟩
  | .hbm, ⟨26, _⟩ => ⟨S65536x3104, .f32⟩
  | .hbm, ⟨27, _⟩ => ⟨S65536x512, .f32⟩
  | .hbm, ⟨28, _⟩ => ⟨S65536x512, .f32⟩
  | .hbm, ⟨29, _⟩ => ⟨S65536x1024, .f32⟩
  | .hbm, ⟨30, _⟩ => ⟨S65536x1024, .f32⟩
  | .hbm, ⟨31, _⟩ => ⟨S65536x16, .f32⟩
  | .hbm, ⟨32, _⟩ => ⟨S65536x16, .f32⟩
  | .hbm, ⟨33, _⟩ => ⟨S16x512, .f32⟩
  | .hbm, ⟨34, _⟩ => ⟨S65536x512, .f32⟩
  | .hbm, ⟨35, _⟩ => ⟨S512, .f32⟩
  | .hbm, ⟨36, _⟩ => ⟨S1x512, .f32⟩
  | .hbm, ⟨37, _⟩ => ⟨S65536x512, .f32⟩
  | .hbm, ⟨38, _⟩ => ⟨S65536x512, .f32⟩
  | .hbm, ⟨39, _⟩ => ⟨S65536x512, .f32⟩
  | .hbm, ⟨40, _⟩ => ⟨S_, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S65536x512, .f32⟩
  | .hbm, ⟨45, _⟩ => ⟨S65536x512, .i1⟩
  | .hbm, ⟨46, _⟩ => ⟨S65536x512, .f32⟩
  | .hbm, ⟨47, _⟩ => ⟨S65536x512, .f32⟩
  | .hbm, ⟨48, _⟩ => ⟨S65536x512, .f32⟩
  | .hbm, ⟨49, _⟩ => ⟨S65536x512, .f32⟩
  | .hbm, ⟨50, _⟩ => ⟨S65536x512, .f32⟩
  | .hbm, ⟨51, _⟩ => ⟨S65536x512, .f32⟩
  | .hbm, ⟨52, _⟩ => ⟨S65536x512, .f32⟩
  | .hbm, ⟨53, _⟩ => ⟨S65536x512, .f32⟩
  | .hbm, ⟨54, _⟩ => ⟨S65536x512, .f32⟩
  | .hbm, ⟨55, _⟩ => ⟨S_, .f32⟩
  | .hbm, ⟨56, _⟩ => ⟨S65536x512, .f32⟩
  | .hbm, ⟨57, _⟩ => ⟨S65536x512, .f32⟩
  | .hbm, ⟨58, _⟩ => ⟨S16x512, .f32⟩
  | .hbm, ⟨59, _⟩ => ⟨S65536x512, .f32⟩
  | .hbm, ⟨60, _⟩ => ⟨S512, .f32⟩
  | .hbm, ⟨61, _⟩ => ⟨S1x512, .f32⟩
  | .hbm, ⟨62, _⟩ => ⟨S65536x512, .f32⟩
  | .hbm, ⟨63, _⟩ => ⟨S65536x512, .f32⟩
  | .hbm, ⟨64, _⟩ => ⟨S65536x512, .f32⟩
  | .hbm, ⟨65, _⟩ => ⟨S_, .f32⟩
  | .hbm, ⟨66, _⟩ => ⟨S65536x512, .f32⟩
  | .hbm, ⟨67, _⟩ => ⟨S65536x512, .f32⟩
  | .hbm, ⟨68, _⟩ => ⟨S65536x512, .f32⟩
  | .hbm, ⟨69, _⟩ => ⟨S65536x512, .f32⟩
  | .hbm, ⟨70, _⟩ => ⟨S65536x512, .i1⟩
  | .hbm, ⟨71, _⟩ => ⟨S65536x512, .f32⟩
  | .hbm, ⟨72, _⟩ => ⟨S65536x512, .f32⟩
  | .hbm, ⟨73, _⟩ => ⟨S65536x512, .f32⟩
  | .hbm, ⟨74, _⟩ => ⟨S65536x512, .f32⟩
  | .hbm, ⟨75, _⟩ => ⟨S65536x512, .f32⟩
  | .hbm, ⟨76, _⟩ => ⟨S65536x512, .f32⟩
  | .hbm, ⟨77, _⟩ => ⟨S65536x512, .f32⟩
  | .hbm, ⟨78, _⟩ => ⟨S65536x512, .f32⟩
  | .hbm, ⟨79, _⟩ => ⟨S65536x512, .f32⟩
  | .hbm, ⟨80, _⟩ => ⟨S_, .f32⟩
  | .hbm, ⟨81, _⟩ => ⟨S65536x512, .f32⟩
  | .hbm, ⟨82, _⟩ => ⟨S65536x512, .f32⟩
  | .hbm, ⟨83, _⟩ => ⟨S_, .f32⟩
  | .hbm, ⟨84, _⟩ => ⟨S65536x512, .f32⟩
  | .hbm, ⟨85, _⟩ => ⟨S65536x512, .f32⟩
  | .hbm, ⟨86, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v29 : Ref sig .tc := ⟨.hbm, 54, rfl⟩
abbrev main_cst_2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call1_v0 : Ref sig .tc := ⟨.hbm, 64, rfl⟩
abbrev main_call1_call0_cst : Ref sig .tc := ⟨.hbm, 65, rfl⟩
abbrev main_call1_call0_v0 : Ref sig .tc := ⟨.hbm, 66, rfl⟩
abbrev main_call1_call0_v1 : Ref sig .tc := ⟨.hbm, 67, rfl⟩
abbrev main_call1_call0_v2 : Ref sig .tc := ⟨.hbm, 68, rfl⟩
abbrev main_call1_call0_v3 : Ref sig .tc := ⟨.hbm, 69, rfl⟩
abbrev main_call1_call0_v4 : Ref sig .tc := ⟨.hbm, 70, rfl⟩
abbrev main_call1_call0_v5 : Ref sig .tc := ⟨.hbm, 71, rfl⟩
abbrev main_call1_call0_v6 : Ref sig .tc := ⟨.hbm, 72, rfl⟩
abbrev main_call1_call0_v7 : Ref sig .tc := ⟨.hbm, 73, rfl⟩
abbrev main_call1_call0_v8 : Ref sig .tc := ⟨.hbm, 74, rfl⟩
abbrev main_call1_call0_v9 : Ref sig .tc := ⟨.hbm, 75, rfl⟩
abbrev main_call1_call0_v10 : Ref sig .tc := ⟨.hbm, 76, rfl⟩
abbrev main_call1_call0_v11 : Ref sig .tc := ⟨.hbm, 77, rfl⟩
abbrev main_call1_v1 : Ref sig .tc := ⟨.hbm, 78, rfl⟩
abbrev main_v38 : Ref sig .tc := ⟨.hbm, 79, rfl⟩
abbrev main_cst_3 : Ref sig .tc := ⟨.hbm, 80, rfl⟩
abbrev main_v39 : Ref sig .tc := ⟨.hbm, 81, rfl⟩
abbrev main_v40 : Ref sig .tc := ⟨.hbm, 82, rfl⟩
abbrev main_cst_4 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩

abbrev nD : Nat := 1
abbrev τ : Topo := Topo.v7x

variable {F : FTy → Type} [FloatOps F]
-- ==== Proof.Attn.KernelIdeal.Points.lean ====
/- The grid of the attention kernel read point by point: which of the body's four branches runs at a point
   (score only, score and finish by parity, finish only), where the output window is idle and where it is
   written back, and the buffers the body is handed. -/
module

public import proofs.«01_k».proof.Proof.Gen.KernelIdeal.Frame
public import proofs.«01_k».proof.Proof.Gen.KernelIdeal.Skeleton

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The four branches -/

/-- The first branch's condition, from the grid coordinate. -/
abbrev condA (i : grid0.Coords) : Prop :=
  (Scalar.cmpi .ne (Scalar.extui (Scalar.cmpi .eq (BitVec.ofNat 32 (i 0).val) 0#32)) 0#32) = 1#1
/-- The even middle points' condition. -/
abbrev condC (i : grid0.Coords) : Prop := k0_cond2 i = 1#1
/-- The odd middle points' condition. -/
abbrev condB (i : grid0.Coords) : Prop := k0_cond3 i = 1#1
/-- The last point's condition. -/
abbrev condD (i : grid0.Coords) : Prop := k0_cond4 i = 1#1

/-- Point 0 only scores. -/
theorem condA_iff : ∀ t : Fin cfg0.N, condA (grid0.coords t) ↔ t.val = 0 :=
  (by decide +kernel : ∀ t : Fin grid0.N, condA (grid0.coords t) ↔ t.val = 0)
/-- At the even points strictly between the ends slot 0 is scored and slot 1 finished. -/
theorem condC_iff : ∀ t : Fin cfg0.N, condC (grid0.coords t) ↔ (t.val ≠ 0 ∧ t.val ≠ 512 ∧ t.val % 2 = 0) :=
  (by decide +kernel : ∀ t : Fin grid0.N, condC (grid0.coords t) ↔ (t.val ≠ 0 ∧ t.val ≠ 512 ∧ t.val % 2 = 0))
/-- At the odd points slot 1 is scored and slot 0 finished. -/
theorem condB_iff : ∀ t : Fin cfg0.N, condB (grid0.coords t) ↔ t.val % 2 = 1 :=
  (by decide +kernel : ∀ t : Fin grid0.N, condB (grid0.coords t) ↔ t.val % 2 = 1)
/-- Point 512 only finishes. -/
theorem condD_iff : ∀ t : Fin cfg0.N, condD (grid0.coords t) ↔ t.val = 512 :=
  (by decide +kernel : ∀ t : Fin grid0.N, condD (grid0.coords t) ↔ t.val = 512)

/-! ## The output window -/

/-- The output window is idle at point 0 only. -/
theorem idle_out : ∀ t : Fin cfg0.N, cfg0.idle 3 (grid0.coords t) = decide (t.val = 0) :=
  (by decide +kernel : ∀ t : Fin grid0.N, cfg0.idle 3 (grid0.coords t) = decide (t.val = 0))
/-- The output block is written back at every point but point 0. -/
theorem flush_out : ∀ t : Fin cfg0.N, (cfg0.win 3).flush t = decide (t.val ≠ 0) :=
  (by decide +kernel : ∀ t : Fin grid0.N, (cfg0.win 3).flush t = decide (t.val ≠ 0))

theorem idle_in (w : Fin 4) (hw : w ≠ 3) (t : Fin cfg0.N) : cfg0.idle w (grid0.coords t) = false := by
  fin_cases w <;> first | rfl | exact absurd rfl hw

/-! ## The buffers of a point -/

/-- The current staging buffer of each window, and the four scratch buffers. -/
abbrev msQ (t : Fin cfg0.N) : Memref sig .tc .vmem S1x256x1024 .bf16 := win0_0.stage (cfg0.slots t 0)
abbrev msK (t : Fin cfg0.N) : Memref sig .tc .vmem S1x4096x256 .bf16 := win0_1.stage (cfg0.slots t 1)
abbrev msV (t : Fin cfg0.N) : Memref sig .tc .vmem S1x128x4096 .bf16 := win0_2.stage (cfg0.slots t 2)
abbrev msO (t : Fin cfg0.N) : Memref sig .tc .vmem S1x1024x128 .bf16 := win0_3.stage (cfg0.slots t 3)
abbrev scS0 : Memref sig .tc .vmem S4096x1024 .f32 := Memref.whole cc0_scratch0
abbrev scS1 : Memref sig .tc .vmem S4096x1024 .f32 := Memref.whole cc0_scratch1
abbrev scM0 : Memref sig .tc .vmem S1x1024 .f32 := Memref.whole cc0_scratch2
abbrev scM1 : Memref sig .tc .vmem S1x1024 .f32 := Memref.whole cc0_scratch3

/-- The invariant the pipeline starts and ends with: the four scratch buffers at some contents, and the
    generator register. -/
theorem scratch_eq (c : Dev nD) :
    (Pipeline.ΦA spec0 c : sProp 𝕄)
      = iprop(iprop((∃ d, owns (c : Thread nD τ) scS0 fullShare d) ∗ (∃ d, owns (c : Thread nD τ) scS1 fullShare d)
          ∗ (∃ d, owns (c : Thread nD τ) scM0 fullShare d) ∗ (∃ d, owns (c : Thread nD τ) scM1 fullShare d))
          ∗ (∃ r, prngReg c r)) := by
  unfold Pipeline.ΦA; rw [scopedRest0_eq]; simp only [scS0, scS1, scM0, scM1, owns_whole]; try rfl

end Cert.KernelIdeal.Attn
-- ==== Proof.Attn.KernelIdeal.RunA.lean ====
/- The first point of the grid: the scores of the first tile go to slot 0, nothing is finished. -/
module

public import proofs.«01_k».proof.Proof.Attn.KernelIdeal.Points

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body run at such a point: the stores it makes into each buffer, last first, found by running it, with the
    proof that the buffers it reads come back as they were. -/
def runA (c : Dev nD) (i : grid0.Coords) (arg1 : Memref sig .tc .vmem S1x256x1024 .bf16) (harg1 : arg1.IsWhole) (arg2 : Memref sig .tc .vmem S1x4096x256 .bf16) (harg2 : arg2.IsWhole) (arg3 : Memref sig .tc .vmem S1x128x4096 .bf16) (harg3 : arg3.IsWhole) (arg4 : Memref sig .tc .vmem S1x1024x128 .bf16) (harg4 : arg4.IsWhole) (arg5 : Memref sig .tc .vmem S4096x1024 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (hc0 : condA i) (hc1 : ¬condC i) (hc2 : ¬condB i) (hc3 : ¬condD i)
    (x0 : Vec F S1x256x1024 .bf16) (x1 : Vec F S1x4096x256 .bf16) (x2 : Vec F S1x128x4096 .bf16) :
    Σ' (LS0 : List (View.Piece (Elt F) S4096x1024 .f32)), { LS2 : List (View.Piece (Elt F) S1x1024 .f32) //
      ∀ (x3 : Vec F S1x1024x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LS0) ∗ (∃ d, owns (c : Thread nD τ) arg6 fullShare d) ∗ (∃ f, arg7.view.loc (c : Thread nD τ) ↦[arg7.view.set]{fullShare} arg7.view.writes (Elt F) f LS2) ∗ (∃ d, owns (c : Thread nD τ) arg8 fullShare d)) -∗ K ⟨⟩))
          ⊢ wp frame (wpE (defs₀ (F := F)) Variants.none c none) E (cc0_mla_attn i arg1 harg1 arg2 harg2 arg3 harg3 arg4 harg4 arg5 harg5 arg6 harg6 arg7 harg7 arg8 harg8) K } := by
  refine ⟨?_, ?_, fun x3 E K => ?run⟩
  case run =>
    simp only [cc0_mla_attn_eq_skeleton]; unfold cc0_mla_attn_skel
    simp only [k0_part37_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]
    · iexists _, _; isplitr; swap; · iexact HS1
      ipureintro; rfl
    isplitl [HS2]; · iexists _; iexact HS2
    iexists _, _; isplitr; swap; · iexact HS3
    ipureintro; rfl

end Cert.KernelIdeal.Attn
-- ==== Proof.Attn.KernelIdeal.RunB.lean ====
/- An odd point: the scores of its tile go to slot 1 while the tile before it is finished out of slot 0. -/
module

public import proofs.«01_k».proof.Proof.Attn.KernelIdeal.RunA

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body run at such a point: the stores it makes into each buffer, last first, found by running it, with the
    proof that the buffers it reads come back as they were. -/
def runB (c : Dev nD) (i : grid0.Coords) (arg1 : Memref sig .tc .vmem S1x256x1024 .bf16) (harg1 : arg1.IsWhole) (arg2 : Memref sig .tc .vmem S1x4096x256 .bf16) (harg2 : arg2.IsWhole) (arg3 : Memref sig .tc .vmem S1x128x4096 .bf16) (harg3 : arg3.IsWhole) (arg4 : Memref sig .tc .vmem S1x1024x128 .bf16) (harg4 : arg4.IsWhole) (arg5 : Memref sig .tc .vmem S4096x1024 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (hc0 : ¬condA i) (hc1 : ¬condC i) (hc2 : condB i) (hc3 : ¬condD i)
    (x0 : Vec F S1x256x1024 .bf16) (x1 : Vec F S1x4096x256 .bf16) (x2 : Vec F S1x128x4096 .bf16) (xs0 : Vec F S4096x1024 .f32) (xs2 : Vec F S1x1024 .f32) :
    Σ' (L3 : List (View.Piece (Elt F) S1x1024x128 .bf16)), Σ' (LS1 : List (View.Piece (Elt F) S4096x1024 .f32)), { LS3 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ (∃ d, owns (c : Thread nD τ) arg6 fullShare d) ∗ owns (c : Thread nD τ) arg7 fullShare xs2 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xs0 ∗ (∃ f, arg6.view.loc (c : Thread nD τ) ↦[arg6.view.set]{fullShare} arg6.view.writes (Elt F) f LS1) ∗ owns (c : Thread nD τ) arg7 fullShare xs2 ∗ (∃ f, arg8.view.loc (c : Thread nD τ) ↦[arg8.view.set]{fullShare} arg8.view.writes (Elt F) f LS3)) -∗ K ⟨⟩))
          ⊢ wp frame (wpE (defs₀ (F := F)) Variants.none c none) E (cc0_mla_attn i arg1 harg1 arg2 harg2 arg3 harg3 arg4 harg4 arg5 harg5 arg6 harg6 arg7 harg7 arg8 harg8) K } := by
  refine ⟨?_, ?_, ?_, fun E K => ?run⟩
  case run =>
    simp only [cc0_mla_attn_eq_skeleton]; unfold cc0_mla_attn_skel
    simp only [k0_part37_eq_skeleton, k0_part30_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%ds1, %fs1, -, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg5.eq_unread hfs0; obtain rfl := harg7.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]
    · iexists _; isplitr; · ipureintro; exact harg5.read_unread _
      iexact HS0
    isplitl [HS1]; · iexists _; iexact HS1
    isplitl [HS2]
    · iexists _; isplitr; · ipureintro; exact harg7.read_unread _
      iexact HS2
    iexists _; iexact HS3

end Cert.KernelIdeal.Attn
-- ==== Proof.Attn.KernelIdeal.RunC.lean ====
/- An even point between the ends: the scores of its tile go to slot 0 while the tile before it is finished out of slot 1. -/
module

public import proofs.«01_k».proof.Proof.Attn.KernelIdeal.RunB

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body run at such a point: the stores it makes into each buffer, last first, found by running it, with the
    proof that the buffers it reads come back as they were. -/
def runC (c : Dev nD) (i : grid0.Coords) (arg1 : Memref sig .tc .vmem S1x256x1024 .bf16) (harg1 : arg1.IsWhole) (arg2 : Memref sig .tc .vmem S1x4096x256 .bf16) (harg2 : arg2.IsWhole) (arg3 : Memref sig .tc .vmem S1x128x4096 .bf16) (harg3 : arg3.IsWhole) (arg4 : Memref sig .tc .vmem S1x1024x128 .bf16) (harg4 : arg4.IsWhole) (arg5 : Memref sig .tc .vmem S4096x1024 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (hc0 : ¬condA i) (hc1 : condC i) (hc2 : ¬condB i) (hc3 : ¬condD i)
    (x0 : Vec F S1x256x1024 .bf16) (x1 : Vec F S1x4096x256 .bf16) (x2 : Vec F S1x128x4096 .bf16) (xs1 : Vec F S4096x1024 .f32) (xs3 : Vec F S1x1024 .f32) :
    Σ' (L3 : List (View.Piece (Elt F) S1x1024x128 .bf16)), Σ' (LS0 : List (View.Piece (Elt F) S4096x1024 .f32)), { LS2 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs1 ∗ (∃ d, owns (c : Thread nD τ) arg7 fullShare d) ∗ owns (c : Thread nD τ) arg8 fullShare xs3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ owns (c : Thread nD τ) arg6 fullShare xs1 ∗ (∃ f, arg7.view.loc (c : Thread nD τ) ↦[arg7.view.set]{fullShare} arg7.view.writes (Elt F) f LS2) ∗ owns (c : Thread nD τ) arg8 fullShare xs3) -∗ K ⟨⟩))
          ⊢ wp frame (wpE (defs₀ (F := F)) Variants.none c none) E (cc0_mla_attn i arg1 harg1 arg2 harg2 arg3 harg3 arg4 harg4 arg5 harg5 arg6 harg6 arg7 harg7 arg8 harg8) K } := by
  refine ⟨?_, ?_, ?_, fun E K => ?run⟩
  case run =>
    simp only [cc0_mla_attn_eq_skeleton]; unfold cc0_mla_attn_skel
    simp only [k0_part37_eq_skeleton, k0_part18_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%fs1, %hfs1, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg6.eq_unread hfs1; obtain rfl := harg8.eq_unread hfs3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    isplitl [HS1]
    · iexists _; isplitr; · ipureintro; exact harg6.read_unread _
      iexact HS1
    isplitl [HS2]; · iexists _; iexact HS2
    iexists _; isplitr; · ipureintro; exact harg8.read_unread _
    iexact HS3

end Cert.KernelIdeal.Attn
-- ==== Proof.Attn.KernelIdeal.RunD.lean ====
/- The last point: the last tile is finished out of slot 1, nothing is scored. -/
module

public import proofs.«01_k».proof.Proof.Attn.KernelIdeal.RunC

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body run at such a point: the stores it makes into each buffer, last first, found by running it, with the
    proof that the buffers it reads come back as they were. -/
def runD (c : Dev nD) (i : grid0.Coords) (arg1 : Memref sig .tc .vmem S1x256x1024 .bf16) (harg1 : arg1.IsWhole) (arg2 : Memref sig .tc .vmem S1x4096x256 .bf16) (harg2 : arg2.IsWhole) (arg3 : Memref sig .tc .vmem S1x128x4096 .bf16) (harg3 : arg3.IsWhole) (arg4 : Memref sig .tc .vmem S1x1024x128 .bf16) (harg4 : arg4.IsWhole) (arg5 : Memref sig .tc .vmem S4096x1024 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (hc0 : ¬condA i) (hc1 : ¬condC i) (hc2 : ¬condB i) (hc3 : condD i)
    (x0 : Vec F S1x256x1024 .bf16) (x1 : Vec F S1x4096x256 .bf16) (x2 : Vec F S1x128x4096 .bf16) (xs0 : Vec F S4096x1024 .f32) (xs1 : Vec F S4096x1024 .f32) (xs2 : Vec F S1x1024 .f32) (xs3 : Vec F S1x1024 .f32) :
    { L3 : List (View.Piece (Elt F) S1x1024x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xs0 ∗ owns (c : Thread nD τ) arg6 fullShare xs1 ∗ owns (c : Thread nD τ) arg7 fullShare xs2 ∗ owns (c : Thread nD τ) arg8 fullShare xs3) -∗ K ⟨⟩))
          ⊢ wp frame (wpE (defs₀ (F := F)) Variants.none c none) E (cc0_mla_attn i arg1 harg1 arg2 harg2 arg3 harg3 arg4 harg4 arg5 harg5 arg6 harg6 arg7 harg7 arg8 harg8) K } := by
  refine ⟨?_, fun E K => ?run⟩
  case run =>
    simp only [cc0_mla_attn_eq_skeleton]; unfold cc0_mla_attn_skel
    simp only [k0_part37_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg5.eq_unread hfs0; obtain rfl := harg6.eq_unread hfs1; obtain rfl := harg7.eq_unread hfs2; obtain rfl := harg8.eq_unread hfs3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]
    · iexists _; isplitr; · ipureintro; exact harg5.read_unread _
      iexact HS0
    isplitl [HS1]
    · iexists _; isplitr; · ipureintro; exact harg6.read_unread _
      iexact HS1
    isplitl [HS2]
    · iexists _; isplitr; · ipureintro; exact harg7.read_unread _
      iexact HS2
    iexists _; isplitr; · ipureintro; exact harg8.read_unread _
    iexact HS3

end Cert.KernelIdeal.Attn
-- ==== Proof.Attn.KernelIdeal.Spec.lean ====
/- What one tile of the attention computes, as functions of its blocks: the scores of a query tile against all keys,
   sixteen chunks of 256 keys; the running maximum over the chunks; the weights, their sum and the weighted values,
   summed chunk by chunk; and the tile of the result. -/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The scores -/

/-- Chunk `j` of the keys lies within the block. -/
theorem inbK (j : ℕ) (h : j < 16) : ∀ a, ![0, 256 * j, 0] a + ![1, 256, 256] a ≤ S1x4096x256.size a := by
  intro a; fin_cases a <;> simp [S1x4096x256] <;> omega
/-- Chunk `j` of the scores lies within its buffer. -/
theorem inbS (j : ℕ) (h : j < 16) : ∀ a, ![256 * j, 0] a + ![256, 1024] a ≤ S4096x1024.size a := by
  intro a; fin_cases a <;> simp [S4096x1024] <;> omega
/-- Chunk `j` of the values lies within the block. -/
theorem inbV (j : ℕ) (h : j < 16) : ∀ a, ![0, 0, 256 * j] a + ![1, 128, 256] a ≤ S1x128x4096.size a := by
  intro a; fin_cases a <;> simp [S1x128x4096] <;> omega

/-- The scores of 256 keys against the tile's queries. -/
noncomputable def scoreChunk (k : Vec F S1x4096x256 .bf16) (q : Vec F S1x256x1024 .bf16) (j : ℕ) (h : j < 16) : FVec F S256x1024 .f32 :=
  matmul dot_S256x256_S256x1024_S256x1024_1_0_0_1_n_n none
    (shapeCast S256x256 (View.ld k (Rect.unit ![0, 256 * j, 0] ![1, 256, 256] (inbK j h)) : Vec F S1x256x256 .bf16) shapeCasts_S1x256x256_S256x256)
    (shapeCast S256x1024 q shapeCasts_S1x256x1024_S256x1024) (constant S256x1024 .f32 0x00000000#32)

/-- All the scores of a tile: row `y` is row `y % 256` of chunk `y / 256`. -/
noncomputable def scoresOf (k : Vec F S1x4096x256 .bf16) (q : Vec F S1x256x1024 .bf16) : Vec F S4096x1024 .f32 := fun y =>
  scoreChunk k q ((y 0).val / 256) (by have := (y 0).isLt; simp [S4096x1024] at this; omega)
    (Fin.cons ⟨(y 0).val % 256, Nat.mod_lt _ (by decide)⟩ (Fin.cons (y 1) finZeroElim))

/-- A chunk's largest score of each query. -/
noncomputable def chunkMax (k : Vec F S1x4096x256 .bf16) (q : Vec F S1x256x1024 .bf16) (j : ℕ) (h : j < 16) : FVec F S1x1024 .f32 :=
  shapeCast S1x1024 (multiReduction .maximumf [0] S1024 (scoreChunk k q j h) 0xFF800000#32 reduces_S256x1024_S1024 (.inl rfl) rfl) shapeCasts_S1024_S1x1024

/-- The largest score of each query over chunks `0 … n`. -/
noncomputable def maxUpTo (k : Vec F S1x4096x256 .bf16) (q : Vec F S1x256x1024 .bf16) : (n : ℕ) → n < 16 → FVec F S1x1024 .f32
  | 0, h => chunkMax k q 0 h
  | n + 1, h => maximumf (maxUpTo k q n (by omega)) (chunkMax k q (n + 1) h)

/-- The largest score of each query. -/
noncomputable def maxOf (k : Vec F S1x4096x256 .bf16) (q : Vec F S1x256x1024 .bf16) : Vec F S1x1024 .f32 := maxUpTo k q 15 (by decide)

/-! ## The finish -/

/-- The unnormalised weights of 256 keys. -/
noncomputable def wChunk (s : Vec F S4096x1024 .f32) (m : Vec F S1x1024 .f32) (j : ℕ) (h : j < 16) : FVec F S256x1024 .f32 :=
  exp2 (subf (View.ld s (Rect.unit ![256 * j, 0] ![256, 1024] (inbS j h)) : Vec F S256x1024 .f32) (broadcastTo S256x1024 m broadcasts_S1x1024_S256x1024))

/-- Their sum for each query. -/
noncomputable def lChunk (s : Vec F S4096x1024 .f32) (m : Vec F S1x1024 .f32) (j : ℕ) (h : j < 16) : FVec F S1x1024 .f32 :=
  shapeCast S1x1024 (multiReduction .add [0] S1024 (wChunk s m j h) 0x00000000#32 reduces_S256x1024_S1024 (.inl rfl) rfl) shapeCasts_S1024_S1x1024

/-- The values they weigh. -/
noncomputable def accChunk (s : Vec F S4096x1024 .f32) (m : Vec F S1x1024 .f32) (v : Vec F S1x128x4096 .bf16) (j : ℕ) (h : j < 16) : FVec F S128x1024 .f32 :=
  matmul dot_S128x256_S256x1024_S128x1024_1_0_0_1_n_n none
    (shapeCast S128x256 (View.ld v (Rect.unit ![0, 0, 256 * j] ![1, 128, 256] (inbV j h)) : Vec F S1x128x256 .bf16) shapeCasts_S1x128x256_S128x256)
    (truncf .bf16 (wChunk s m j h) bitsLt_bf16_f32) (constant S128x1024 .f32 0x00000000#32)

/-- The sum of the weights over chunks `0 … n`. -/
noncomputable def lUpTo (s : Vec F S4096x1024 .f32) (m : Vec F S1x1024 .f32) : (n : ℕ) → n < 16 → FVec F S1x1024 .f32
  | 0, h => lChunk s m 0 h
  | n + 1, h => addf (lUpTo s m n (by omega)) (lChunk s m (n + 1) h)

/-- The weighted values over chunks `0 … n`. -/
noncomputable def accUpTo (s : Vec F S4096x1024 .f32) (m : Vec F S1x1024 .f32) (v : Vec F S1x128x4096 .bf16) : (n : ℕ) → n < 16 → FVec F S128x1024 .f32
  | 0, h => accChunk s m v 0 h
  | n + 1, h => addf (accUpTo s m v n (by omega)) (accChunk s m v (n + 1) h)

/-- The tile of the result: the weighted values over the sum of the weights, queries first. -/
noncomputable def outOf (s : Vec F S4096x1024 .f32) (m : Vec F S1x1024 .f32) (v : Vec F S1x128x4096 .bf16) : Vec F S1x1024x128 .bf16 :=
  shapeCast S1x1024x128 (truncf .bf16 (transpose S1024x128 [1, 0]
    (divf (accUpTo s m v 15 (by decide)) (broadcastTo S128x1024 (lUpTo s m 15 (by decide)) broadcasts_S1x1024_S128x1024))
    transposes_S128x1024_p1_0_S1024x128) bitsLt_bf16_f32) shapeCasts_S1024x128_S1x1024x128

end Cert.KernelIdeal.Attn
-- ==== Proof.Attn.KernelIdeal.Pieces.lean ====
/- The stores of a point, as the tile's functions: what the body of each branch leaves in the score buffer, in the
   maximum buffer and in the output block. -/
module

public import proofs.«01_k».proof.Proof.Attn.KernelIdeal.RunD
public import proofs.«01_k».proof.Proof.Attn.KernelIdeal.Spec

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable {κ : Kind} {sp : Space}

theorem inbQ0 : ∀ a, ![0, 0, 0] a + ![1, 256, 1024] a ≤ S1x256x1024.size a := by decide
theorem inbM0 : ∀ a, ![0, 0] a + ![1, 1024] a ≤ S1x1024.size a := by decide
theorem inbO0 : ∀ a, ![0, 0, 0] a + ![1, 1024, 128] a ≤ S1x1024x128.size a := by decide

/-- The sixteen stores of a tile's scores, last first. -/
noncomputable def scorePieces (k : Vec F S1x4096x256 .bf16) (q : Vec F S1x256x1024 .bf16) : List (View.Piece (Elt F) S4096x1024 .f32) :=
  List.ofFn fun j : Fin 16 => ⟨Rect.unit ![256 * (15 - j.val), 0] ![256, 1024] (inbS (15 - j.val) (by omega)), scoreChunk k q (15 - j.val) (by omega)⟩
/-- The store of a tile's maxima. -/
noncomputable def maxPieces (k : Vec F S1x4096x256 .bf16) (q : Vec F S1x256x1024 .bf16) : List (View.Piece (Elt F) S1x1024 .f32) :=
  [⟨Rect.unit ![0, 0] ![1, 1024] inbM0, maxOf k q⟩]
/-- The store of a tile of the result. -/
noncomputable def outPieces (s : Vec F S4096x1024 .f32) (m : Vec F S1x1024 .f32) (v : Vec F S1x128x4096 .bf16) : List (View.Piece (Elt F) S1x1024x128 .bf16) :=
  [⟨Rect.unit ![0, 0, 0] ![1, 1024, 128] inbO0, outOf s m v⟩]

/-- The same stores, each through the cast of a vector to its own shape. -/
noncomputable def scoreRaw (k : Vec F S1x4096x256 .bf16) (q : Vec F S1x256x1024 .bf16) : List (View.Piece (Elt F) S4096x1024 .f32) :=
  List.ofFn fun j : Fin 16 => ⟨Rect.unit ![256 * (15 - j.val), 0] ![256, 1024] (inbS (15 - j.val) (by omega)),
    shapeCast S256x1024 (scoreChunk k q (15 - j.val) (by omega)) shapeCasts_S256x1024_S256x1024⟩
noncomputable def maxRaw (k : Vec F S1x4096x256 .bf16) (q : Vec F S1x256x1024 .bf16) : List (View.Piece (Elt F) S1x1024 .f32) :=
  [⟨Rect.unit ![0, 0] ![1, 1024] inbM0, shapeCast S1x1024 (maxOf k q) shapeCasts_S1x1024_S1x1024⟩]

theorem scoreRaw_eq (k : Vec F S1x4096x256 .bf16) (q : Vec F S1x256x1024 .bf16) : scoreRaw k q = scorePieces k q := by
  unfold scoreRaw scorePieces
  refine congrArg List.ofFn (funext fun j => ?_)
  rw [shapeCast_self]
theorem maxRaw_eq (k : Vec F S1x4096x256 .bf16) (q : Vec F S1x256x1024 .bf16) : maxRaw k q = maxPieces k q := by
  unfold maxRaw maxPieces; rw [shapeCast_self]

theorem ldQ (x : Vec F S1x256x1024 .bf16) : (View.ld x (Rect.unit ![0, 0, 0] ![1, 256, 1024] inbQ0) : Vec F S1x256x1024 .bf16) = x :=
  View.ld_unit_zero (S := S1x256x1024) (by decide) _ _
theorem ldM (x : Vec F S1x1024 .f32) : (View.ld x (Rect.unit ![0, 0] ![1, 1024] inbM0) : Vec F S1x1024 .f32) = x :=
  View.ld_unit_zero (S := S1x1024) (by decide) _ _

/-! ## What the stores leave -/

/-- One store through a whole buffer leaves what it stores. -/
theorem read_whole {S : Shape} {e : EltTy} {off : Fin S.rank → ℕ} (h : off = fun _ => 0) (inb : ∀ a, off a + S.size a ≤ S.size a) (w : S.Idx → Elt F e)
    (v : View sig κ sp S e) (f : v.ty.Contents (Elt F)) : v.read (Elt F) (v.writes (Elt F) f [⟨Rect.unit off S.size inb, w⟩]) = w := by
  rw [View.read_writes_eq_canon v f _ fun y => ⟨_, List.mem_singleton_self _, View.mem_set_unit_zero h inb y⟩]
  exact View.canon_unit_zero h inb _

/-- The scores at a row, from the row's chunk. -/
theorem scoresOf_apply (k : Vec F S1x4096x256 .bf16) (q : Vec F S1x256x1024 .bf16) (y : S4096x1024.Idx) (j : ℕ) (h : j < 16) (x : S256x1024.Idx)
    (hj : (y 0).val / 256 = j) (h0 : (x 0).val = (y 0).val % 256) (h1 : (x 1).val = (y 1).val) : scoresOf k q y = scoreChunk k q j h x := by
  subst hj
  unfold scoresOf
  refine congrArg _ (funext fun a => ?_)
  match a with
  | ⟨0, _⟩ => exact Fin.ext h0.symm
  | ⟨1, _⟩ => exact Fin.ext h1.symm

/-- The sixteen stores cover the score buffer. -/
theorem score_cover (k : Vec F S1x4096x256 .bf16) (q : Vec F S1x256x1024 .bf16) (y : S4096x1024.Idx) : ∃ p ∈ scorePieces k q, y ∈ p.1.set :=
  View.cover_of_tiledL (scorePieces k q) S256x1024.size (by sl_kernel_rfl) y
/-- Whatever the score buffer held, after the stores it holds the tile's scores. -/
theorem read_score (v : View sig κ sp S4096x1024 .f32) (f : v.ty.Contents (Elt F)) (k : Vec F S1x4096x256 .bf16) (q : Vec F S1x256x1024 .bf16) :
    v.read (Elt F) (v.writes (Elt F) f (scorePieces k q)) = scoresOf k q := by
  rw [View.read_writes_eq_canon v f _ (score_cover k q)]
  refine funext fun y => View.canon_apply_of_pieces (scoresOf k q) _ (fun p hp x => ?_) y (score_cover k q y)
  obtain ⟨j, rfl⟩ := List.mem_ofFn.mp hp
  have h0 : (x 0).val < 256 := (x 0).isLt
  have e0 : ((Rect.unit ![256 * (15 - j.val), 0] ![256, 1024] (inbS (15 - j.val) (by omega)) : Rect S4096x1024).emb x 0).val = 256 * (15 - j.val) + (x 0).val := by
    simp [Rect.emb, Rect.unit]
  have e1 : ((Rect.unit ![256 * (15 - j.val), 0] ![256, 1024] (inbS (15 - j.val) (by omega)) : Rect S4096x1024).emb x 1).val = (x 1).val := by
    simp [Rect.emb, Rect.unit]
  exact (scoresOf_apply k q _ (15 - j.val) (by omega) x (by omega) (by omega) e1.symm).symm
/-- The same of the maxima. -/
theorem read_max (v : View sig κ sp S1x1024 .f32) (f : v.ty.Contents (Elt F)) (k : Vec F S1x4096x256 .bf16) (q : Vec F S1x256x1024 .bf16) :
    v.read (Elt F) (v.writes (Elt F) f (maxPieces k q)) = maxOf k q :=
  read_whole (S := S1x1024) (by decide) inbM0 _ v f
/-- The same of the result tile. -/
theorem read_out (v : View sig κ sp S1x1024x128 .bf16) (f : v.ty.Contents (Elt F)) (s : Vec F S4096x1024 .f32) (m : Vec F S1x1024 .f32) (x : Vec F S1x128x4096 .bf16) :
    v.read (Elt F) (v.writes (Elt F) f (outPieces s m x)) = outOf s m x :=
  read_whole (S := S1x1024x128) (by decide) inbO0 _ v f

/-! ## The stores of each branch -/

set_option maxHeartbeats 4000000 in
/-- What branch A stores into the scores' buffer. -/
theorem runA_score (c : Dev nD) (i : grid0.Coords) (arg1 : Memref sig .tc .vmem S1x256x1024 .bf16) (harg1 : arg1.IsWhole) (arg2 : Memref sig .tc .vmem S1x4096x256 .bf16) (harg2 : arg2.IsWhole) (arg3 : Memref sig .tc .vmem S1x128x4096 .bf16) (harg3 : arg3.IsWhole) (arg4 : Memref sig .tc .vmem S1x1024x128 .bf16) (harg4 : arg4.IsWhole) (arg5 : Memref sig .tc .vmem S4096x1024 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (hc0 : condA i) (hc1 : ¬condC i) (hc2 : ¬condB i) (hc3 : ¬condD i)
    (x0 : Vec F S1x256x1024 .bf16) (x1 : Vec F S1x4096x256 .bf16) (x2 : Vec F S1x128x4096 .bf16) :
    (runA c i arg1 harg1 arg2 harg2 arg3 harg3 arg4 harg4 arg5 harg5 arg6 harg6 arg7 harg7 arg8 harg8 hc0 hc1 hc2 hc3 x0 x1 x2).1 = scorePieces x1 x0 := by
  have h : (runA c i arg1 harg1 arg2 harg2 arg3 harg3 arg4 harg4 arg5 harg5 arg6 harg6 arg7 harg7 arg8 harg8 hc0 hc1 hc2 hc3 x0 x1 x2).1
      = scoreRaw (arg2.view.read (Elt F) (harg2.unread x1)) (View.ld (arg1.view.read (Elt F) (harg1.unread x0)) (Rect.unit ![0, 0, 0] ![1, 256, 1024] inbQ0)) := by sl_kernel_rfl
  rw [h]; simp only [Memref.IsWhole.read_unread, ldQ, ldM, scoreRaw_eq, maxRaw_eq]

set_option maxHeartbeats 4000000 in
/-- What branch A stores into the maxima' buffer. -/
theorem runA_max (c : Dev nD) (i : grid0.Coords) (arg1 : Memref sig .tc .vmem S1x256x1024 .bf16) (harg1 : arg1.IsWhole) (arg2 : Memref sig .tc .vmem S1x4096x256 .bf16) (harg2 : arg2.IsWhole) (arg3 : Memref sig .tc .vmem S1x128x4096 .bf16) (harg3 : arg3.IsWhole) (arg4 : Memref sig .tc .vmem S1x1024x128 .bf16) (harg4 : arg4.IsWhole) (arg5 : Memref sig .tc .vmem S4096x1024 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (hc0 : condA i) (hc1 : ¬condC i) (hc2 : ¬condB i) (hc3 : ¬condD i)
    (x0 : Vec F S1x256x1024 .bf16) (x1 : Vec F S1x4096x256 .bf16) (x2 : Vec F S1x128x4096 .bf16) :
    (runA c i arg1 harg1 arg2 harg2 arg3 harg3 arg4 harg4 arg5 harg5 arg6 harg6 arg7 harg7 arg8 harg8 hc0 hc1 hc2 hc3 x0 x1 x2).2.1 = maxPieces x1 x0 := by
  have h : (runA c i arg1 harg1 arg2 harg2 arg3 harg3 arg4 harg4 arg5 harg5 arg6 harg6 arg7 harg7 arg8 harg8 hc0 hc1 hc2 hc3 x0 x1 x2).2.1
      = maxRaw (arg2.view.read (Elt F) (harg2.unread x1)) (View.ld (arg1.view.read (Elt F) (harg1.unread x0)) (Rect.unit ![0, 0, 0] ![1, 256, 1024] inbQ0)) := by sl_kernel_rfl
  rw [h]; simp only [Memref.IsWhole.read_unread, ldQ, ldM, scoreRaw_eq, maxRaw_eq]

set_option maxHeartbeats 4000000 in
/-- What branch B stores into the result tile' buffer. -/
theorem runB_out (c : Dev nD) (i : grid0.Coords) (arg1 : Memref sig .tc .vmem S1x256x1024 .bf16) (harg1 : arg1.IsWhole) (arg2 : Memref sig .tc .vmem S1x4096x256 .bf16) (harg2 : arg2.IsWhole) (arg3 : Memref sig .tc .vmem S1x128x4096 .bf16) (harg3 : arg3.IsWhole) (arg4 : Memref sig .tc .vmem S1x1024x128 .bf16) (harg4 : arg4.IsWhole) (arg5 : Memref sig .tc .vmem S4096x1024 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (hc0 : ¬condA i) (hc1 : ¬condC i) (hc2 : condB i) (hc3 : ¬condD i)
    (x0 : Vec F S1x256x1024 .bf16) (x1 : Vec F S1x4096x256 .bf16) (x2 : Vec F S1x128x4096 .bf16) (xs0 : Vec F S4096x1024 .f32) (xs2 : Vec F S1x1024 .f32) :
    (runB c i arg1 harg1 arg2 harg2 arg3 harg3 arg4 harg4 arg5 harg5 arg6 harg6 arg7 harg7 arg8 harg8 hc0 hc1 hc2 hc3 x0 x1 x2 xs0 xs2).1 = outPieces xs0 xs2 x2 := by
  have h : (runB c i arg1 harg1 arg2 harg2 arg3 harg3 arg4 harg4 arg5 harg5 arg6 harg6 arg7 harg7 arg8 harg8 hc0 hc1 hc2 hc3 x0 x1 x2 xs0 xs2).1
      = outPieces (arg5.view.read (Elt F) (harg5.unread xs0)) (View.ld (arg7.view.read (Elt F) (harg7.unread xs2)) (Rect.unit ![0, 0] ![1, 1024] inbM0)) (arg3.view.read (Elt F) (harg3.unread x2)) := by sl_kernel_rfl
  rw [h]; simp only [Memref.IsWhole.read_unread, ldM]

set_option maxHeartbeats 4000000 in
/-- What branch B stores into the scores' buffer. -/
theorem runB_score (c : Dev nD) (i : grid0.Coords) (arg1 : Memref sig .tc .vmem S1x256x1024 .bf16) (harg1 : arg1.IsWhole) (arg2 : Memref sig .tc .vmem S1x4096x256 .bf16) (harg2 : arg2.IsWhole) (arg3 : Memref sig .tc .vmem S1x128x4096 .bf16) (harg3 : arg3.IsWhole) (arg4 : Memref sig .tc .vmem S1x1024x128 .bf16) (harg4 : arg4.IsWhole) (arg5 : Memref sig .tc .vmem S4096x1024 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (hc0 : ¬condA i) (hc1 : ¬condC i) (hc2 : condB i) (hc3 : ¬condD i)
    (x0 : Vec F S1x256x1024 .bf16) (x1 : Vec F S1x4096x256 .bf16) (x2 : Vec F S1x128x4096 .bf16) (xs0 : Vec F S4096x1024 .f32) (xs2 : Vec F S1x1024 .f32) :
    (runB c i arg1 harg1 arg2 harg2 arg3 harg3 arg4 harg4 arg5 harg5 arg6 harg6 arg7 harg7 arg8 harg8 hc0 hc1 hc2 hc3 x0 x1 x2 xs0 xs2).2.1 = scorePieces x1 x0 := by
  have h : (runB c i arg1 harg1 arg2 harg2 arg3 harg3 arg4 harg4 arg5 harg5 arg6 harg6 arg7 harg7 arg8 harg8 hc0 hc1 hc2 hc3 x0 x1 x2 xs0 xs2).2.1
      = scoreRaw (arg2.view.read (Elt F) (harg2.unread x1)) (View.ld (arg1.view.read (Elt F) (harg1.unread x0)) (Rect.unit ![0, 0, 0] ![1, 256, 1024] inbQ0)) := by sl_kernel_rfl
  rw [h]; simp only [Memref.IsWhole.read_unread, ldQ, ldM, scoreRaw_eq, maxRaw_eq]

set_option maxHeartbeats 4000000 in
/-- What branch B stores into the maxima' buffer. -/
theorem runB_max (c : Dev nD) (i : grid0.Coords) (arg1 : Memref sig .tc .vmem S1x256x1024 .bf16) (harg1 : arg1.IsWhole) (arg2 : Memref sig .tc .vmem S1x4096x256 .bf16) (harg2 : arg2.IsWhole) (arg3 : Memref sig .tc .vmem S1x128x4096 .bf16) (harg3 : arg3.IsWhole) (arg4 : Memref sig .tc .vmem S1x1024x128 .bf16) (harg4 : arg4.IsWhole) (arg5 : Memref sig .tc .vmem S4096x1024 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (hc0 : ¬condA i) (hc1 : ¬condC i) (hc2 : condB i) (hc3 : ¬condD i)
    (x0 : Vec F S1x256x1024 .bf16) (x1 : Vec F S1x4096x256 .bf16) (x2 : Vec F S1x128x4096 .bf16) (xs0 : Vec F S4096x1024 .f32) (xs2 : Vec F S1x1024 .f32) :
    (runB c i arg1 harg1 arg2 harg2 arg3 harg3 arg4 harg4 arg5 harg5 arg6 harg6 arg7 harg7 arg8 harg8 hc0 hc1 hc2 hc3 x0 x1 x2 xs0 xs2).2.2.1 = maxPieces x1 x0 := by
  have h : (runB c i arg1 harg1 arg2 harg2 arg3 harg3 arg4 harg4 arg5 harg5 arg6 harg6 arg7 harg7 arg8 harg8 hc0 hc1 hc2 hc3 x0 x1 x2 xs0 xs2).2.2.1
      = maxRaw (arg2.view.read (Elt F) (harg2.unread x1)) (View.ld (arg1.view.read (Elt F) (harg1.unread x0)) (Rect.unit ![0, 0, 0] ![1, 256, 1024] inbQ0)) := by sl_kernel_rfl
  rw [h]; simp only [Memref.IsWhole.read_unread, ldQ, ldM, scoreRaw_eq, maxRaw_eq]

set_option maxHeartbeats 4000000 in
/-- What branch C stores into the result tile' buffer. -/
theorem runC_out (c : Dev nD) (i : grid0.Coords) (arg1 : Memref sig .tc .vmem S1x256x1024 .bf16) (harg1 : arg1.IsWhole) (arg2 : Memref sig .tc .vmem S1x4096x256 .bf16) (harg2 : arg2.IsWhole) (arg3 : Memref sig .tc .vmem S1x128x4096 .bf16) (harg3 : arg3.IsWhole) (arg4 : Memref sig .tc .vmem S1x1024x128 .bf16) (harg4 : arg4.IsWhole) (arg5 : Memref sig .tc .vmem S4096x1024 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (hc0 : ¬condA i) (hc1 : condC i) (hc2 : ¬condB i) (hc3 : ¬condD i)
    (x0 : Vec F S1x256x1024 .bf16) (x1 : Vec F S1x4096x256 .bf16) (x2 : Vec F S1x128x4096 .bf16) (xs1 : Vec F S4096x1024 .f32) (xs3 : Vec F S1x1024 .f32) :
    (runC c i arg1 harg1 arg2 harg2 arg3 harg3 arg4 harg4 arg5 harg5 arg6 harg6 arg7 harg7 arg8 harg8 hc0 hc1 hc2 hc3 x0 x1 x2 xs1 xs3).1 = outPieces xs1 xs3 x2 := by
  have h : (runC c i arg1 harg1 arg2 harg2 arg3 harg3 arg4 harg4 arg5 harg5 arg6 harg6 arg7 harg7 arg8 harg8 hc0 hc1 hc2 hc3 x0 x1 x2 xs1 xs3).1
      = outPieces (arg6.view.read (Elt F) (harg6.unread xs1)) (View.ld (arg8.view.read (Elt F) (harg8.unread xs3)) (Rect.unit ![0, 0] ![1, 1024] inbM0)) (arg3.view.read (Elt F) (harg3.unread x2)) := by sl_kernel_rfl
  rw [h]; simp only [Memref.IsWhole.read_unread, ldM]

set_option maxHeartbeats 4000000 in
/-- What branch C stores into the scores' buffer. -/
theorem runC_score (c : Dev nD) (i : grid0.Coords) (arg1 : Memref sig .tc .vmem S1x256x1024 .bf16) (harg1 : arg1.IsWhole) (arg2 : Memref sig .tc .vmem S1x4096x256 .bf16) (harg2 : arg2.IsWhole) (arg3 : Memref sig .tc .vmem S1x128x4096 .bf16) (harg3 : arg3.IsWhole) (arg4 : Memref sig .tc .vmem S1x1024x128 .bf16) (harg4 : arg4.IsWhole) (arg5 : Memref sig .tc .vmem S4096x1024 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (hc0 : ¬condA i) (hc1 : condC i) (hc2 : ¬condB i) (hc3 : ¬condD i)
    (x0 : Vec F S1x256x1024 .bf16) (x1 : Vec F S1x4096x256 .bf16) (x2 : Vec F S1x128x4096 .bf16) (xs1 : Vec F S4096x1024 .f32) (xs3 : Vec F S1x1024 .f32) :
    (runC c i arg1 harg1 arg2 harg2 arg3 harg3 arg4 harg4 arg5 harg5 arg6 harg6 arg7 harg7 arg8 harg8 hc0 hc1 hc2 hc3 x0 x1 x2 xs1 xs3).2.1 = scorePieces x1 x0 := by
  have h : (runC c i arg1 harg1 arg2 harg2 arg3 harg3 arg4 harg4 arg5 harg5 arg6 harg6 arg7 harg7 arg8 harg8 hc0 hc1 hc2 hc3 x0 x1 x2 xs1 xs3).2.1
      = scoreRaw (arg2.view.read (Elt F) (harg2.unread x1)) (View.ld (arg1.view.read (Elt F) (harg1.unread x0)) (Rect.unit ![0, 0, 0] ![1, 256, 1024] inbQ0)) := by sl_kernel_rfl
  rw [h]; simp only [Memref.IsWhole.read_unread, ldQ, ldM, scoreRaw_eq, maxRaw_eq]

set_option maxHeartbeats 4000000 in
/-- What branch C stores into the maxima' buffer. -/
theorem runC_max (c : Dev nD) (i : grid0.Coords) (arg1 : Memref sig .tc .vmem S1x256x1024 .bf16) (harg1 : arg1.IsWhole) (arg2 : Memref sig .tc .vmem S1x4096x256 .bf16) (harg2 : arg2.IsWhole) (arg3 : Memref sig .tc .vmem S1x128x4096 .bf16) (harg3 : arg3.IsWhole) (arg4 : Memref sig .tc .vmem S1x1024x128 .bf16) (harg4 : arg4.IsWhole) (arg5 : Memref sig .tc .vmem S4096x1024 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (hc0 : ¬condA i) (hc1 : condC i) (hc2 : ¬condB i) (hc3 : ¬condD i)
    (x0 : Vec F S1x256x1024 .bf16) (x1 : Vec F S1x4096x256 .bf16) (x2 : Vec F S1x128x4096 .bf16) (xs1 : Vec F S4096x1024 .f32) (xs3 : Vec F S1x1024 .f32) :
    (runC c i arg1 harg1 arg2 harg2 arg3 harg3 arg4 harg4 arg5 harg5 arg6 harg6 arg7 harg7 arg8 harg8 hc0 hc1 hc2 hc3 x0 x1 x2 xs1 xs3).2.2.1 = maxPieces x1 x0 := by
  have h : (runC c i arg1 harg1 arg2 harg2 arg3 harg3 arg4 harg4 arg5 harg5 arg6 harg6 arg7 harg7 arg8 harg8 hc0 hc1 hc2 hc3 x0 x1 x2 xs1 xs3).2.2.1
      = maxRaw (arg2.view.read (Elt F) (harg2.unread x1)) (View.ld (arg1.view.read (Elt F) (harg1.unread x0)) (Rect.unit ![0, 0, 0] ![1, 256, 1024] inbQ0)) := by sl_kernel_rfl
  rw [h]; simp only [Memref.IsWhole.read_unread, ldQ, ldM, scoreRaw_eq, maxRaw_eq]

set_option maxHeartbeats 4000000 in
/-- What branch D stores into the result tile' buffer. -/
theorem runD_out (c : Dev nD) (i : grid0.Coords) (arg1 : Memref sig .tc .vmem S1x256x1024 .bf16) (harg1 : arg1.IsWhole) (arg2 : Memref sig .tc .vmem S1x4096x256 .bf16) (harg2 : arg2.IsWhole) (arg3 : Memref sig .tc .vmem S1x128x4096 .bf16) (harg3 : arg3.IsWhole) (arg4 : Memref sig .tc .vmem S1x1024x128 .bf16) (harg4 : arg4.IsWhole) (arg5 : Memref sig .tc .vmem S4096x1024 .f32) (harg5 : arg5.IsWhole) (arg6 : Memref sig .tc .vmem S4096x1024 .f32) (harg6 : arg6.IsWhole) (arg7 : Memref sig .tc .vmem S1x1024 .f32) (harg7 : arg7.IsWhole) (arg8 : Memref sig .tc .vmem S1x1024 .f32) (harg8 : arg8.IsWhole) (hc0 : ¬condA i) (hc1 : ¬condC i) (hc2 : ¬condB i) (hc3 : condD i)
    (x0 : Vec F S1x256x1024 .bf16) (x1 : Vec F S1x4096x256 .bf16) (x2 : Vec F S1x128x4096 .bf16) (xs0 : Vec F S4096x1024 .f32) (xs1 : Vec F S4096x1024 .f32) (xs2 : Vec F S1x1024 .f32) (xs3 : Vec F S1x1024 .f32) :
    (runD c i arg1 harg1 arg2 harg2 arg3 harg3 arg4 harg4 arg5 harg5 arg6 harg6 arg7 harg7 arg8 harg8 hc0 hc1 hc2 hc3 x0 x1 x2 xs0 xs1 xs2 xs3).1 = outPieces xs1 xs3 x2 := by
  have h : (runD c i arg1 harg1 arg2 harg2 arg3 harg3 arg4 harg4 arg5 harg5 arg6 harg6 arg7 harg7 arg8 harg8 hc0 hc1 hc2 hc3 x0 x1 x2 xs0 xs1 xs2 xs3).1
      = outPieces (arg6.view.read (Elt F) (harg6.unread xs1)) (View.ld (arg8.view.read (Elt F) (harg8.unread xs3)) (Rect.unit ![0, 0] ![1, 1024] inbM0)) (arg3.view.read (Elt F) (harg3.unread x2)) := by sl_kernel_rfl
  rw [h]; simp only [Memref.IsWhole.read_unread, ldM]

end Cert.KernelIdeal.Attn
-- ==== Proof.Attn.KernelIdeal.Frame.lean ====
/- The attention kernel's run: what each point leaves (the scores and maxima of its tile in the slot of its parity, the
   tile of the result one point later), the body at every point, the launch, and the frame. -/
module

public import proofs.«01_k».proof.Proof.Attn.KernelIdeal.Points
public import proofs.«01_k».proof.Proof.Attn.KernelIdeal.Pieces
public import proofs.«01_k».proof.Proof.Gen.KernelIdeal.Launch
public import proofs.«01_k».proof.Proof.Gen.KernelIdeal.Points
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

theorem N_eq : cfg0.N = 513 := N_0

/-- The point before (the same at point 0). -/
def prev (t : Fin cfg0.N) : Fin cfg0.N := ⟨t.val - 1, by have := t.isLt; omega⟩
/-- The scores and the maxima of the tile scored at point `t`. -/
noncomputable def sAt (c : Dev nD) (t : Fin cfg0.N) : Vec F S4096x1024 .f32 := scoresOf (iblk m c 1 t) (iblk m c 0 t)
noncomputable def mAt (c : Dev nD) (t : Fin cfg0.N) : Vec F S1x1024 .f32 := maxOf (iblk m c 1 t) (iblk m c 0 t)
/-- The tile finished at point `t`: the one scored at the point before. -/
noncomputable def outAt (c : Dev nD) (t : Fin cfg0.N) : Vec F S1x1024x128 .bf16 := outOf (sAt m c (prev t)) (mAt m c (prev t)) (iblk m c 2 t)

/-- Slot 0 holds the scores `s` and the maxima `x`, slot 1 anything. -/
def slot0 (c : Dev nD) (s : Vec F S4096x1024 .f32) (x : Vec F S1x1024 .f32) : sProp 𝕄 :=
  iprop((owns (c : Thread nD τ) scS0 fullShare s ∗ (∃ d, owns (c : Thread nD τ) scS1 fullShare d) ∗ owns (c : Thread nD τ) scM0 fullShare x ∗ (∃ d, owns (c : Thread nD τ) scM1 fullShare d)) ∗ (∃ r, prngReg c r))
/-- Slot 1 holds them, slot 0 anything. -/
def slot1 (c : Dev nD) (s : Vec F S4096x1024 .f32) (x : Vec F S1x1024 .f32) : sProp 𝕄 :=
  iprop(((∃ d, owns (c : Thread nD τ) scS0 fullShare d) ∗ owns (c : Thread nD τ) scS1 fullShare s ∗ (∃ d, owns (c : Thread nD τ) scM0 fullShare d) ∗ owns (c : Thread nD τ) scM1 fullShare x) ∗ (∃ r, prngReg c r))

/-- Before point `n`: the slot of the point before's parity holds that point's scores and maxima; at the two ends
    the scratch holds anything. -/
def PhiS (c : Dev nD) : (n : ℕ) → n ≤ cfg0.N → sProp 𝕄
  | 0, _ => Pipeline.ΦA spec0 c
  | n + 1, hn => if n = 512 then Pipeline.ΦA spec0 c else
      if n % 2 = 0 then slot0 c (sAt m c ⟨n, hn⟩) (mAt m c ⟨n, hn⟩) else slot1 c (sAt m c ⟨n, hn⟩) (mAt m c ⟨n, hn⟩)

/-- Before an odd point slot 0 is filled, -/
theorem PhiS_odd (c : Dev nD) (t : Fin cfg0.N) (h : t.val % 2 = 1) :
    PhiS m c t.val (Nat.le_of_lt t.isLt) = slot0 c (sAt m c (prev t)) (mAt m c (prev t)) := by
  obtain ⟨n, hn⟩ := t
  cases n with
  | zero => simp at h
  | succ n => have := N_eq; simp only at h; simp only [PhiS, prev, Nat.add_sub_cancel]; rw [if_neg (by omega), if_pos (by omega)]
/-- and before an even one that is not the first slot 1. -/
theorem PhiS_even (c : Dev nD) (t : Fin cfg0.N) (h : t.val % 2 = 0) (h0 : t.val ≠ 0) :
    PhiS m c t.val (Nat.le_of_lt t.isLt) = slot1 c (sAt m c (prev t)) (mAt m c (prev t)) := by
  obtain ⟨n, hn⟩ := t
  cases n with
  | zero => simp at h0
  | succ n => have := N_eq; simp only at h; simp only [PhiS, prev, Nat.add_sub_cancel]; rw [if_neg (by omega), if_neg (by omega)]
theorem PhiS_zero (c : Dev nD) (n : ℕ) (h : n ≤ cfg0.N) (hz : n = 0) : PhiS m c n h = Pipeline.ΦA spec0 c := by
  subst hz; rfl
theorem PhiS_last (c : Dev nD) (n : ℕ) (h : n + 1 ≤ cfg0.N) (hz : n = 512) : PhiS m c (n + 1) h = Pipeline.ΦA spec0 c := by
  subst hz; rfl
/-- After an even point that is not the last, -/
theorem PhiS_succ_even (c : Dev nD) (t : Fin cfg0.N) (h : t.val % 2 = 0) (h1 : t.val ≠ 512) :
    PhiS m c (t.val + 1) t.isLt = slot0 c (sAt m c t) (mAt m c t) := by
  simp only [PhiS]; rw [if_neg h1, if_pos h]
/-- and after an odd one. -/
theorem PhiS_succ_odd (c : Dev nD) (t : Fin cfg0.N) (h : t.val % 2 = 1) :
    PhiS m c (t.val + 1) t.isLt = slot1 c (sAt m c t) (mAt m c t) := by
  simp only [PhiS]; rw [if_neg (by omega), if_neg (by omega)]

/-! ## The pipeline's data -/

/-- The arrays as the region finds them; after the body each input's buffer at its block and the output's at the tile
    finished there; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = outAt m c t := by dsimp only [dats]

theorem before_q (c : Dev nD) (t : Fin cfg0.N) (d) : (dats m 0 c).before 0 t d = iblk m c 0 t :=
  before0_0_of m (dats m 0 c) (A_eq m c 0) (after_q m c) t d
theorem before_k (c : Dev nD) (t : Fin cfg0.N) (d) : (dats m 0 c).before 1 t d = iblk m c 1 t :=
  before0_1_of m (dats m 0 c) (A_eq m c 1) (after_k m c) t d
theorem before_v (c : Dev nD) (t : Fin cfg0.N) (d) : (dats m 0 c).before 2 t d = iblk m c 2 t :=
  before0_2_of m (dats m 0 c) (A_eq m c 2) (after_v m c) t d

theorem leaves_q (c : Dev nD) (t : Fin cfg0.N) : (dats m 0 c).leavesExact 0 t = owns (c : Thread nD τ) (msQ t) fullShare (iblk m c 0 t) := by
  unfold Dat.leavesExact; rw [idle_in 0 (by decide) t, after_q]
theorem leaves_k (c : Dev nD) (t : Fin cfg0.N) : (dats m 0 c).leavesExact 1 t = owns (c : Thread nD τ) (msK t) fullShare (iblk m c 1 t) := by
  unfold Dat.leavesExact; rw [idle_in 1 (by decide) t, after_k]
theorem leaves_v (c : Dev nD) (t : Fin cfg0.N) : (dats m 0 c).leavesExact 2 t = owns (c : Thread nD τ) (msV t) fullShare (iblk m c 2 t) := by
  unfold Dat.leavesExact; rw [idle_in 2 (by decide) t, after_v]
/-- The output's buffer is left at the finished tile at every point but the first, -/
theorem leaves_o (c : Dev nD) (t : Fin cfg0.N) (h : t.val ≠ 0) : (dats m 0 c).leavesExact 3 t = owns (c : Thread nD τ) (msO t) fullShare (outAt m c t) := by
  unfold Dat.leavesExact; rw [(idle_out t).trans (decide_eq_false h), after_o]
/-- where it is left as it was. -/
theorem leaves_o_zero (c : Dev nD) (t : Fin cfg0.N) (h : t.val = 0) :
    (dats m 0 c).leavesExact 3 t = iprop(∃ d, owns (c : Thread nD τ) (msO t) fullShare ((dats m 0 c).before 3 t d)) :=
  Dat.leavesExact_idle _ 3 t ((idle_out t).trans (decide_eq_true h)) ((flush_out t).trans (decide_eq_false (not_not.mpr h)))

/-! ## The body at every point -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (msQ t) fullShare ((dats m 0 c).before 0 t d))
    ∗ (∃ d, owns (c : Thread nD τ) (msK t) fullShare ((dats m 0 c).before 1 t d))
    ∗ (∃ d, owns (c : Thread nD τ) (msV t) fullShare ((dats m 0 c).before 2 t d))
    ∗ (∃ d, owns (c : Thread nD τ) (msO t) fullShare ((dats m 0 c).before 3 t d)))
/-- and what it leaves. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- At point 0: slot 0 is filled. -/
theorem bodyA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before_q, before_k, before_v, leaves_q, leaves_k, leaves_v]
  rw [show (dats m 0 c).owesAt () t.succ = (dats m 0 c).owesAt () t.castSucc from rfl,
    show (dats m 0 c).Φ t.succ = PhiS m c (t.val + 1) t.isLt from rfl]
  rw [Phi_castSucc, PhiS_zero m c _ _ h, scratch_eq]
  rw [PhiS_succ_even m c t (by omega) (by omega), leaves_o_zero m c t h]; unfold slot0
  iintro ⟨⟨⟨HS0, HS1, HM0, HM1⟩, Hg⟩, Ho, ⟨%d0, H0⟩, ⟨%d1, H1⟩, ⟨%d2, H2⟩, ⟨%d3, H3⟩⟩
  iapply ((runA c (grid0.coords t) _ _ _ _ _ _ _ _ _ _ _ _ _ _ _ _ ((condA_iff t).mpr h) (fun e => by have := (condC_iff t).mp e; omega) (fun e => by have := (condB_iff t).mp e; omega) (fun e => by have := (condD_iff t).mp e; omega) (iblk m c 0 t) (iblk m c 1 t) (iblk m c 2 t)).2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HM0]; · iexact HM0
  isplitl [HM1]; · iexact HM1
  iintro ⟨H0, H1, H2, H3, ⟨%eS0, HS0⟩, HS1, ⟨%eM0, HM0⟩, HM1⟩
  isplitl [HS0 HS1 HM0 HM1 Hg]
  · isplitl [HS0 HS1 HM0 HM1]
    · isplitl [HS0]
      · unfold owns; iexists _; isplitr
        swap; · iexact HS0
        ipureintro; rw [runA_score]; exact read_score _ _ _ _
      isplitl [HS1]
      · iexact HS1
      isplitl [HM0]
      · unfold owns; iexists _; isplitr
        swap; · iexact HM0
        ipureintro; rw [runA_max]; exact read_max _ _ _ _
      iexact HM1
    iexact Hg
  isplitl [Ho]; · iexact Ho
  isplitl [H0]; · iexact H0
  isplitl [H1]; · iexact H1
  isplitl [H2]; · iexact H2
  iexists _; iexact H3

/-- At an odd point: slot 1 is filled, slot 0 finished. -/
theorem bodyB (c : Dev nD) (t : Fin cfg0.N) (h : t.val % 2 = 1) :
    bodyPre m c t ⊢ wp frame (wpE (defs₀ (F := F)) Variants.none c none) Set.univ (bodyAt0 t) (fun _ => bodyPost m c t) := by
  unfold bodyPre bodyPost bodyAt0
  simp only [before_q, before_k, before_v, leaves_q, leaves_k, leaves_v]
  rw [show (dats m 0 c).owesAt () t.succ = (dats m 0 c).owesAt () t.castSucc from rfl,
    show (dats m 0 c).Φ t.succ = PhiS m c (t.val + 1) t.isLt from rfl]
  rw [Phi_castSucc, PhiS_odd m c t h]; unfold slot0
  rw [PhiS_succ_odd m c t h, leaves_o m c t (by omega)]; unfold slot1
  iintro ⟨⟨⟨HS0, HS1, HM0, HM1⟩, Hg⟩, Ho, ⟨%d0, H0⟩, ⟨%d1, H1⟩, ⟨%d2, H2⟩, ⟨%d3, H3⟩⟩
  iapply ((runB c (grid0.coords t) _ _ _ _ _ _ _ _ _ _ _ _ _ _ _ _ (fun e => by have := (condA_iff t).mp e; omega) (fun e => by have := (condC_iff t).mp e; omega) ((condB_iff t).mpr h) (fun e => by have := (condD_iff t).mp e; omega) (iblk m c 0 t) (iblk m c 1 t) (iblk m c 2 t) _ _).2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HM0]; · iexact HM0
  isplitl [HM1]; · iexact HM1
  iintro ⟨H0, H1, H2, ⟨%e3, H3⟩, HS0, ⟨%eS1, HS1⟩, HM0, ⟨%eM1, HM1⟩⟩
  isplitl [HS0 HS1 HM0 HM1 Hg]
  · isplitl [HS0 HS1 HM0 HM1]
    · isplitl [HS0]
      · iexists _; iexact HS0
      isplitl [HS1]
      · unfold owns; iexists _; isplitr
        swap; · iexact HS1
        ipureintro; rw [runB_score]; exact read_score _ _ _ _
      isplitl [HM0]
      · iexists _; iexact HM0
      unfold owns; iexists _; isplitr
      swap; · iexact HM1
      ipureintro; rw [runB_max]; exact read_max _ _ _ _
    iexact Hg
  isplitl [Ho]; · iexact Ho
  isplitl [H0]; · iexact H0
  isplitl [H1]; · iexact H1
  isplitl [H2]; · iexact H2
  unfold owns; iexists _; isplitr
  swap; · iexact H3
  ipureintro; rw [runB_out]; exact read_out _ _ _ _ _

/-- At an even point between the ends: slot 0 is filled, slot 1 finished. -/
theorem bodyC (c : Dev nD) (t : Fin cfg0.N) (h : t.val % 2 = 0) (h0 : t.val ≠ 0) (h1 : t.val ≠ 512) :
    bodyPre m c t ⊢ wp frame (wpE (defs₀ (F := F)) Variants.none c none) Set.univ (bodyAt0 t) (fun _ => bodyPost m c t) := by
  unfold bodyPre bodyPost bodyAt0
  simp only [before_q, before_k, before_v, leaves_q, leaves_k, leaves_v]
  rw [show (dats m 0 c).owesAt () t.succ = (dats m 0 c).owesAt () t.castSucc from rfl,
    show (dats m 0 c).Φ t.succ = PhiS m c (t.val + 1) t.isLt from rfl]
  rw [Phi_castSucc, PhiS_even m c t h h0]; unfold slot1
  rw [PhiS_succ_even m c t h h1, leaves_o m c t h0]; unfold slot0
  iintro ⟨⟨⟨HS0, HS1, HM0, HM1⟩, Hg⟩, Ho, ⟨%d0, H0⟩, ⟨%d1, H1⟩, ⟨%d2, H2⟩, ⟨%d3, H3⟩⟩
  iapply ((runC c (grid0.coords t) _ _ _ _ _ _ _ _ _ _ _ _ _ _ _ _ (fun e => by have := (condA_iff t).mp e; omega) ((condC_iff t).mpr ⟨h0, h1, h⟩) (fun e => by have := (condB_iff t).mp e; omega) (fun e => by have := (condD_iff t).mp e; omega) (iblk m c 0 t) (iblk m c 1 t) (iblk m c 2 t) _ _).2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HM0]; · iexact HM0
  isplitl [HM1]; · iexact HM1
  iintro ⟨H0, H1, H2, ⟨%e3, H3⟩, ⟨%eS0, HS0⟩, HS1, ⟨%eM0, HM0⟩, HM1⟩
  isplitl [HS0 HS1 HM0 HM1 Hg]
  · isplitl [HS0 HS1 HM0 HM1]
    · isplitl [HS0]
      · unfold owns; iexists _; isplitr
        swap; · iexact HS0
        ipureintro; rw [runC_score]; exact read_score _ _ _ _
      isplitl [HS1]
      · iexists _; iexact HS1
      isplitl [HM0]
      · unfold owns; iexists _; isplitr
        swap; · iexact HM0
        ipureintro; rw [runC_max]; exact read_max _ _ _ _
      iexists _; iexact HM1
    iexact Hg
  isplitl [Ho]; · iexact Ho
  isplitl [H0]; · iexact H0
  isplitl [H1]; · iexact H1
  isplitl [H2]; · iexact H2
  unfold owns; iexists _; isplitr
  swap; · iexact H3
  ipureintro; rw [runC_out]; exact read_out _ _ _ _ _

/-- At the last point: slot 1 is finished. -/
theorem bodyD (c : Dev nD) (t : Fin cfg0.N) (h : t.val = 512) :
    bodyPre m c t ⊢ wp frame (wpE (defs₀ (F := F)) Variants.none c none) Set.univ (bodyAt0 t) (fun _ => bodyPost m c t) := by
  unfold bodyPre bodyPost bodyAt0
  simp only [before_q, before_k, before_v, leaves_q, leaves_k, leaves_v]
  rw [show (dats m 0 c).owesAt () t.succ = (dats m 0 c).owesAt () t.castSucc from rfl,
    show (dats m 0 c).Φ t.succ = PhiS m c (t.val + 1) t.isLt from rfl]
  rw [Phi_castSucc, PhiS_even m c t (by omega) (by omega)]; unfold slot1
  rw [PhiS_last m c _ _ h, scratch_eq, leaves_o m c t (by omega)]
  iintro ⟨⟨⟨⟨%es0, HS0⟩, HS1, ⟨%em0, HM0⟩, HM1⟩, Hg⟩, Ho, ⟨%d0, H0⟩, ⟨%d1, H1⟩, ⟨%d2, H2⟩, ⟨%d3, H3⟩⟩
  iapply ((runD c (grid0.coords t) _ _ _ _ _ _ _ _ _ _ _ _ _ _ _ _ (fun e => by have := (condA_iff t).mp e; omega) (fun e => by have := (condC_iff t).mp e; omega) (fun e => by have := (condB_iff t).mp e; omega) ((condD_iff t).mpr h) (iblk m c 0 t) (iblk m c 1 t) (iblk m c 2 t) _ _ _ _).2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HM0]; · iexact HM0
  isplitl [HM1]; · iexact HM1
  iintro ⟨H0, H1, H2, ⟨%e3, H3⟩, HS0, HS1, HM0, HM1⟩
  isplitl [HS0 HS1 HM0 HM1 Hg]
  · isplitl [HS0 HS1 HM0 HM1]
    · isplitl [HS0]
      · iexists _; iexact HS0
      isplitl [HS1]
      · iexists _; iexact HS1
      isplitl [HM0]
      · iexists _; iexact HM0
      iexists _; iexact HM1
    iexact Hg
  isplitl [Ho]; · iexact Ho
  isplitl [H0]; · iexact H0
  isplitl [H1]; · iexact H1
  isplitl [H2]; · iexact H2
  unfold owns; iexists _; isplitr
  swap; · iexact H3
  ipureintro; rw [runD_out]; exact read_out _ _ _ _ _

/-- The body at any point. -/
theorem body_any (c : Dev nD) (t : Fin cfg0.N) :
    bodyPre m c t ⊢ wp frame (wpE (defs₀ (F := F)) Variants.none c none) Set.univ (bodyAt0 t) (fun _ => bodyPost m c t) := by
  rcases Nat.mod_two_eq_zero_or_one t.val with h | h
  · by_cases h0 : t.val = 0
    · exact bodyA m c t h0
    by_cases h1 : t.val = 512
    · exact bodyD m c t h1
    exact bodyC m c t h h0 h1
  · exact bodyB m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_any m c t) rfl .rfl fun _ => .rfl

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
theorem hout (c : Dev nD) : (dats m 0 c).Φ (Fin.last cfg0.N) ⊢ Pipeline.ΦA spec0 c := by
  rw [show (dats m 0 c).Φ (Fin.last cfg0.N) = PhiS m c (512 + 1) (by rw [N_eq]) from by
    simp only [dats, Fin.val_last]; congr 1, PhiS_last m c 512 _ rfl]

set_option backward.isDefEq.respectTransparency.types false in
/-- The whole run, from any memory with zero counters: every array of the pipeline ends at what the data says, every
    counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: every run ends, the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.KernelIdeal.Attn
-- ==== Proof.Attn.Value.Softmax.lean ====
/- The mathematics of the attention's softmax over the extended reals: one row of scores `s`, one column of values `v`.
   The kernel weighs by powers of two and divides once at the end; the softmax weighs by exponentials of the scores times
   ln 2 and divides every weight. Where the scores are real numbers the two are the same, whatever the values. -/
module

public import Idealize.ShloMosaic.PureOps.Ideal.Laws

@[expose] public section

noncomputable section

namespace Cert.Attn

open Idealize.ShloMosaic
open scoped BigOperators

/-- The largest of finitely many extended reals (⊥ of none). -/
def top {n : ℕ} (s : Fin n → EReal) : EReal := (Finset.univ : Finset (Fin n)).sup s

/-- One division: the values weighed by powers of two, over the sum of the weights. -/
def weighOnce {n : ℕ} (s v : Fin n → EReal) : EReal :=
  Ideal.div (∑ k, v k * Ideal.exp2 (s k - top s)) (∑ k, Ideal.exp2 (s k - top s))

/-- The softmax of `c * s`, weighing the values. -/
def softmax {n : ℕ} (c : EReal) (s v : Fin n → EReal) : EReal :=
  ∑ k, v k * Ideal.div (Ideal.exp (s k * c - top fun j => s j * c)) (∑ j, Ideal.exp (s j * c - top fun i => s i * c))

/-- The largest of finitely many reals is one of them. -/
theorem top_coe {n : ℕ} (s : Fin n → ℝ) (a : Fin n) (h : ∀ k, s k ≤ s a) : top (fun k => (s k : EReal)) = (s a : EReal) :=
  le_antisymm (Finset.sup_le fun k _ => EReal.coe_le_coe_iff.2 (h k))
    (Finset.le_sup (f := fun k => (s k : EReal)) (Finset.mem_univ a))

/-- A nonnegative real factor goes into a sum of extended reals. -/
theorem sum_mul_real {ι : Type} (u : Finset ι) (f : ι → EReal) (c : ℝ) (hc : 0 ≤ c) :
    (∑ k ∈ u, f k) * (c : EReal) = ∑ k ∈ u, f k * (c : EReal) := by
  classical
  induction u using Finset.induction_on with
  | empty => simp
  | insert a u ha ih =>
    rw [Finset.sum_insert ha, Finset.sum_insert ha, EReal.right_distrib_of_nonneg_of_ne_top (by exact_mod_cast hc) (EReal.coe_ne_top c), ih]

/-- A sum of reals is real. -/
theorem sum_coe {ι : Type} (u : Finset ι) (f : ι → ℝ) : ∑ k ∈ u, (f k : EReal) = ((∑ k ∈ u, f k : ℝ) : EReal) := by
  classical
  induction u using Finset.induction_on with
  | empty => simp
  | insert a u ha ih => rw [Finset.sum_insert ha, Finset.sum_insert ha, ih, EReal.coe_add]

/-- Division by a positive real is multiplication by its inverse. -/
theorem div_pos_real (x : EReal) (l : ℝ) (hl : 0 < l) : Ideal.div x (l : EReal) = x * ((l⁻¹ : ℝ) : EReal) := by
  unfold Ideal.div
  rw [if_neg (by exact_mod_cast hl.ne'), EReal.coe_inv]

/-- With real scores, one division at the end is the softmax of `ln 2` times the scores. -/
theorem weighOnce_eq_softmax {n : ℕ} (hn : 0 < n) (s v : Fin n → EReal) (hs : ∀ k, ∃ r : ℝ, s k = (r : EReal)) :
    weighOnce s v = softmax ((Real.log 2 : ℝ) : EReal) s v := by
  choose r hr using hs
  obtain rfl : s = fun k => (r k : EReal) := funext hr
  haveI : Nonempty (Fin n) := ⟨⟨0, hn⟩⟩
  obtain ⟨a, ha⟩ := Finite.exists_max r
  have hlog : 0 < Real.log 2 := Real.log_pos (by norm_num)
  have e1 : top (fun k => (r k : EReal)) = (r a : EReal) := top_coe r a ha
  have e2 : top (fun k => (r k : EReal) * ((Real.log 2 : ℝ) : EReal)) = ((r a * Real.log 2 : ℝ) : EReal) := by
    have := top_coe (fun k => r k * Real.log 2) a fun k => mul_le_mul_of_nonneg_right (ha k) hlog.le
    simpa only [EReal.coe_mul] using this
  have w1 : ∀ k, Ideal.exp2 ((r k : EReal) - (r a : EReal)) = ((Real.exp (r k * Real.log 2 - r a * Real.log 2) : ℝ) : EReal) := by
    intro k
    have e : Real.rpow 2 (r k - r a) = Real.exp (r k * Real.log 2 - r a * Real.log 2) := by
      rw [show Real.rpow 2 (r k - r a) = (2 : ℝ) ^ (r k - r a) from rfl, Real.rpow_def_of_pos (by norm_num)]
      congr 1; ring
    rw [← EReal.coe_sub, Ideal.exp2_coe, e]
  have w2 : ∀ k, Ideal.exp ((r k : EReal) * ((Real.log 2 : ℝ) : EReal) - ((r a * Real.log 2 : ℝ) : EReal))
      = ((Real.exp (r k * Real.log 2 - r a * Real.log 2) : ℝ) : EReal) := by
    intro k
    rw [← EReal.coe_mul, ← EReal.coe_sub, Ideal.exp_coe]
  unfold weighOnce softmax
  rw [e1]
  simp only [e2, w1, w2]
  rw [sum_coe]
  have hl : 0 < ∑ k : Fin n, Real.exp (r k * Real.log 2 - r a * Real.log 2) :=
    Finset.sum_pos (fun k _ => Real.exp_pos _) Finset.univ_nonempty
  rw [div_pos_real _ _ hl, sum_mul_real _ _ _ (inv_nonneg.2 hl.le)]
  refine Finset.sum_congr rfl fun k _ => ?_
  rw [div_pos_real _ _ hl, mul_assoc]

end Cert.Attn

end
-- ==== Proof.Attn.Value.Range.lean ====
/- Sums and maxima taken piece by piece: over the first `a + b` numbers they are those over the first `a` and over the
   next `b`; and over `Fin n` they are those over the first `n` numbers. -/
module

public import proofs.«01_k».proof.Proof.Attn.Value.Softmax

@[expose] public section

noncomputable section

namespace Cert.Attn

open Idealize.ShloMosaic
open scoped BigOperators

theorem sup_range_add (f : ℕ → EReal) (a b : ℕ) :
    (Finset.range (a + b)).sup f = max ((Finset.range a).sup f) ((Finset.range b).sup fun x => f (a + x)) := by
  refine le_antisymm (Finset.sup_le fun x hx => ?_) (max_le (Finset.sup_le fun x hx => ?_) (Finset.sup_le fun x hx => ?_))
  · by_cases h : x < a
    · exact le_max_of_le_left (Finset.le_sup (f := f) (Finset.mem_range.2 h))
    · refine le_max_of_le_right ?_
      have hx' := Finset.mem_range.1 hx
      have := Finset.le_sup (f := fun x => f (a + x)) (Finset.mem_range.2 (show x - a < b by omega))
      simpa only [show a + (x - a) = x by omega] using this
  · exact Finset.le_sup (f := f) (Finset.mem_range.2 (by have := Finset.mem_range.1 hx; omega))
  · exact Finset.le_sup (f := f) (Finset.mem_range.2 (by have := Finset.mem_range.1 hx; omega))

theorem sup_fin (n : ℕ) (f : ℕ → EReal) : ((Finset.univ : Finset (Fin n)).sup fun k => f k.val) = (Finset.range n).sup f :=
  le_antisymm (Finset.sup_le fun k _ => Finset.le_sup (f := f) (Finset.mem_range.2 k.isLt))
    (Finset.sup_le fun x hx => Finset.le_sup (f := fun k : Fin n => f k.val) (Finset.mem_univ ⟨x, Finset.mem_range.1 hx⟩))

theorem sum_fin (n : ℕ) (f : ℕ → EReal) : (∑ k : Fin n, f k.val) = ∑ x ∈ Finset.range n, f x := (Finset.sum_range f).symm

/-- A fold of `max` from ⊥ is the supremum. -/
theorem fold_max_bot {ι : Type} (u : Finset ι) (f : ι → EReal) : u.fold max ⊥ f = u.sup f := rfl

theorem ofBits_neg_inf : Ideal.ofBits .f32 0xFF800000#32 = ⊥ := by simp [Ideal.ofBits, Ideal.ieee]

end Cert.Attn

end
-- ==== Proof.Attn.Value.Block.lean ====
/- One tile of the attention read at an index, at the ideal values: a score is the product of its key and its query, the
   maximum is over all 4096 keys, and the tile of the result is the values weighed by powers of two over the weights' sum. -/
module

public import proofs.«01_k».proof.Proof.Attn.KernelIdeal.Spec
public import proofs.«01_k».proof.Proof.Attn.KernelIdeal.Pieces
public import proofs.«01_k».proof.Proof.Attn.Value.Range
public import Idealize.ShloMosaic.Lib.MatmulPlain
public import Idealize.ShloMosaic.Lib.ValueLayout
public import Idealize.ShloMosaic.Lib.Pipeline.ValueKit.Tiles

@[expose] public section

noncomputable section

namespace Cert.KernelIdeal.Attn

open Idealize.ShloMosaic Idealize.ShloMosaic.ValueIdx
open Cert.Attn Cert.KernelIdeal.Gen
open scoped BigOperators

/-- Number `x` as a key. -/
def key (x : ℕ) : Fin 4096 := ⟨x % 4096, Nat.mod_lt _ (by decide)⟩
theorem key_of_fin (k : Fin 4096) : key k.val = k := Fin.ext (Nat.mod_eq_of_lt k.isLt)

/-- The score of key `y` and query `c` of a tile. -/
def score (k : Vec Ideal S1x4096x256 .bf16) (q : Vec Ideal S1x256x1024 .bf16) (y : Fin 4096) (c : Fin 1024) : EReal :=
  ∑ d : Fin 256, (k (ix3 0 y d) : EReal) * (q (ix3 0 d c) : EReal)

theorem scoreChunk_at (k : Vec Ideal S1x4096x256 .bf16) (q : Vec Ideal S1x256x1024 .bf16) (j : ℕ) (h : j < 16) (r : Fin 256) (c : Fin 1024) :
    scoreChunk k q j h (ix2 r c) = score k q (key (256 * j + r.val)) c := by
  unfold scoreChunk
  simp only [matmul]
  rw [show dot_S256x256_S256x1024_S256x1024_1_0_0_1_n_n = DotDims.plain 256 256 1024 from rfl]
  refine (Ideal.matmul_plain_apply (M := 256) (K := 256) (N := 1024) none _ _ _ r c).trans ?_
  have hz : (constant (F := Ideal) S256x1024 .f32 0x00000000#32 (ix2 r c) : EReal) = 0 := Ideal.ofBits_zero_f32
  rw [hz, zero_add]
  unfold score
  refine Finset.sum_congr rfl fun d _ => ?_
  congr 1
  · refine (shapeCast_dropUnit_apply ![256, 256] _ shapeCasts_S1x256x256_S256x256 (ix2 r d)).trans ?_
    refine View.ld_unit_apply_of _ _ _ _ _ _ fun a => ?_
    have : (key (256 * j + r.val)).val = 256 * j + r.val := Nat.mod_eq_of_lt (by have := r.isLt; omega)
    match a with
    | ⟨0, _⟩ => rfl
    | ⟨1, _⟩ => exact this
    | ⟨2, _⟩ => exact (Nat.zero_add _).symm
  · refine (shapeCast_dropUnit_apply ![256, 1024] _ shapeCasts_S1x256x1024_S256x1024 (ix2 d c)).trans ?_
    exact congrArg q (funext fun a => match a with | ⟨0, _⟩ => rfl | ⟨1, _⟩ => rfl | ⟨2, _⟩ => rfl)

theorem scoresOf_at (k : Vec Ideal S1x4096x256 .bf16) (q : Vec Ideal S1x256x1024 .bf16) (y : Fin 4096) (c : Fin 1024) :
    (scoresOf k q (ix2 y c) : EReal) = score k q y c := by
  have hy := y.isLt
  refine (scoreChunk_at k q (y.val / 256) (by omega) ⟨y.val % 256, Nat.mod_lt _ (by decide)⟩ c).trans ?_
  congr 1
  exact Fin.ext (show (256 * (y.val / 256) + y.val % 256) % 4096 = y.val by omega)

theorem chunkMax_at (k : Vec Ideal S1x4096x256 .bf16) (q : Vec Ideal S1x256x1024 .bf16) (j : ℕ) (h : j < 16) (c : Fin 1024) :
    (chunkMax k q j h (ix2 0 c) : EReal) = (Finset.range 256).sup fun x => score k q (key (256 * j + x)) c := by
  unfold chunkMax
  refine (shapeCast_addUnit_apply ![1024] _ shapeCasts_S1024_S1x1024 (ix2 0 c)).trans ?_
  refine (Ideal.multiReduction_maximumf_single _ _ _ _ _ _).trans ?_
  rw [show (FloatOps.ofBits (F := Ideal) .f32 0xFF800000#32 : EReal) = ⊥ from ofBits_neg_inf]
  refine (fold_max_bot _ _).trans ((Finset.sup_congr rfl fun r _ => ?_).trans (sup_fin 256 _))
  refine Eq.trans (congrArg (scoreChunk k q j h) ?_) (scoreChunk_at k q j h r c)
  funext a; apply Fin.ext
  match a with
  | ⟨0, _⟩ => rfl
  | ⟨1, _⟩ => rfl

theorem maxUpTo_at (k : Vec Ideal S1x4096x256 .bf16) (q : Vec Ideal S1x256x1024 .bf16) (c : Fin 1024) : ∀ (n : ℕ) (h : n < 16),
    (maxUpTo k q n h (ix2 0 c) : EReal) = (Finset.range (256 * (n + 1))).sup fun x => score k q (key x) c
  | 0, h => (chunkMax_at k q 0 h c).trans (by simp only [Nat.mul_zero, Nat.zero_add, Nat.mul_one])
  | n + 1, h => by
    rw [show 256 * (n + 1 + 1) = 256 * (n + 1) + 256 by omega, sup_range_add, ← maxUpTo_at k q c n (by omega), ← chunkMax_at k q (n + 1) h c]
    rfl

theorem maxOf_at (k : Vec Ideal S1x4096x256 .bf16) (q : Vec Ideal S1x256x1024 .bf16) (c : Fin 1024) :
    (maxOf k q (ix2 0 c) : EReal) = top fun y => score k q y c := by
  refine (maxUpTo_at k q c 15 (by decide)).trans ((sup_fin 4096 _).symm.trans ?_)
  exact Finset.sup_congr rfl fun y _ => by rw [key_of_fin]

/-- The weight of key `y` for query `c`. -/
def weight (s : Vec Ideal S4096x1024 .f32) (m : Vec Ideal S1x1024 .f32) (y : Fin 4096) (c : Fin 1024) : EReal :=
  Ideal.exp2 ((s (ix2 y c) : EReal) - (m (ix2 0 c) : EReal))

theorem wChunk_at (s : Vec Ideal S4096x1024 .f32) (m : Vec Ideal S1x1024 .f32) (j : ℕ) (h : j < 16) (r : Fin 256) (c : Fin 1024) :
    (wChunk s m j h (ix2 r c) : EReal) = weight s m (key (256 * j + r.val)) c := by
  have e1 : (View.ld s (Rect.unit ![256 * j, 0] ![256, 1024] (inbS j h)) : Vec Ideal S256x1024 .f32) (ix2 r c) = s (ix2 (key (256 * j + r.val)) c) := by
    refine View.ld_unit_apply_of _ _ _ _ _ _ fun a => ?_
    have : (key (256 * j + r.val)).val = 256 * j + r.val := Nat.mod_eq_of_lt (by have := r.isLt; omega)
    match a with
    | ⟨0, _⟩ => exact this
    | ⟨1, _⟩ => exact (Nat.zero_add _).symm
  have e2 : broadcastTo S256x1024 m broadcasts_S1x1024_S256x1024 (ix2 r c) = m (ix2 0 c) :=
    broadcastTo_apply m _ (ix2 r c) (ix2 0 c) fun a => match a with | ⟨0, _⟩ => rfl | ⟨1, _⟩ => rfl
  unfold wChunk weight
  show Ideal.exp2 (_ - _) = _
  rw [e1, e2]

theorem lChunk_at (s : Vec Ideal S4096x1024 .f32) (m : Vec Ideal S1x1024 .f32) (j : ℕ) (h : j < 16) (c : Fin 1024) :
    (lChunk s m j h (ix2 0 c) : EReal) = ∑ x ∈ Finset.range 256, weight s m (key (256 * j + x)) c := by
  unfold lChunk
  refine (shapeCast_addUnit_apply ![1024] _ shapeCasts_S1024_S1x1024 (ix2 0 c)).trans ?_
  refine (Ideal.multiReduction_add_single _ _ _ _ _ _).trans ((Finset.sum_congr rfl fun r _ => ?_).trans (sum_fin 256 _))
  refine Eq.trans (congrArg (wChunk s m j h) ?_) (wChunk_at s m j h r c)
  funext a; apply Fin.ext
  match a with
  | ⟨0, _⟩ => rfl
  | ⟨1, _⟩ => rfl

theorem lUpTo_at (s : Vec Ideal S4096x1024 .f32) (m : Vec Ideal S1x1024 .f32) (c : Fin 1024) : ∀ (n : ℕ) (h : n < 16),
    (lUpTo s m n h (ix2 0 c) : EReal) = ∑ x ∈ Finset.range (256 * (n + 1)), weight s m (key x) c
  | 0, h => (lChunk_at s m 0 h c).trans (by simp only [Nat.mul_zero, Nat.zero_add, Nat.mul_one])
  | n + 1, h => by
    rw [show 256 * (n + 1 + 1) = 256 * (n + 1) + 256 by omega, Finset.sum_range_add, ← lUpTo_at s m c n (by omega), ← lChunk_at s m (n + 1) h c]
    rfl

theorem accChunk_at (s : Vec Ideal S4096x1024 .f32) (m : Vec Ideal S1x1024 .f32) (v : Vec Ideal S1x128x4096 .bf16) (j : ℕ) (h : j < 16)
    (e : Fin 128) (c : Fin 1024) :
    (accChunk s m v j h (ix2 e c) : EReal) = ∑ x ∈ Finset.range 256, (v (ix3 0 e (key (256 * j + x))) : EReal) * weight s m (key (256 * j + x)) c := by
  unfold accChunk
  simp only [matmul]
  rw [show dot_S128x256_S256x1024_S128x1024_1_0_0_1_n_n = DotDims.plain 128 256 1024 from rfl]
  refine (Ideal.matmul_plain_apply (M := 128) (K := 256) (N := 1024) none _ _ _ e c).trans ?_
  have hz : (constant (F := Ideal) S128x1024 .f32 0x00000000#32 (ix2 e c) : EReal) = 0 := Ideal.ofBits_zero_f32
  rw [hz, zero_add]
  refine (Finset.sum_congr rfl fun r _ => ?_).trans
    (sum_fin 256 fun x => (v (ix3 0 e (key (256 * j + x))) : EReal) * weight s m (key (256 * j + x)) c)
  have e1 : (shapeCast S128x256 (View.ld v (Rect.unit ![0, 0, 256 * j] ![1, 128, 256] (inbV j h)) : Vec Ideal S1x128x256 .bf16) shapeCasts_S1x128x256_S128x256) (ix2 e r)
      = v (ix3 0 e (key (256 * j + r.val))) := by
    refine (shapeCast_dropUnit_apply ![128, 256] _ shapeCasts_S1x128x256_S128x256 (ix2 e r)).trans ?_
    refine View.ld_unit_apply_of _ _ _ _ _ _ fun a => ?_
    have : (key (256 * j + r.val)).val = 256 * j + r.val := Nat.mod_eq_of_lt (by have := r.isLt; omega)
    match a with
    | ⟨0, _⟩ => rfl
    | ⟨1, _⟩ => exact (Nat.zero_add _).symm
    | ⟨2, _⟩ => exact this
  have e2 : (truncf (F := Ideal) .bf16 (wChunk s m j h) bitsLt_bf16_f32 (ix2 r c) : EReal) = weight s m (key (256 * j + r.val)) c := wChunk_at s m j h r c
  exact congrArg₂ (fun a b : EReal => a * b) e1 e2

theorem accUpTo_at (s : Vec Ideal S4096x1024 .f32) (m : Vec Ideal S1x1024 .f32) (v : Vec Ideal S1x128x4096 .bf16) (e : Fin 128) (c : Fin 1024) :
    ∀ (n : ℕ) (h : n < 16), (accUpTo s m v n h (ix2 e c) : EReal)
      = ∑ x ∈ Finset.range (256 * (n + 1)), (v (ix3 0 e (key x)) : EReal) * weight s m (key x) c
  | 0, h => (accChunk_at s m v 0 h e c).trans (by simp only [Nat.mul_zero, Nat.zero_add, Nat.mul_one])
  | n + 1, h => by
    rw [show 256 * (n + 1 + 1) = 256 * (n + 1) + 256 by omega, Finset.sum_range_add, ← accUpTo_at s m v e c n (by omega), ← accChunk_at s m v (n + 1) h e c]
    rfl

/-- The tile of the result at query `c`, coordinate `e`: the values weighed by powers of two of the scores. -/
theorem outOf_at (k : Vec Ideal S1x4096x256 .bf16) (q : Vec Ideal S1x256x1024 .bf16) (v : Vec Ideal S1x128x4096 .bf16) (c : Fin 1024) (e : Fin 128) :
    (outOf (scoresOf k q) (maxOf k q) v (ix3 0 c e) : EReal)
      = weighOnce (fun y => score k q y c) (fun y => (v (ix3 0 e y) : EReal)) := by
  have hw : ∀ y, weight (scoresOf k q) (maxOf k q) y c = Ideal.exp2 (score k q y c - top fun y => score k q y c) := by
    intro y; unfold weight; rw [scoresOf_at, maxOf_at]
  have hl : (broadcastTo S128x1024 (lUpTo (scoresOf k q) (maxOf k q) 15 (by decide)) broadcasts_S1x1024_S128x1024 (ix2 e c) : EReal)
      = ∑ y : Fin 4096, Ideal.exp2 (score k q y c - top fun y => score k q y c) := by
    refine (broadcastTo_apply (s := S1x1024) (t := S128x1024) _ _ (ix2 e c) (ix2 0 c) fun a => match a with | ⟨0, _⟩ => rfl | ⟨1, _⟩ => rfl).trans ?_
    refine (lUpTo_at _ _ c 15 (by decide)).trans ((sum_fin 4096 _).symm.trans (Finset.sum_congr rfl fun y _ => ?_))
    rw [key_of_fin, hw]
  have ha : (accUpTo (scoresOf k q) (maxOf k q) v 15 (by decide) (ix2 e c) : EReal)
      = ∑ y : Fin 4096, (v (ix3 0 e y) : EReal) * Ideal.exp2 (score k q y c - top fun y => score k q y c) := by
    refine (accUpTo_at _ _ v e c 15 (by decide)).trans
      ((sum_fin 4096 fun x => (v (ix3 0 e (key x)) : EReal) * weight (scoresOf k q) (maxOf k q) (key x) c).symm.trans (Finset.sum_congr rfl fun y _ => ?_))
    rw [key_of_fin, hw]
  unfold outOf
  refine (shapeCast_addUnit_apply ![1024, 128] _ shapeCasts_S1024x128_S1x1024x128 (ix3 0 c e)).trans ?_
  have hi : (fun a : Fin 2 => (ix3 (n0 := 1) 0 c e) a.succ) = ix2 c e := funext fun a => match a with | ⟨0, _⟩ => rfl | ⟨1, _⟩ => rfl
  refine (congrArg _ hi).trans ?_
  refine Eq.trans (b := (transpose S1024x128 [1, 0] (divf (F := Ideal) (accUpTo (scoresOf k q) (maxOf k q) v 15 (by decide))
    (broadcastTo S128x1024 (lUpTo (scoresOf k q) (maxOf k q) 15 (by decide)) broadcasts_S1x1024_S128x1024)) transposes_S128x1024_p1_0_S1024x128 (ix2 c e) : EReal)) rfl ?_
  refine (transpose_ix2_apply (a := 128) (b := 1024) _ transposes_S128x1024_p1_0_S1024x128 c e).trans ?_
  exact congrArg₂ Ideal.div ha hl

end Cert.KernelIdeal.Attn

end
-- ==== Proof.Attn.Value.Attention.lean ====
/- The attention on whole arrays at the ideal values: queries and values lie heads by coordinates by positions, keys
   positions by heads by coordinates, the result positions by heads by coordinates. -/
module

public import proofs.«01_k».proof.Proof.Attn.Value.Softmax
public import Idealize.ShloMosaic.Lib.ValueIdxCore

@[expose] public section

noncomputable section

namespace Cert.Attn

open Idealize.ShloMosaic Idealize.ShloMosaic.ValueIdx
open scoped BigOperators

/-- The arrays. -/
abbrev Queries := (⟨3, ![16, 2048, 4096]⟩ : Shape).Idx → EReal
abbrev Keys := (⟨3, ![16, 4096, 2048]⟩ : Shape).Idx → EReal
abbrev Values := (⟨3, ![16, 1024, 4096]⟩ : Shape).Idx → EReal

/-- Coordinate `d` of head `h` among the queries and keys. -/
def qkRow (h : Fin 8) (d : Fin 256) : Fin 2048 := ⟨h.val * 256 + d.val, by have := h.isLt; have := d.isLt; omega⟩
/-- Coordinate `e` of head `h` among the values. -/
def vRow (h : Fin 8) (e : Fin 128) : Fin 1024 := ⟨h.val * 128 + e.val, by have := h.isLt; have := e.isLt; omega⟩

/-- The score of key `y` for query `r`, head `h`, sequence `b`. -/
def scoreAt (Q : Queries) (K : Keys) (b : Fin 16) (h : Fin 8) (r y : Fin 4096) : EReal :=
  ∑ d : Fin 256, K (ix3 b y (qkRow h d)) * Q (ix3 b (qkRow h d) r)

/-- One entry of the attention as the kernel computes it, -/
def kernelAt (Q : Queries) (K : Keys) (V : Values) (b : Fin 16) (h : Fin 8) (r : Fin 4096) (e : Fin 128) : EReal :=
  weighOnce (scoreAt Q K b h r) fun y => V (ix3 b (vRow h e) y)
/-- and as the softmax of the scores. -/
def softmaxAt (Q : Queries) (K : Keys) (V : Values) (b : Fin 16) (h : Fin 8) (r : Fin 4096) (e : Fin 128) : EReal :=
  softmax ((Real.log 2 : ℝ) : EReal) (scoreAt Q K b h r) fun y => V (ix3 b (vRow h e) y)

/-- The head and the coordinate of a column of the result. -/
def colHead (x : Fin 1024) : Fin 8 := ⟨x.val / 128, by have := x.isLt; omega⟩
def colCoord (x : Fin 1024) : Fin 128 := ⟨x.val % 128, Nat.mod_lt _ (by decide)⟩

/-- A product of reals is real. -/
theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- Queries and keys being real, so are the scores. -/
theorem scoreAt_real (Q : Queries) (K : Keys) (hQ : ∀ i, ∃ r : ℝ, Q i = r) (hK : ∀ i, ∃ r : ℝ, K i = r)
    (b : Fin 16) (h : Fin 8) (r y : Fin 4096) : ∃ x : ℝ, scoreAt Q K b h r y = x := by
  have hp : ∀ d : Fin 256, ∃ x : ℝ, K (ix3 b y (qkRow h d)) * Q (ix3 b (qkRow h d) r) = x := fun d => real_mul (hK _) (hQ _)
  choose p hp using hp
  exact ⟨∑ d, p d, by unfold scoreAt; simp only [hp]; exact sum_coe _ p⟩

/-- So the two are the same. -/
theorem kernelAt_eq (Q : Queries) (K : Keys) (V : Values) (hQ : ∀ i, ∃ r : ℝ, Q i = r) (hK : ∀ i, ∃ r : ℝ, K i = r)
    (b : Fin 16) (h : Fin 8) (r : Fin 4096) (e : Fin 128) : kernelAt Q K V b h r e = softmaxAt Q K V b h r e :=
  weighOnce_eq_softmax (by decide) _ _ fun y => scoreAt_real Q K hQ hK b h r y

end Cert.Attn

end
-- ==== Proof.Attn.Value.Array.lean ====
/- The attention kernel's result array at the ideal values: every point but the first writes back the tile scored at the
   point before, and together the tiles are the array. -/
module

public import proofs.«01_k».proof.Proof.Attn.KernelIdeal.Frame
public import proofs.«01_k».proof.Proof.Attn.Value.Block
public import proofs.«01_k».proof.Proof.Attn.Value.Attention
public import Idealize.ShloMosaic.Lib.Pipeline.ValueKit.Geometry

@[expose] public section

noncomputable section

namespace Cert.KernelIdeal.Attn

open Idealize.ShloMosaic Idealize.ShloMosaic.TcCoe Idealize.ShloMosaic.ValueIdx
open Idealize.SL Idealize.SL.Sem
open Cert.Attn Cert.KernelIdeal.Gen
open scoped BigOperators

variable (m : (ℓ : Loc nD τ sig) → Buf (Elt Ideal) ℓ) (ρ : Dev nD → PrngReg)

/-- The three argument arrays. -/
def argQ (c : Dev nD) : Queries := m ((c.tc : Thread nD τ).loc main_arg0)
def argK (c : Dev nD) : Keys := m ((c.tc : Thread nD τ).loc main_arg1)
def argV (c : Dev nD) : Values := m ((c.tc : Thread nD τ).loc main_arg2)

/-! ## Which blocks a point holds -/

theorem index_q : ∀ t : Fin cfg0.N, t.val < 512 → win0_0.index t = ![t.val / 32, t.val / 4 % 8, t.val % 4] :=
  (by decide +kernel : ∀ t : Fin grid0.N, t.val < 512 → win0_0.index t = ![t.val / 32, t.val / 4 % 8, t.val % 4])
theorem index_k : ∀ t : Fin cfg0.N, t.val < 512 → win0_1.index t = ![t.val / 32, 0, t.val / 4 % 8] :=
  (by decide +kernel : ∀ t : Fin grid0.N, t.val < 512 → win0_1.index t = ![t.val / 32, 0, t.val / 4 % 8])
theorem index_v : ∀ t : Fin cfg0.N, t.val ≠ 0 → win0_2.index t = ![(t.val - 1) / 32, (t.val - 1) / 4 % 8, 0] :=
  (by decide +kernel : ∀ t : Fin grid0.N, t.val ≠ 0 → win0_2.index t = ![(t.val - 1) / 32, (t.val - 1) / 4 % 8, 0])
theorem index_o : ∀ t : Fin cfg0.N, t.val ≠ 0 → win0_3.index t = ![(t.val - 1) / 32, (t.val - 1) % 4, (t.val - 1) / 4 % 8] :=
  (by decide +kernel : ∀ t : Fin grid0.N, t.val ≠ 0 → win0_3.index t = ![(t.val - 1) / 32, (t.val - 1) % 4, (t.val - 1) / 4 % 8])

/-- The sequence, the head and the query tile of tile `n`. -/
def tileB (n : ℕ) : Fin 16 := ⟨n / 32 % 16, Nat.mod_lt _ (by decide)⟩
def tileH (n : ℕ) : Fin 8 := ⟨n / 4 % 8, Nat.mod_lt _ (by decide)⟩
def tileRow (n : ℕ) (r : Fin 1024) : Fin 4096 := ⟨n % 4 * 1024 + r.val, by have := r.isLt; have := Nat.mod_lt n (show 0 < 4 by decide); omega⟩

theorem blk_q (c : Dev nD) (t : Fin cfg0.N) (h : t.val < 512) (d : Fin 256) (r : Fin 1024) :
    (iblk m c 0 t (ix3 0 d r) : EReal) = argQ m c (ix3 (tileB t.val) (qkRow (tileH t.val) d) (tileRow t.val r)) := by
  have e := index_q t h
  have h1 : (tileB t.val).val = t.val / 32 := Nat.mod_eq_of_lt (by omega)
  blk_simp [iblk]
  refine congrArg (argQ m c) (funext fun a => Fin.ext ?_)
  fin_cases a
  · blk_simp [e]; simp [h1]
  · blk_simp [e]; simp [qkRow, tileH]
  · blk_simp [e]; simp [tileRow]

theorem blk_k (c : Dev nD) (t : Fin cfg0.N) (h : t.val < 512) (y : Fin 4096) (d : Fin 256) :
    (iblk m c 1 t (ix3 0 y d) : EReal) = argK m c (ix3 (tileB t.val) y (qkRow (tileH t.val) d)) := by
  have e := index_k t h
  have h1 : (tileB t.val).val = t.val / 32 := Nat.mod_eq_of_lt (by omega)
  blk_simp [iblk]
  refine congrArg (argK m c) (funext fun a => Fin.ext ?_)
  fin_cases a
  · blk_simp [e]; simp [h1]
  · blk_simp [e]
  · blk_simp [e]; simp [qkRow, tileH]

theorem blk_v (c : Dev nD) (t : Fin cfg0.N) (h : t.val ≠ 0) (e : Fin 128) (y : Fin 4096) :
    (iblk m c 2 t (ix3 0 e y) : EReal) = argV m c (ix3 (tileB (t.val - 1)) (vRow (tileH (t.val - 1)) e) y) := by
  have ei := index_v t h
  have hN := N_eq
  have h1 : (tileB (t.val - 1)).val = (t.val - 1) / 32 := Nat.mod_eq_of_lt (by have := t.isLt; omega)
  blk_simp [iblk]
  refine congrArg (argV m c) (funext fun a => Fin.ext ?_)
  fin_cases a
  · blk_simp [ei]; simp [h1]
  · blk_simp [ei]; simp [vRow, tileH]
  · blk_simp [ei]

/-- The tile finished at a point, at an index. -/
theorem outAt_at (c : Dev nD) (t : Fin cfg0.N) (h : t.val ≠ 0) (r : Fin 1024) (e : Fin 128) :
    (outAt m c t (ix3 0 r e) : EReal)
      = kernelAt (argQ m c) (argK m c) (argV m c) (tileB (t.val - 1)) (tileH (t.val - 1)) (tileRow (t.val - 1) r) e := by
  have hN := N_eq
  have hp : (prev t).val < 512 := by have := t.isLt; show t.val - 1 < 512; omega
  refine (outOf_at (iblk m c 1 (prev t)) (iblk m c 0 (prev t)) (iblk m c 2 t) r e).trans ?_
  unfold kernelAt
  congr 1
  · funext y
    unfold score scoreAt
    refine Finset.sum_congr rfl fun d _ => ?_
    rw [blk_k m c (prev t) hp, blk_q m c (prev t) hp]
    rfl
  · funext y
    exact blk_v m c t h e y

/-- The whole array. -/
def result (Q : Queries) (K : Keys) (V : Values) : (⟨3, ![16, 4096, 1024]⟩ : Shape).Idx → EReal := fun i =>
  kernelAt Q K V (i 0) (colHead (i 2)) (i 1) (colCoord (i 2))

theorem final_o (c : Dev nD) : (dats m 0 c).arrAt 3 cfg0.N = result (argQ m c) (argK m c) (argV m c) := by
  refine (dats m 0 c).arrAt_eq_of_covers 3 _ (by decide +kernel) fun t hf y => ?_
  have h0 : t.val ≠ 0 := of_decide_eq_true ((flush_out t).symm.trans hf)
  have hN := N_eq
  have e := index_o t h0
  have ht : t.val < 513 := N_eq ▸ t.isLt
  have h1 : (tileB (t.val - 1)).val = (t.val - 1) / 32 := Nat.mod_eq_of_lt (by omega)
  blk_simp
  rw [after_o]
  obtain ⟨a, r, x, rfl⟩ : ∃ (a : Fin 1) (r : Fin 1024) (x : Fin 128), y = ix3 a r x := ⟨y 0, y 1, y 2, eq_ix3 y⟩
  obtain rfl : a = 0 := Subsingleton.elim _ _
  refine (outAt_at m c t h0 r x).trans ?_
  unfold result
  have e0 : ((win0_3.blk t).view.emb (ix3 0 r x)) 0 = tileB (t.val - 1) := by
    apply Fin.ext; blk_simp [e]; simp [h1]
  have e1 : ((win0_3.blk t).view.emb (ix3 0 r x)) 1 = tileRow (t.val - 1) r := by
    apply Fin.ext; blk_simp [e]; simp [tileRow]; rfl
  have e2 : (((win0_3.blk t).view.emb (ix3 0 r x)) 2).val = (t.val - 1) / 4 % 8 * 128 + x.val := by
    blk_simp [e]; simp; rfl
  have e3 : colHead (((win0_3.blk t).view.emb (ix3 0 r x)) 2) = tileH (t.val - 1) := by
    apply Fin.ext; show _ / 128 = (t.val - 1) / 4 % 8; rw [e2]; have := x.isLt; omega
  have e4 : colCoord (((win0_3.blk t).view.emb (ix3 0 r x)) 2) = x := by
    apply Fin.ext; show _ % 128 = x.val; rw [e2]; have := x.isLt; omega
  rw [e0, e1, e3, e4]

end Cert.KernelIdeal.Attn

end
-- ==== Proof.Attn.Value.Reference.lean ====
/- The reference at the ideal values, read at an index: the softmax of ln 2 times the scores, weighing the values. -/
module

public import proofs.«01_k».proof.Proof.Gen.ReferenceIdeal.Read
public import proofs.«01_k».proof.Proof.Attn.Value.Attention
public import proofs.«01_k».proof.Proof.Attn.Value.Range

@[expose] public section

noncomputable section

namespace Cert.ReferenceIdeal.Attn

open Idealize.ShloMosaic Idealize.ShloMosaic.ValueIdx
open Cert.Attn Cert.ReferenceIdeal.Gen Cert.ReferenceIdeal.Read
open scoped BigOperators

variable (Q : Queries) (K : Keys) (V : Values)

/-- The constant 2 and its logarithm. -/
theorem ofBits_two : Ideal.ofBits .f32 0x40000000#32 = ((2 : ℝ) : EReal) := by
  simp [Ideal.ofBits, Ideal.ieee]
  rw [← EReal.coe_mul]
  norm_num
theorem log_two (i) : (val_main_v9 (F := Ideal) i : EReal) = ((Real.log 2 : ℝ) : EReal) := by
  show Ideal.log (Ideal.ofBits .f32 0x40000000#32) = _
  rw [ofBits_two]
  simp

theorem query_at (b : Fin 16) (h : Fin 8) (d : Fin 256) (r : Fin 4096) :
    (val_main_v1 (F := Ideal) Q (ix4 b h d r) : EReal) = Q (ix3 b (qkRow h d) r) := by
  rw [val_main_v1_apply]
  refine congrArg Q (funext fun a => Fin.ext ?_)
  have := b.isLt; have := h.isLt; have := d.isLt; have := r.isLt
  match a with
  | ⟨0, _⟩ => show (((b.val * 8 + h.val) * 256 + d.val) * 4096 + r.val) / 8388608 = b.val; omega
  | ⟨1, _⟩ => show (((b.val * 8 + h.val) * 256 + d.val) * 4096 + r.val) / 4096 % 2048 = h.val * 256 + d.val; omega
  | ⟨2, _⟩ => show (((b.val * 8 + h.val) * 256 + d.val) * 4096 + r.val) % 4096 = r.val; omega

theorem key_at (b : Fin 16) (y : Fin 4096) (h : Fin 8) (d : Fin 256) :
    (val_main_v3 (F := Ideal) K (ix4 b y h d) : EReal) = K (ix3 b y (qkRow h d)) := by
  rw [val_main_v3_apply]
  refine congrArg K (funext fun a => Fin.ext ?_)
  have := b.isLt; have := h.isLt; have := d.isLt; have := y.isLt
  match a with
  | ⟨0, _⟩ => show (((b.val * 4096 + y.val) * 8 + h.val) * 256 + d.val) / 8388608 = b.val; omega
  | ⟨1, _⟩ => show (((b.val * 4096 + y.val) * 8 + h.val) * 256 + d.val) / 2048 % 4096 = y.val; omega
  | ⟨2, _⟩ => show (((b.val * 4096 + y.val) * 8 + h.val) * 256 + d.val) % 2048 = h.val * 256 + d.val; omega

theorem value_at (b : Fin 16) (h : Fin 8) (e : Fin 128) (y : Fin 4096) :
    (val_main_v5 (F := Ideal) V (ix4 b h e y) : EReal) = V (ix3 b (vRow h e) y) := by
  rw [val_main_v5_apply]
  refine congrArg V (funext fun a => Fin.ext ?_)
  have := b.isLt; have := h.isLt; have := e.isLt; have := y.isLt
  match a with
  | ⟨0, _⟩ => show (((b.val * 8 + h.val) * 128 + e.val) * 4096 + y.val) / 4194304 = b.val; omega
  | ⟨1, _⟩ => show (((b.val * 8 + h.val) * 128 + e.val) * 4096 + y.val) / 4096 % 1024 = h.val * 128 + e.val; omega
  | ⟨2, _⟩ => show (((b.val * 8 + h.val) * 128 + e.val) * 4096 + y.val) % 4096 = y.val; omega

theorem score_at (b : Fin 16) (h : Fin 8) (r y : Fin 4096) :
    (val_main_v6 (F := Ideal) Q K (ix4 b h r y) : EReal) = scoreAt Q K b h r y := by
  rw [val_main_v6_apply]
  unfold scoreAt
  refine Finset.sum_congr rfl fun d _ => ?_
  refine Eq.trans (congrArg₂ (fun x z : EReal => x * z) (Eq.trans (congrArg _ ?_) (query_at Q b h d r)) (Eq.trans (congrArg _ ?_) (key_at K b y h d))) (mul_comm _ _)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

/-- The score times ln 2. -/
def scaled (b : Fin 16) (h : Fin 8) (r y : Fin 4096) : EReal := scoreAt Q K b h r y * ((Real.log 2 : ℝ) : EReal)

theorem scaled_at (b : Fin 16) (h : Fin 8) (r y : Fin 4096) :
    (val_main_v12 (F := Ideal) Q K (ix4 b h r y) : EReal) = scaled Q K b h r y := by
  rw [val_main_v12_apply, val_main_v11_apply]
  exact congrArg₂ (fun x z : EReal => x * z) (score_at Q K b h r y) (log_two _)

theorem max_at (b : Fin 16) (h : Fin 8) (r : Fin 4096) :
    (val_main_v15 (F := Ideal) Q K (ix3 b h r) : EReal) = top fun y => scaled Q K b h r y := by
  rw [val_main_v15_apply, val_main_v14_apply]
  have e13 : (val_main_v13 (F := Ideal) Q K (ix3 b h r) : EReal) = top fun y => scaled Q K b h r y := by
    unfold val_main_v13
    refine (Host.reduce_eq_fold_single (α := EReal) max _ _ _ (by decide) _ _).trans ?_
    rw [show (val_main_cst_0 (F := Ideal) (Shape.Idx.first h_S_) : EReal) = ⊥ from ofBits_neg_inf]
    refine (fold_max_bot _ _).trans (Finset.sup_congr rfl fun y _ => ?_)
    refine Eq.trans (congrArg (val_main_v12 (F := Ideal) Q K) ?_) (scaled_at Q K b h r y)
    funext a; apply Fin.ext
    match a with | ⟨0, _⟩ => rfl | ⟨1, _⟩ => rfl | ⟨2, _⟩ => rfl | ⟨3, _⟩ => rfl
  have e14 : (val_main_cst_1 (F := Ideal) (idx_main_v14 (ix3 b h r)) : EReal) = ⊥ := ofBits_neg_inf
  refine (congrArg₂ (fun x z : EReal => max x z) e14 e13).trans (max_eq_right bot_le)

theorem exp_at (b : Fin 16) (h : Fin 8) (r y : Fin 4096) :
    (val_main_v19 (F := Ideal) Q K (ix4 b h r y) : EReal) = Ideal.exp (scaled Q K b h r y - top fun y => scaled Q K b h r y) := by
  rw [val_main_v19_apply, val_main_v18_apply, val_main_v17_apply, val_main_v16_apply]
  refine congrArg Ideal.exp (congrArg₂ (fun x z : EReal => x - z) (scaled_at Q K b h r y) ?_)
  refine Eq.trans (congrArg _ ?_) (max_at Q K b h r)
  funext a; match a with | ⟨0, _⟩ => rfl | ⟨1, _⟩ => rfl | ⟨2, _⟩ => rfl

theorem sum_at (b : Fin 16) (h : Fin 8) (r : Fin 4096) :
    (val_main_v20 (F := Ideal) Q K (ix3 b h r) : EReal) = ∑ y, Ideal.exp (scaled Q K b h r y - top fun y => scaled Q K b h r y) := by
  rw [val_main_v20_apply, show (val_main_cst_2 (F := Ideal) (Shape.Idx.first h_S_) : EReal) = 0 from Ideal.ofBits_zero_f32, zero_add]
  refine Finset.sum_congr rfl fun y _ => Eq.trans (congrArg _ ?_) (exp_at Q K b h r y)
  funext a; match a with | ⟨0, _⟩ => rfl | ⟨1, _⟩ => rfl | ⟨2, _⟩ => rfl | ⟨3, _⟩ => rfl

theorem weight_at (b : Fin 16) (h : Fin 8) (r y : Fin 4096) :
    (val_main_v25 (F := Ideal) Q K (ix4 b h r y) : EReal)
      = Ideal.div (Ideal.exp (scaled Q K b h r y - top fun y => scaled Q K b h r y)) (∑ y, Ideal.exp (scaled Q K b h r y - top fun y => scaled Q K b h r y)) := by
  rw [val_main_v25_apply, val_main_v24_apply, val_main_v23_apply, val_main_v22_apply, val_main_v21_apply]
  refine congrArg₂ Ideal.div (exp_at Q K b h r y) (Eq.trans (congrArg _ ?_) (sum_at Q K b h r))
  funext a; match a with | ⟨0, _⟩ => rfl | ⟨1, _⟩ => rfl | ⟨2, _⟩ => rfl

theorem weighed_at (b : Fin 16) (h : Fin 8) (e : Fin 128) (r : Fin 4096) :
    (val_main_v26 (F := Ideal) Q K V (ix4 b h e r) : EReal) = softmaxAt Q K V b h r e := by
  rw [val_main_v26_apply]
  unfold softmaxAt softmax
  refine Finset.sum_congr rfl fun y _ => ?_
  refine congrArg₂ (fun x z : EReal => x * z) (Eq.trans (congrArg (val_main_v5 (F := Ideal) V) ?_) (value_at V b h e y)) (Eq.trans (congrArg (val_main_v25 (F := Ideal) Q K) ?_) (weight_at Q K b h r y))
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

/-- The reference's result at an index. -/
theorem result_at (b : Fin 16) (r : Fin 4096) (x : Fin 1024) :
    (val_main_v29 (F := Ideal) Q K V (ix3 b r x) : EReal) = softmaxAt Q K V b (colHead x) r (colCoord x) := by
  rw [val_main_v29_apply, val_main_v28_apply, val_main_v27_apply]
  refine Eq.trans (congrArg (val_main_v26 (F := Ideal) Q K V) (funext fun a => Fin.ext ?_)) (weighed_at Q K V b (colHead x) (colCoord x) r)
  have := b.isLt; have := r.isLt; have := x.isLt
  match a with
  | ⟨0, _⟩ => show ((b.val * 4096 + r.val) * 1024 + x.val) / 4194304 = b.val; omega
  | ⟨1, _⟩ => show ((b.val * 4096 + r.val) * 1024 + x.val) / 128 % 8 = x.val / 128; omega
  | ⟨2, _⟩ => show ((b.val * 4096 + r.val) * 1024 + x.val) % 128 = x.val % 128; omega
  | ⟨3, _⟩ => show ((b.val * 4096 + r.val) * 1024 + x.val) / 1024 % 4096 = r.val; omega

end Cert.ReferenceIdeal.Attn

end
-- ==== Proof.Attn.Value.Finite.lean ====
/- What the precondition says at the ideal values: no query and no key is infinite, so every one is a real number. -/
module

public import proofs.«01_k».proof.Proof.Gen.Pre_finite_scores
public import proofs.«01_k».proof.Proof.Attn.Value.Attention
public import Idealize.ShloMosaic.Lib.ReduceAll
public import Idealize.ShloMosaic.Lib.Affine

@[expose] public section

noncomputable section

namespace Cert.Attn

open Idealize.ShloMosaic Idealize.ShloMosaic.ValueIdx
open Cert.Pre_finite_scores (Facts)

/-- A number whose absolute value is below infinity is real. -/
theorem real_of_abs_lt (x : EReal) (h : max x (-x) < ⊤) : ∃ r : ℝ, x = r := by
  induction x with
  | bot => simp at h
  | top => simp at h
  | coe r => exact ⟨r, rfl⟩

theorem ofBits_inf : Ideal.ofBits .f32 0x7F800000#32 = ⊤ := by simp [Ideal.ofBits, Ideal.ieee]

/-- A comparison of absolute values with infinity that holds. -/
theorem abs_lt_of_cmp (x : EReal) (h : FloatOps.cmpf (F := Ideal) (φ := .f32) .olt (max x (-x) : EReal) (Ideal.ofBits .f32 0x7F800000#32) = 1#1) :
    max x (-x) < ⊤ := by
  rw [ofBits_inf, Ideal.cmpf_def] at h
  have h' : BitVec.ofBool (decide (max x (-x) < ⊤)) = 1#1 := h
  by_contra hn
  rw [decide_eq_false hn] at h'
  exact absurd h' (by decide)

theorem finite [Facts] (Q : Queries) (K : Keys) (V : Values)
    (h : Cert.Pre_finite_scores.fn (F := Ideal) Q K V = fun _ => 1#1) : (∀ i, ∃ r : ℝ, Q i = r) ∧ (∀ i, ∃ r : ℝ, K i = r) := by
  have h0 := congrFun h ix0
  dsimp only [Cert.Pre_finite_scores.fn] at h0
  obtain ⟨hq, hk⟩ := IntOp.andi_eq_one.1 h0
  haveI : Subsingleton Cert.Pre_finite_scores.S_.Idx := ⟨fun a b => funext fun x => x.elim0⟩
  exact ⟨fun i => real_of_abs_lt _ (abs_lt_of_cmp _ (Host.reduce_andi_all _ _ _ _ _ hq i)),
    fun i => real_of_abs_lt _ (abs_lt_of_cmp _ (Host.reduce_andi_all _ _ _ _ _ hk i))⟩

end Cert.Attn

end
-- ==== Proof.Attn.Value.Claim.lean ====
/- The attention's claims: the reference's frame, and that where no query and no key is infinite the kernel's result is the
   reference's. -/
module

public import proofs.«01_k».proof.Defs
public import proofs.«01_k».proof.Proof.Gen.ReferenceIdeal.Run
public import proofs.«01_k».proof.Proof.Attn.Value.Array
public import proofs.«01_k».proof.Proof.Attn.Value.Reference
public import proofs.«01_k».proof.Proof.Attn.Value.Finite
public import Idealize.ShloMosaic.Lib.Quiescent

@[expose] public section

noncomputable section

namespace Cert.Attn

open Idealize.ShloMosaic Idealize.ShloMosaic.TcCoe Idealize.ShloMosaic.ValueIdx Idealize.SL.Sem

/-- The reference's frame. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun _ h => ⟨fun c => (h c).2, sem_eq_zero_of_no_sems rfl _⟩) (Cert.ReferenceIdeal.Value.run m ρ)

/-- The kernel's result is the reference's. -/
theorem same_result (Q : Queries) (K : Keys) (V : Values) (hQ : ∀ i, ∃ r : ℝ, Q i = r) (hK : ∀ i, ∃ r : ℝ, K i = r) :
    Cert.ReferenceIdeal.Read.val_main_v29 (F := Ideal) Q K V = Cert.KernelIdeal.Attn.result Q K V := by
  funext i
  obtain ⟨b, r, x, rfl⟩ : ∃ (b : Fin 16) (r : Fin 4096) (x : Fin 1024), i = ix3 b r x := ⟨i 0, i 1, i 2, eq_ix3 i⟩
  exact (Cert.ReferenceIdeal.Attn.result_at Q K V b r x).trans (kernelAt_eq Q K V hQ hK _ _ _ _).symm

theorem algebraic : Cert.algebraic_KernelIdeal_ReferenceIdeal_pre_finite_scores := by
  intro m g m' g' hpre hargs
  refine ⟨fun c => (Cert.KernelIdeal.Attn.dats m 0 c).arrAt 3 Cert.KernelIdeal.cfg0.N, ?_, ?_⟩
  · refine (θ_run _ _ _).mono (fun r h c => ⟨(h.1 c).1 3, (h.2.1 c).1, (h.2.1 c).2.1, (h.2.1 c).2.2⟩)
      (θ_run_and (Cert.KernelIdeal.Attn.run_main m g) (Cert.KernelIdeal.Attn.frame m g))
  · refine (θ_run _ _ _).mono (fun r h c => ⟨(h c).1.trans ?_, (h c).2⟩) (Cert.ReferenceIdeal.Value.run m' g')
    obtain ⟨hQ, hK⟩ := finite _ _ _ (hpre c)
    obtain ⟨e0, e1, e2⟩ := hargs c
    rw [e0, e1, e2]
    exact (Cert.ReferenceIdeal.Read.val_main_v29_eq _ _ _).trans
      ((same_result _ _ _ hQ hK).trans (Cert.KernelIdeal.Attn.final_o m c).symm)

end Cert.Attn

end
-- ==== Proof.Ffn.Tile.lean ====
/- The tile operations of the feed-forward half-step, each written once: the normalisation of 1024 rows, the activations of
   256 hidden units, and the product with the second weight accumulated chunk by chunk. -/
module

public import Idealize.ShloMosaic.Lib.MatmulPlain
public import Idealize.ShloMosaic.Lib.ValueLayout
public import Idealize.ShloMosaic.Lib.Pipeline.ValueKit.Tiles

@[expose] public section

noncomputable section

namespace Cert.Ffn

open Idealize.ShloMosaic

variable {F : FTy → Type} [FloatOps F]

/-- A tile of 1024 rows, the activations of 256 hidden units at those rows, and the other shapes the operations pass through. -/
abbrev Rows : Shape := ⟨2, ![1024, 1024]⟩
abbrev Units : Shape := ⟨2, ![1024, 256]⟩
abbrev Pair : Shape := ⟨2, ![1024, 512]⟩
abbrev Col : Shape := ⟨2, ![1024, 1]⟩
abbrev Row : Shape := ⟨2, ![1, 1024]⟩
abbrev Flat : Shape := ⟨1, ![1024]⟩
abbrev Scale : Shape := ⟨4, ![1, 1, 1, 1024]⟩
abbrev InChunk : Shape := ⟨4, ![1, 1, 1024, 256]⟩
abbrev In : Shape := ⟨4, ![1, 1, 1024, 5632]⟩
abbrev Out : Shape := ⟨5, ![1, 1, 11, 256, 1024]⟩
abbrev OutPair : Shape := ⟨5, ![1, 1, 2, 256, 1024]⟩
abbrev OutOne : Shape := ⟨5, ![1, 1, 1, 256, 1024]⟩
abbrev OutMid : Shape := ⟨3, ![2, 256, 1024]⟩
abbrev OutRows : Shape := ⟨2, ![512, 1024]⟩
abbrev OutLast : Shape := ⟨2, ![256, 1024]⟩

theorem less : FTy.bits .bf16 < FTy.bits .f32 := by decide
theorem redRows : Rows.Reduces [1] Flat := by decide
theorem castCol : Flat.ShapeCasts Col := by decide
theorem castScale : Scale.ShapeCasts Row := by decide
theorem castIn : InChunk.ShapeCasts Units := by decide
theorem castRows : Rows.ShapeCasts Rows := by decide
theorem castMid : OutPair.ShapeCasts OutMid := by decide
theorem castPair : OutMid.ShapeCasts OutRows := by decide
theorem castOne : OutOne.ShapeCasts OutLast := by decide
theorem castRow : Row.ShapeCasts Row := by decide
theorem bcCol : Col.Broadcasts Rows := by decide
theorem bcRow : Row.Broadcasts Rows := by decide
theorem catUnits : Shape.Concatenates [Units, Units] Pair 1 := by decide

/-- Each row over its root mean square, scaled. -/
def normT (x : FVec F Rows .f32) (g : FVec F Row .f32) : FVec F Rows .f32 :=
  mulf (mulf x (broadcastTo Rows (rsqrt (addf (divf (shapeCast Col (multiReduction .add [1] Flat (mulf x x) 0x00000000#32 redRows (.inl rfl) rfl) castCol)
    (broadcast Col (Scalar.ofBits .f32 0x44800000#32))) (broadcast Col (Scalar.ofBits .f32 0x358637BD#32)))) bcCol)) (broadcastTo Rows g bcRow)

/-- The rows times 256 columns of the first weight. -/
def projT (y : FVec F Rows .bf16) (w : Vec F InChunk .bf16) : FVec F Units .f32 :=
  matmul (DotDims.plain 1024 1024 256) none y (shapeCast Units w castIn) (constant Units .f32 0x00000000#32)

/-- The activations of 256 hidden units. -/
def actT (y : FVec F Rows .bf16) (wg wu : Vec F InChunk .bf16) : FVec F Units .bf16 :=
  truncf .bf16 (mulf (mulf (projT y wg) (logistic (projT y wg))) (projT y wu)) less

/-- The product of 512 hidden units with the second weight, added to what is there. -/
def pairT (acc : FVec F Rows .f32) (a0 a1 : FVec F Units .bf16) (wo : Vec F OutPair .bf16) : FVec F Rows .f32 :=
  addf (shapeCast Rows acc castRows) (matmul (DotDims.plain 1024 512 1024) none
    (concatenate Pair 1 [⟨Units, a0⟩, ⟨Units, a1⟩] catUnits) (shapeCast OutRows (shapeCast OutMid wo castMid) castPair) (constant Rows .f32 0x00000000#32))

/-- The product of the last 256 hidden units with the second weight, added to what is there. -/
def lastT (acc : FVec F Rows .f32) (a : FVec F Units .bf16) (wo : Vec F OutOne .bf16) : FVec F Rows .f32 :=
  addf (shapeCast Rows acc castRows) (matmul (DotDims.plain 1024 256 1024) none a (shapeCast OutLast wo castOne) (constant Rows .f32 0x00000000#32))

/-- Half of a tile added to another. -/
def halfT (x s : FVec F Rows .f32) : FVec F Rows .f32 :=
  addf x (mulf (broadcast Rows (Scalar.ofBits .f32 0x3F000000#32)) (shapeCast Rows s castRows))

theorem inbIn (n : ℕ) (h : n ≤ 5376) : ∀ a, ![0, 0, 0, n] a + ![1, 1, 1024, 256] a ≤ In.size a := fun a => match a with
  | ⟨0, _⟩ => Nat.le_refl 1
  | ⟨1, _⟩ => Nat.le_refl 1
  | ⟨2, _⟩ => Nat.le_of_eq (Nat.zero_add 1024)
  | ⟨3, _⟩ => by show n + 256 ≤ 5632; omega
theorem inbOut (n k : ℕ) (h : n + k ≤ 11) : ∀ a, ![0, 0, n, 0, 0] a + ![1, 1, k, 256, 1024] a ≤ Out.size a := fun a => match a with
  | ⟨0, _⟩ => Nat.le_refl 1
  | ⟨1, _⟩ => Nat.le_refl 1
  | ⟨2, _⟩ => h
  | ⟨3, _⟩ => Nat.le_of_eq (Nat.zero_add 256)
  | ⟨4, _⟩ => Nat.le_of_eq (Nat.zero_add 1024)

/-- 256 columns of the first weight, from column `n`. -/
abbrev colsT (win : Vec F In .bf16) (n : ℕ) (h : n ≤ 5376) : Vec F InChunk .bf16 :=
  View.ld win (Rect.unit ![0, 0, 0, n] ![1, 1, 1024, 256] (inbIn n h))

/-- The activations of the hidden units from `n`. -/
def actOf (y : FVec F Rows .bf16) (win : Vec F In .bf16) (n : ℕ) (h : n ≤ 2560) : FVec F Units .bf16 :=
  actT y (colsT win n (by omega)) (colsT win (2816 + n) (by omega))

/-- The product over the first `512 n` hidden units. -/
def accT (y : FVec F Rows .bf16) (win : Vec F In .bf16) (wout : Vec F Out .bf16) : (n : ℕ) → n ≤ 5 → FVec F Rows .f32
  | 0, _ => broadcast Rows (Scalar.ofBits .f32 0x00000000#32)
  | n + 1, h => pairT (accT y win wout n (by omega)) (actOf y win (512 * n) (by omega)) (actOf y win (512 * n + 256) (by omega))
      (View.ld wout (Rect.unit ![0, 0, 2 * n, 0, 0] ![1, 1, 2, 256, 1024] (inbOut (2 * n) 2 (by omega))))

/-- The product over all hidden units. -/
def sumT (y : FVec F Rows .bf16) (win : Vec F In .bf16) (wout : Vec F Out .bf16) : FVec F Rows .f32 :=
  lastT (accT y win wout 5 (by decide)) (actOf y win 2560 (by decide)) (View.ld wout (Rect.unit ![0, 0, 10, 0, 0] ![1, 1, 1, 256, 1024] (inbOut 10 1 (by decide))))

/-- The half-step of a tile. -/
def stepT (x : FVec F Rows .f32) (g : FVec F Scale .f32) (win : Vec F In .bf16) (wout : Vec F Out .bf16) : FVec F Rows .f32 :=
  halfT x (sumT (truncf .bf16 (normT x (shapeCast Row g castScale)) less) win wout)

end Cert.Ffn

end
-- ==== Proof.Ffn.Pieces.lean ====
/- What the feed-forward kernel leaves in its output block: the half-step of the tile. The block is stored eight times over;
   each store covers it, and each load of it reads the store before. -/
module

public import proofs.«01_k».proof.Proof.Gen.Kernel2Ideal.Frame
public import proofs.«01_k».proof.Proof.Ffn.Tile
public import Idealize.ShloMosaic.Lib.VecWindow

@[expose] public section

set_option maxRecDepth 16384

noncomputable section

namespace Cert.Kernel2Ideal.Ffn

open Idealize.ShloMosaic Idealize.ShloMosaic.TcCoe Idealize.ShloMosaic.Tactic
open Cert.Kernel2Ideal.Gen Cert.Ffn

variable {F : FTy → Type} [FloatOps F]

/-- What the loads of the output block read: the product over the first hidden units, 512 more each time, and in the end
    over all. -/
theorem load0 (c : Dev nD) (arg1 : Memref sig .tc .vmem S1024x1024 .f32) (harg1 : arg1.IsWhole) (arg2 : Memref sig .tc .vmem S1x1x1x1024 .f32) (harg2 : arg2.IsWhole) (arg3 : Memref sig .tc .vmem S1x1x1024x5632 .bf16) (harg3 : arg3.IsWhole) (arg4 : Memref sig .tc .vmem S1x1x11x256x1024 .bf16) (harg4 : arg4.IsWhole) (arg5 : Memref sig .tc .vmem S1024x1024 .f32) (x0 : Vec F S1024x1024 .f32) (x1 : Vec F S1x1x1x1024 .f32) (x2 : Vec F S1x1x1024x5632 .bf16) (x3 : Vec F S1x1x11x256x1024 .bf16) :
    kernelRun0_A.sl.v39 c arg5 = accT (kernelRun0_A.sl.r_1 c arg1 harg1 arg2 harg2 x0 x1) (arg3.view.read (Elt F) (harg3.unread x2)) (arg4.view.read (Elt F) (harg4.unread x3)) 0 (by decide) :=
  View.readCov_full (s := S1024x1024) arg5.view _ _ _ _

theorem load1 (c : Dev nD) (arg1 : Memref sig .tc .vmem S1024x1024 .f32) (harg1 : arg1.IsWhole) (arg2 : Memref sig .tc .vmem S1x1x1x1024 .f32) (harg2 : arg2.IsWhole) (arg3 : Memref sig .tc .vmem S1x1x1024x5632 .bf16) (harg3 : arg3.IsWhole) (arg4 : Memref sig .tc .vmem S1x1x11x256x1024 .bf16) (harg4 : arg4.IsWhole) (arg5 : Memref sig .tc .vmem S1024x1024 .f32) (x0 : Vec F S1024x1024 .f32) (x1 : Vec F S1x1x1x1024 .f32) (x2 : Vec F S1x1x1024x5632 .bf16) (x3 : Vec F S1x1x11x256x1024 .bf16) :
    kernelRun0_A.sl.v68 c arg1 harg1 arg2 harg2 arg3 harg3 arg4 harg4 arg5 x0 x1 x2 x3 = accT (kernelRun0_A.sl.r_1 c arg1 harg1 arg2 harg2 x0 x1) (arg3.view.read (Elt F) (harg3.unread x2)) (arg4.view.read (Elt F) (harg4.unread x3)) 1 (by decide) := by
  refine (View.readCov_full (s := S1024x1024) arg5.view _ _ _ _).trans ?_
  refine Eq.trans (b := pairT (kernelRun0_A.sl.v39 c arg5) (actOf (kernelRun0_A.sl.r_1 c arg1 harg1 arg2 harg2 x0 x1) (arg3.view.read (Elt F) (harg3.unread x2)) 0 (by decide)) (actOf (kernelRun0_A.sl.r_1 c arg1 harg1 arg2 harg2 x0 x1) (arg3.view.read (Elt F) (harg3.unread x2)) 256 (by decide))
    (View.ld (arg4.view.read (Elt F) (harg4.unread x3)) (Rect.unit ![0, 0, 0, 0, 0] ![1, 1, 2, 256, 1024] (inbOut 0 2 (by decide))))) (by sl_kernel_rfl) ?_
  rw [load0 c arg1 harg1 arg2 harg2 arg3 harg3 arg4 harg4 arg5 x0 x1 x2 x3]; rfl

theorem load2 (c : Dev nD) (arg1 : Memref sig .tc .vmem S1024x1024 .f32) (harg1 : arg1.IsWhole) (arg2 : Memref sig .tc .vmem S1x1x1x1024 .f32) (harg2 : arg2.IsWhole) (arg3 : Memref sig .tc .vmem S1x1x1024x5632 .bf16) (harg3 : arg3.IsWhole) (arg4 : Memref sig .tc .vmem S1x1x11x256x1024 .bf16) (harg4 : arg4.IsWhole) (arg5 : Memref sig .tc .vmem S1024x1024 .f32) (x0 : Vec F S1024x1024 .f32) (x1 : Vec F S1x1x1x1024 .f32) (x2 : Vec F S1x1x1024x5632 .bf16) (x3 : Vec F S1x1x11x256x1024 .bf16) :
    kernelRun0_A.sl.v97 c arg1 harg1 arg2 harg2 arg3 harg3 arg4 harg4 arg5 x0 x1 x2 x3 = accT (kernelRun0_A.sl.r_1 c arg1 harg1 arg2 harg2 x0 x1) (arg3.view.read (Elt F) (harg3.unread x2)) (arg4.view.read (Elt F) (harg4.unread x3)) 2 (by decide) := by
  refine (View.readCov_full (s := S1024x1024) arg5.view _ _ _ _).trans ?_
  refine Eq.trans (b := pairT (kernelRun0_A.sl.v68 c arg1 harg1 arg2 harg2 arg3 harg3 arg4 harg4 arg5 x0 x1 x2 x3) (actOf (kernelRun0_A.sl.r_1 c arg1 harg1 arg2 harg2 x0 x1) (arg3.view.read (Elt F) (harg3.unread x2)) 512 (by decide)) (actOf (kernelRun0_A.sl.r_1 c arg1 harg1 arg2 harg2 x0 x1) (arg3.view.read (Elt F) (harg3.unread x2)) 768 (by decide))
    (View.ld (arg4.view.read (Elt F) (harg4.unread x3)) (Rect.unit ![0, 0, 2, 0, 0] ![1, 1, 2, 256, 1024] (inbOut 2 2 (by decide))))) (by sl_kernel_rfl) ?_
  rw [load1 c arg1 harg1 arg2 harg2 arg3 harg3 arg4 harg4 arg5 x0 x1 x2 x3]; rfl

theorem load3 (c : Dev nD) (arg1 : Memref sig .tc .vmem S1024x1024 .f32) (harg1 : arg1.IsWhole) (arg2 : Memref sig .tc .vmem S1x1x1x1024 .f32) (harg2 : arg2.IsWhole) (arg3 : Memref sig .tc .vmem S1x1x1024x5632 .bf16) (harg3 : arg3.IsWhole) (arg4 : Memref sig .tc .vmem S1x1x11x256x1024 .bf16) (harg4 : arg4.IsWhole) (arg5 : Memref sig .tc .vmem S1024x1024 .f32) (x0 : Vec F S1024x1024 .f32) (x1 : Vec F S1x1x1x1024 .f32) (x2 : Vec F S1x1x1024x5632 .bf16) (x3 : Vec F S1x1x11x256x1024 .bf16) :
    kernelRun0_A.sl.v126 c arg1 harg1 arg2 harg2 arg3 harg3 arg4 harg4 arg5 x0 x1 x2 x3 = accT (kernelRun0_A.sl.r_1 c arg1 harg1 arg2 harg2 x0 x1) (arg3.view.read (Elt F) (harg3.unread x2)) (arg4.view.read (Elt F) (harg4.unread x3)) 3 (by decide) := by
  refine (View.readCov_full (s := S1024x1024) arg5.view _ _ _ _).trans ?_
  refine Eq.trans (b := pairT (kernelRun0_A.sl.v97 c arg1 harg1 arg2 harg2 arg3 harg3 arg4 harg4 arg5 x0 x1 x2 x3) (actOf (kernelRun0_A.sl.r_1 c arg1 harg1 arg2 harg2 x0 x1) (arg3.view.read (Elt F) (harg3.unread x2)) 1024 (by decide)) (actOf (kernelRun0_A.sl.r_1 c arg1 harg1 arg2 harg2 x0 x1) (arg3.view.read (Elt F) (harg3.unread x2)) 1280 (by decide))
    (View.ld (arg4.view.read (Elt F) (harg4.unread x3)) (Rect.unit ![0, 0, 4, 0, 0] ![1, 1, 2, 256, 1024] (inbOut 4 2 (by decide))))) (by sl_kernel_rfl) ?_
  rw [load2 c arg1 harg1 arg2 harg2 arg3 harg3 arg4 harg4 arg5 x0 x1 x2 x3]; rfl

theorem load4 (c : Dev nD) (arg1 : Memref sig .tc .vmem S1024x1024 .f32) (harg1 : arg1.IsWhole) (arg2 : Memref sig .tc .vmem S1x1x1x1024 .f32) (harg2 : arg2.IsWhole) (arg3 : Memref sig .tc .vmem S1x1x1024x5632 .bf16) (harg3 : arg3.IsWhole) (arg4 : Memref sig .tc .vmem S1x1x11x256x1024 .bf16) (harg4 : arg4.IsWhole) (arg5 : Memref sig .tc .vmem S1024x1024 .f32) (x0 : Vec F S1024x1024 .f32) (x1 : Vec F S1x1x1x1024 .f32) (x2 : Vec F S1x1x1024x5632 .bf16) (x3 : Vec F S1x1x11x256x1024 .bf16) :
    kernelRun0_A.sl.v155 c arg1 harg1 arg2 harg2 arg3 harg3 arg4 harg4 arg5 x0 x1 x2 x3 = accT (kernelRun0_A.sl.r_1 c arg1 harg1 arg2 harg2 x0 x1) (arg3.view.read (Elt F) (harg3.unread x2)) (arg4.view.read (Elt F) (harg4.unread x3)) 4 (by decide) := by
  refine (View.readCov_full (s := S1024x1024) arg5.view _ _ _ _).trans ?_
  refine Eq.trans (b := pairT (kernelRun0_A.sl.v126 c arg1 harg1 arg2 harg2 arg3 harg3 arg4 harg4 arg5 x0 x1 x2 x3) (actOf (kernelRun0_A.sl.r_1 c arg1 harg1 arg2 harg2 x0 x1) (arg3.view.read (Elt F) (harg3.unread x2)) 1536 (by decide)) (actOf (kernelRun0_A.sl.r_1 c arg1 harg1 arg2 harg2 x0 x1) (arg3.view.read (Elt F) (harg3.unread x2)) 1792 (by decide))
    (View.ld (arg4.view.read (Elt F) (harg4.unread x3)) (Rect.unit ![0, 0, 6, 0, 0] ![1, 1, 2, 256, 1024] (inbOut 6 2 (by decide))))) (by sl_kernel_rfl) ?_
  rw [load3 c arg1 harg1 arg2 harg2 arg3 harg3 arg4 harg4 arg5 x0 x1 x2 x3]; rfl

theorem load5 (c : Dev nD) (arg1 : Memref sig .tc .vmem S1024x1024 .f32) (harg1 : arg1.IsWhole) (arg2 : Memref sig .tc .vmem S1x1x1x1024 .f32) (harg2 : arg2.IsWhole) (arg3 : Memref sig .tc .vmem S1x1x1024x5632 .bf16) (harg3 : arg3.IsWhole) (arg4 : Memref sig .tc .vmem S1x1x11x256x1024 .bf16) (harg4 : arg4.IsWhole) (arg5 : Memref sig .tc .vmem S1024x1024 .f32) (x0 : Vec F S1024x1024 .f32) (x1 : Vec F S1x1x1x1024 .f32) (x2 : Vec F S1x1x1024x5632 .bf16) (x3 : Vec F S1x1x11x256x1024 .bf16) :
    kernelRun0_A.sl.v163 c arg1 harg1 arg2 harg2 arg3 harg3 arg4 harg4 arg5 x0 x1 x2 x3 = accT (kernelRun0_A.sl.r_1 c arg1 harg1 arg2 harg2 x0 x1) (arg3.view.read (Elt F) (harg3.unread x2)) (arg4.view.read (Elt F) (harg4.unread x3)) 5 (by decide) := by
  refine (View.readCov_full (s := S1024x1024) arg5.view _ _ _ _).trans ?_
  refine Eq.trans (b := pairT (kernelRun0_A.sl.v155 c arg1 harg1 arg2 harg2 arg3 harg3 arg4 harg4 arg5 x0 x1 x2 x3) (actOf (kernelRun0_A.sl.r_1 c arg1 harg1 arg2 harg2 x0 x1) (arg3.view.read (Elt F) (harg3.unread x2)) 2048 (by decide)) (actOf (kernelRun0_A.sl.r_1 c arg1 harg1 arg2 harg2 x0 x1) (arg3.view.read (Elt F) (harg3.unread x2)) 2304 (by decide))
    (View.ld (arg4.view.read (Elt F) (harg4.unread x3)) (Rect.unit ![0, 0, 8, 0, 0] ![1, 1, 2, 256, 1024] (inbOut 8 2 (by decide))))) (by sl_kernel_rfl) ?_
  rw [load4 c arg1 harg1 arg2 harg2 arg3 harg3 arg4 harg4 arg5 x0 x1 x2 x3]; rfl

theorem load6 (c : Dev nD) (arg1 : Memref sig .tc .vmem S1024x1024 .f32) (harg1 : arg1.IsWhole) (arg2 : Memref sig .tc .vmem S1x1x1x1024 .f32) (harg2 : arg2.IsWhole) (arg3 : Memref sig .tc .vmem S1x1x1024x5632 .bf16) (harg3 : arg3.IsWhole) (arg4 : Memref sig .tc .vmem S1x1x11x256x1024 .bf16) (harg4 : arg4.IsWhole) (arg5 : Memref sig .tc .vmem S1024x1024 .f32) (x0 : Vec F S1024x1024 .f32) (x1 : Vec F S1x1x1x1024 .f32) (x2 : Vec F S1x1x1024x5632 .bf16) (x3 : Vec F S1x1x11x256x1024 .bf16) :
    kernelRun0_A.sl.v180 c arg1 harg1 arg2 harg2 arg3 harg3 arg4 harg4 arg5 x0 x1 x2 x3 = sumT (kernelRun0_A.sl.r_1 c arg1 harg1 arg2 harg2 x0 x1) (arg3.view.read (Elt F) (harg3.unread x2)) (arg4.view.read (Elt F) (harg4.unread x3)) := by
  refine (View.readCov_full (s := S1024x1024) arg5.view _ _ _ _).trans ?_
  refine Eq.trans (b := lastT (kernelRun0_A.sl.v163 c arg1 harg1 arg2 harg2 arg3 harg3 arg4 harg4 arg5 x0 x1 x2 x3) (actOf (kernelRun0_A.sl.r_1 c arg1 harg1 arg2 harg2 x0 x1) (arg3.view.read (Elt F) (harg3.unread x2)) 2560 (by decide))
    (View.ld (arg4.view.read (Elt F) (harg4.unread x3)) (Rect.unit ![0, 0, 10, 0, 0] ![1, 1, 1, 256, 1024] (inbOut 10 1 (by decide))))) (by sl_kernel_rfl) ?_
  rw [load5 c arg1 harg1 arg2 harg2 arg3 harg3 arg4 harg4 arg5 x0 x1 x2 x3]; rfl

/-- The block in the end. -/
theorem out_eq (c : Dev nD) (i : grid0.Coords) (arg1 : Memref sig .tc .vmem S1024x1024 .f32) (harg1 : arg1.IsWhole) (arg2 : Memref sig .tc .vmem S1x1x1x1024 .f32) (harg2 : arg2.IsWhole) (arg3 : Memref sig .tc .vmem S1x1x1024x5632 .bf16) (harg3 : arg3.IsWhole) (arg4 : Memref sig .tc .vmem S1x1x11x256x1024 .bf16) (harg4 : arg4.IsWhole) (arg5 : Memref sig .tc .vmem S1024x1024 .f32) (harg5 : arg5.IsWhole)
    (x0 : Vec F S1024x1024 .f32) (x1 : Vec F S1x1x1x1024 .f32) (x2 : Vec F S1x1x1024x5632 .bf16) (x3 : Vec F S1x1x11x256x1024 .bf16) :
    out0_A_4 c i arg1 harg1 arg2 harg2 arg3 harg3 arg4 harg4 arg5 harg5 x0 x1 x2 x3 = stepT x0 x1 x2 x3 := by
  unfold out0_A_4 kernelRun0_A
  dsimp only
  refine (View.read_writes_full (s := S1024x1024) VO0_4 _ _ _ _).trans ?_
  rw [load6]
  have e0 : kernelRun0_A.sl.r c arg1 harg1 x0 = x0 := (View.readAt_full (s := S1024x1024) arg1.view _ _).trans (harg1.read_unread x0)
  have e1 : arg2.view.readAt (Elt F) (Rect.unit ![0, 0, 0, 0] S1x1x1x1024.size inb_S1x1x1x1024_S1x1x1x1024_0_0_0_0).toLoadRect (harg2.unread x1) = x1 :=
    (View.readAt_full (s := S1x1x1x1024) arg2.view _ _).trans (harg2.read_unread x1)
  have ey : kernelRun0_A.sl.r_1 c arg1 harg1 arg2 harg2 x0 x1 = truncf .bf16 (normT x0 (shapeCast Row x1 castScale)) less := by
    refine Eq.trans (b := truncf .bf16 (normT (kernelRun0_A.sl.r c arg1 harg1 x0) (shapeCast Row
      (arg2.view.readAt (Elt F) (Rect.unit ![0, 0, 0, 0] S1x1x1x1024.size inb_S1x1x1x1024_S1x1x1x1024_0_0_0_0).toLoadRect (harg2.unread x1)) castScale)) less)
      (by sl_kernel_rfl) ?_
    rw [e0, e1]
  rw [e0, ey, harg3.read_unread x2, harg4.read_unread x3]
  sl_kernel_rfl

end Cert.Kernel2Ideal.Ffn

end
-- ==== Proof.Ffn.TileAt.lean ====
/- The tile operations of the half-step read at an index, at the ideal values: a row over its root mean square, one hidden
   unit's activation, and the product with the second weight as one sum over the hidden units. -/
module

public import proofs.«01_k».proof.Proof.Ffn.Tile
public import proofs.«01_k».proof.Proof.Attn.Value.Range

@[expose] public section

noncomputable section

namespace Cert.Ffn

open Idealize.ShloMosaic Idealize.ShloMosaic.ValueIdx
open Cert.Attn (sum_fin)
open scoped BigOperators

/-- The constants 1024, 0.000001 and 0.5 as the programs hold them. -/
abbrev width : EReal := Ideal.ofBits .f32 0x44800000#32
abbrev eps : EReal := Ideal.ofBits .f32 0x358637BD#32
abbrev half : EReal := Ideal.ofBits .f32 0x3F000000#32

/-- Coordinate `b` of a row over its root mean square, scaled. -/
def normAt (x g : Fin 1024 → EReal) (b : Fin 1024) : EReal :=
  x b * Ideal.rsqrt (Ideal.div (∑ k, x k * x k) width + eps) * g b

/-- Number `j` as a hidden unit, and as a column of the first weight: the first half holds the gates, the second the values. -/
def unit (j : ℕ) : Fin 2816 := ⟨j % 2816, Nat.mod_lt _ (by decide)⟩
def gateCol (j : Fin 2816) : Fin 5632 := ⟨j.val, by have := j.isLt; omega⟩
def upCol (j : Fin 2816) : Fin 5632 := ⟨2816 + j.val, by have := j.isLt; omega⟩
theorem unit_of_fin (j : Fin 2816) : unit j.val = j := Fin.ext (Nat.mod_eq_of_lt j.isLt)

/-- A hidden unit's activation at a row: the gate times its logistic, times the value. -/
def actAt (y : Fin 1024 → EReal) (win : Fin 1024 → Fin 5632 → EReal) (j : Fin 2816) : EReal :=
  (∑ d, y d * win d (gateCol j)) * Ideal.logistic (∑ d, y d * win d (gateCol j)) * ∑ d, y d * win d (upCol j)

/-- The half-step at a row: half the sum over the hidden units, added. -/
def stepAt (x g : Fin 1024 → EReal) (win : Fin 1024 → Fin 5632 → EReal) (wout : Fin 2816 → Fin 1024 → EReal) (b : Fin 1024) : EReal :=
  x b + half * ∑ j, actAt (normAt x g) win j * wout j b

theorem normT_at (x : FVec Ideal Rows .f32) (g : FVec Ideal Row .f32) (a b : Fin 1024) :
    (normT x g (ix2 a b) : EReal) = normAt (fun k => x (ix2 a k)) (fun k => g (ix2 0 k)) b := by
  have hs : (multiReduction (F := Ideal) .add [1] Flat (mulf x x) 0x00000000#32 redRows (.inl rfl) rfl (ix1 a) : EReal)
      = ∑ k : Fin 1024, (x (ix2 a k) : EReal) * x (ix2 a k) := by
    refine (Ideal.multiReduction_add_single _ _ _ _ _ _).trans (Finset.sum_congr rfl fun k _ => ?_)
    refine congrArg (fun i => (x i : EReal) * x i) (funext fun d => Fin.ext ?_)
    match d with
    | ⟨0, _⟩ => rfl
    | ⟨1, _⟩ => rfl
  have hc : (shapeCast Col (multiReduction (F := Ideal) .add [1] Flat (mulf x x) 0x00000000#32 redRows (.inl rfl) rfl) castCol (ix2 a 0) : EReal)
      = ∑ k : Fin 1024, (x (ix2 a k) : EReal) * x (ix2 a k) := by
    refine (shapeCast_apply _ castCol (ix2 a 0) (ix1 a) ?_).trans hs
    rw [Shape.rowMajor_val_one, Shape.rowMajor_val_two]
    exact (Nat.mul_one a.val).symm
  have hg : (broadcastTo Rows g bcRow (ix2 a b) : EReal) = g (ix2 0 b) :=
    broadcastTo_apply (s := Row) (t := Rows) _ _ (ix2 a b) (ix2 0 b) fun d => match d with | ⟨0, _⟩ => rfl | ⟨1, _⟩ => rfl
  have hr : (broadcastTo Rows (rsqrt (addf (divf (shapeCast Col (multiReduction (F := Ideal) .add [1] Flat (mulf x x) 0x00000000#32 redRows (.inl rfl) rfl) castCol)
      (broadcast Col (Scalar.ofBits .f32 0x44800000#32))) (broadcast Col (Scalar.ofBits .f32 0x358637BD#32)))) bcCol (ix2 a b) : EReal)
      = Ideal.rsqrt (Ideal.div (∑ k : Fin 1024, (x (ix2 a k) : EReal) * x (ix2 a k)) width + eps) := by
    refine (broadcastTo_apply (s := Col) (t := Rows) _ _ (ix2 a b) (ix2 a 0) fun d => match d with | ⟨0, _⟩ => rfl | ⟨1, _⟩ => rfl).trans ?_
    exact congrArg (fun s => Ideal.rsqrt (Ideal.div s width + eps)) hc
  exact congrArg₂ (fun r s : EReal => (x (ix2 a b) : EReal) * r * s) hr hg

theorem projT_at (y : FVec Ideal Rows .bf16) (w : Vec Ideal InChunk .bf16) (a : Fin 1024) (r : Fin 256) :
    (projT y w (ix2 a r) : EReal) = ∑ d : Fin 1024, (y (ix2 a d) : EReal) * (w (ix4 0 0 d r) : EReal) := by
  unfold projT
  simp only [matmul]
  refine (Ideal.matmul_plain_apply (M := 1024) (K := 1024) (N := 256) none _ _ _ a r).trans ?_
  have hz : (constant (F := Ideal) Units .f32 0x00000000#32 (ix2 a r) : EReal) = 0 := Ideal.ofBits_zero_f32
  rw [hz, zero_add]
  refine Finset.sum_congr rfl fun d _ => congrArg (fun v : EReal => (y (ix2 a d) : EReal) * v) ?_
  refine shapeCast_apply w castIn (ix2 d r) (ix4 0 0 d r) ?_
  rw [Shape.rowMajor_val_four, Shape.rowMajor_val_two]
  show ((0 * 1 + 0) * 1024 + d.val) * 256 + r.val = d.val * 256 + r.val
  omega

theorem colsT_at (win : Vec Ideal In .bf16) (n : ℕ) (h : n ≤ 5376) (d : Fin 1024) (r : Fin 256) (c : Fin 5632) (hc : c.val = n + r.val) :
    (colsT win n h (ix4 0 0 d r) : EReal) = win (ix4 0 0 d c) := by
  refine View.ld_unit_apply_of _ _ _ _ _ _ fun a => ?_
  match a with
  | ⟨0, _⟩ => rfl
  | ⟨1, _⟩ => rfl
  | ⟨2, _⟩ => exact (Nat.zero_add _).symm
  | ⟨3, _⟩ => exact hc

theorem actOf_at (y : FVec Ideal Rows .bf16) (win : Vec Ideal In .bf16) (n : ℕ) (h : n ≤ 2560) (a : Fin 1024) (r : Fin 256) :
    (actOf y win n h (ix2 a r) : EReal) = actAt (fun d => y (ix2 a d)) (fun d c => win (ix4 0 0 d c)) (unit (n + r.val)) := by
  have hu : (unit (n + r.val)).val = n + r.val := Nat.mod_eq_of_lt (by have := r.isLt; omega)
  have e1 : (projT y (colsT win n (by omega)) (ix2 a r) : EReal) = ∑ d, (y (ix2 a d) : EReal) * win (ix4 0 0 d (gateCol (unit (n + r.val)))) := by
    refine (projT_at y _ a r).trans (Finset.sum_congr rfl fun d _ => ?_)
    rw [colsT_at win n _ d r (gateCol (unit (n + r.val))) hu]
  have e2 : (projT y (colsT win (2816 + n) (by omega)) (ix2 a r) : EReal) = ∑ d, (y (ix2 a d) : EReal) * win (ix4 0 0 d (upCol (unit (n + r.val)))) := by
    refine (projT_at y _ a r).trans (Finset.sum_congr rfl fun d _ => ?_)
    rw [colsT_at win (2816 + n) _ d r (upCol (unit (n + r.val))) (by show 2816 + _ = _; rw [hu, Nat.add_assoc])]
  exact congrArg₂ (fun s t : EReal => s * Ideal.logistic s * t) e1 e2

/-- Row `j` of the second weight as the tile holds it. -/
def outAt (wout : Vec Ideal Out .bf16) (j : Fin 2816) (b : Fin 1024) : EReal :=
  wout (ix5 0 0 ⟨j.val / 256, by have := j.isLt; omega⟩ ⟨j.val % 256, Nat.mod_lt _ (by decide)⟩ b)

theorem pairT_at (acc : FVec Ideal Rows .f32) (a0 a1 : FVec Ideal Units .bf16) (wo : Vec Ideal OutPair .bf16) (a b : Fin 1024) (f v : ℕ → EReal)
    (h0 : ∀ r : Fin 256, (a0 (ix2 a r) : EReal) = f r.val) (h1 : ∀ r : Fin 256, (a1 (ix2 a r) : EReal) = f (256 + r.val))
    (hv : ∀ (s : Fin 2) (r : Fin 256), (wo (ix5 0 0 s r b) : EReal) = v (256 * s.val + r.val)) :
    (pairT acc a0 a1 wo (ix2 a b) : EReal) = acc (ix2 a b) + ∑ q ∈ Finset.range 512, f q * v q := by
  have ec : (shapeCast Rows acc castRows (ix2 a b) : EReal) = acc (ix2 a b) := shapeCast_apply acc castRows _ _ rfl
  have em : (matmul (F := Ideal) (φ₁ := .bf16) (φ₂ := .bf16) (DotDims.plain 1024 512 1024) none (concatenate Pair 1 [⟨Units, a0⟩, ⟨Units, a1⟩] catUnits)
      (shapeCast OutRows (shapeCast OutMid wo castMid) castPair) (constant Rows .f32 0x00000000#32) (ix2 a b) : EReal) = ∑ q ∈ Finset.range 512, f q * v q := by
    simp only [matmul]
    refine (Ideal.matmul_plain_apply (M := 1024) (K := 512) (N := 1024) none _ _ _ a b).trans ?_
    have hz : (constant (F := Ideal) Rows .f32 0x00000000#32 (ix2 a b) : EReal) = 0 := Ideal.ofBits_zero_f32
    rw [hz, zero_add]
    refine (Finset.sum_congr rfl fun q _ => ?_).trans (sum_fin 512 fun q => f q * v q)
    have hq := q.isLt
    have el : (concatenate Pair 1 [⟨Units, a0⟩, ⟨Units, a1⟩] catUnits (ix2 a q) : EReal) = f q.val := by
      by_cases h : q.val < 256
      · refine (concatenate_pair_apply_left (t := Pair) (s₁ := Units) (s₂ := Units) 1 a0 a1 catUnits (ix2 a q) rfl (ix2 a ⟨q.val, h⟩) fun d => ?_).trans (h0 ⟨q.val, h⟩)
        match d with
        | ⟨0, _⟩ => rfl
        | ⟨1, _⟩ => rfl
      · refine (concatenate_pair_apply_right (t := Pair) (s₁ := Units) (s₂ := Units) 1 a0 a1 catUnits (ix2 a q) rfl rfl (ix2 a ⟨q.val - 256, by omega⟩) (fun d hd => ?_) ?_).trans
          ((h1 ⟨q.val - 256, by omega⟩).trans (congrArg f (by show 256 + (q.val - 256) = q.val; omega)))
        · match d with
          | ⟨0, _⟩ => rfl
          | ⟨1, _⟩ => exact absurd rfl hd
        · show q.val - 256 + 256 = q.val; omega
    have er : (shapeCast OutRows (shapeCast OutMid wo castMid) castPair (ix2 q b) : EReal) = v q.val := by
      refine (shapeCast_apply _ castPair (ix2 q b) (ix3 ⟨q.val / 256, by omega⟩ ⟨q.val % 256, Nat.mod_lt _ (by decide)⟩ b) ?_).trans ?_
      · rw [Shape.rowMajor_val_three, Shape.rowMajor_val_two]
        show (q.val / 256 * 256 + q.val % 256) * 1024 + b.val = q.val * 1024 + b.val
        omega
      · refine (shapeCast_apply wo castMid _ (ix5 0 0 ⟨q.val / 256, by omega⟩ ⟨q.val % 256, Nat.mod_lt _ (by decide)⟩ b) ?_).trans ?_
        · rw [Shape.rowMajor_val_three, Shape.rowMajor_val_five]
          show (((0 * 1 + 0) * 2 + q.val / 256) * 256 + q.val % 256) * 1024 + b.val = (q.val / 256 * 256 + q.val % 256) * 1024 + b.val
          omega
        · exact (hv _ _).trans (congrArg v (by show 256 * (q.val / 256) + q.val % 256 = q.val; omega))
    exact congrArg₂ (fun s t : EReal => s * t) el er
  exact congrArg₂ (fun s t : EReal => s + t) ec em

theorem lastT_at (acc : FVec Ideal Rows .f32) (a0 : FVec Ideal Units .bf16) (wo : Vec Ideal OutOne .bf16) (a b : Fin 1024) (f v : ℕ → EReal)
    (h0 : ∀ r : Fin 256, (a0 (ix2 a r) : EReal) = f r.val) (hv : ∀ r : Fin 256, (wo (ix5 0 0 0 r b) : EReal) = v r.val) :
    (lastT acc a0 wo (ix2 a b) : EReal) = acc (ix2 a b) + ∑ q ∈ Finset.range 256, f q * v q := by
  have ec : (shapeCast Rows acc castRows (ix2 a b) : EReal) = acc (ix2 a b) := shapeCast_apply acc castRows _ _ rfl
  have em : (matmul (F := Ideal) (φ₁ := .bf16) (φ₂ := .bf16) (DotDims.plain 1024 256 1024) none a0 (shapeCast OutLast wo castOne) (constant Rows .f32 0x00000000#32) (ix2 a b) : EReal)
      = ∑ q ∈ Finset.range 256, f q * v q := by
    simp only [matmul]
    refine (Ideal.matmul_plain_apply (M := 1024) (K := 256) (N := 1024) none _ _ _ a b).trans ?_
    have hz : (constant (F := Ideal) Rows .f32 0x00000000#32 (ix2 a b) : EReal) = 0 := Ideal.ofBits_zero_f32
    rw [hz, zero_add]
    refine (Finset.sum_congr rfl fun q _ => ?_).trans (sum_fin 256 fun q => f q * v q)
    have er : (shapeCast OutLast wo castOne (ix2 q b) : EReal) = v q.val := by
      refine (shapeCast_apply wo castOne (ix2 q b) (ix5 0 0 0 q b) ?_).trans (hv q)
      rw [Shape.rowMajor_val_two, Shape.rowMajor_val_five]
      show (((0 * 1 + 0) * 1 + 0) * 256 + q.val) * 1024 + b.val = q.val * 1024 + b.val
      omega
    exact congrArg₂ (fun s t : EReal => s * t) (h0 q) er
  exact congrArg₂ (fun s t : EReal => s + t) ec em

theorem outAt_ld (wout : Vec Ideal Out .bf16) (n k : ℕ) (h : n + k ≤ 11) (s : Fin k) (r : Fin 256) (b : Fin 1024) :
    (View.ld wout (Rect.unit ![0, 0, n, 0, 0] ![1, 1, k, 256, 1024] (inbOut n k h)) (ix5 (n0 := 1) (n1 := 1) 0 0 s r b) : EReal)
      = outAt wout (unit (256 * (n + s.val) + r.val)) b := by
  have hs := s.isLt
  have hr := r.isLt
  have hu : (unit (256 * (n + s.val) + r.val)).val = 256 * (n + s.val) + r.val := Nat.mod_eq_of_lt (by omega)
  unfold outAt
  refine View.ld_unit_apply_of _ _ _ _ _ _ fun a => ?_
  match a with
  | ⟨0, _⟩ => rfl
  | ⟨1, _⟩ => rfl
  | ⟨2, _⟩ => show (unit (256 * (n + s.val) + r.val)).val / 256 = n + s.val; omega
  | ⟨3, _⟩ => show (unit (256 * (n + s.val) + r.val)).val % 256 = 0 + r.val; omega
  | ⟨4, _⟩ => exact (Nat.zero_add _).symm

theorem accT_at (y : FVec Ideal Rows .bf16) (win : Vec Ideal In .bf16) (wout : Vec Ideal Out .bf16) (a b : Fin 1024) : ∀ (n : ℕ) (h : n ≤ 5),
    (accT y win wout n h (ix2 a b) : EReal)
      = ∑ j ∈ Finset.range (512 * n), actAt (fun d => y (ix2 a d)) (fun d c => win (ix4 0 0 d c)) (unit j) * outAt wout (unit j) b
  | 0, h => by
    rw [Nat.mul_zero, Finset.range_zero, Finset.sum_empty]
    exact Ideal.ofBits_zero_f32
  | n + 1, h => by
    rw [show 512 * (n + 1) = 512 * n + 512 by omega, Finset.sum_range_add, ← accT_at y win wout a b n (by omega)]
    refine pairT_at _ _ _ _ a b (fun q => actAt (fun d => y (ix2 a d)) (fun d c => win (ix4 0 0 d c)) (unit (512 * n + q)))
      (fun q => outAt wout (unit (512 * n + q)) b) (fun r => actOf_at y win (512 * n) _ a r) (fun r => ?_) (fun s r => ?_)
    · rw [← Nat.add_assoc]; exact actOf_at y win (512 * n + 256) _ a r
    · refine (outAt_ld wout (2 * n) 2 (by omega) s r b).trans ?_
      rw [show 256 * (2 * n + s.val) + r.val = 512 * n + (256 * s.val + r.val) by omega]

theorem sumT_at (y : FVec Ideal Rows .bf16) (win : Vec Ideal In .bf16) (wout : Vec Ideal Out .bf16) (a b : Fin 1024) :
    (sumT y win wout (ix2 a b) : EReal)
      = ∑ j : Fin 2816, actAt (fun d => y (ix2 a d)) (fun d c => win (ix4 0 0 d c)) j * outAt wout j b := by
  have e := (sum_fin 2816 fun j => actAt (fun d => y (ix2 a d)) (fun d c => win (ix4 0 0 d c)) (unit j) * outAt wout (unit j) b)
  simp only [unit_of_fin] at e
  rw [e, show (2816 : ℕ) = 512 * 5 + 256 from rfl, Finset.sum_range_add, ← accT_at y win wout a b 5 (by decide)]
  refine lastT_at _ _ _ a b (fun q => actAt (fun d => y (ix2 a d)) (fun d c => win (ix4 0 0 d c)) (unit (512 * 5 + q)))
    (fun q => outAt wout (unit (512 * 5 + q)) b) (fun r => actOf_at y win 2560 _ a r) (fun r => ?_)
  exact outAt_ld wout 10 1 (by decide) 0 r b

theorem halfT_at (x s : FVec Ideal Rows .f32) (a b : Fin 1024) : (halfT x s (ix2 a b) : EReal) = x (ix2 a b) + half * s (ix2 a b) := by
  have ec : (shapeCast Rows s castRows (ix2 a b) : EReal) = s (ix2 a b) := shapeCast_apply s castRows _ _ rfl
  exact congrArg (fun v : EReal => (x (ix2 a b) : EReal) + half * v) ec

/-- The half-step of a tile at an index. -/
theorem stepT_at (x : FVec Ideal Rows .f32) (g : FVec Ideal Scale .f32) (win : Vec Ideal In .bf16) (wout : Vec Ideal Out .bf16) (a b : Fin 1024) :
    (stepT x g win wout (ix2 a b) : EReal)
      = stepAt (fun k => x (ix2 a k)) (fun k => g (ix4 0 0 0 k)) (fun d c => win (ix4 0 0 d c)) (outAt wout) b := by
  have eg : ∀ k : Fin 1024, (shapeCast Row g castScale (ix2 0 k) : EReal) = g (ix4 0 0 0 k) := fun k => by
    refine shapeCast_apply g castScale (ix2 0 k) (ix4 0 0 0 k) ?_
    rw [Shape.rowMajor_val_two, Shape.rowMajor_val_four]
    show ((0 * 1 + 0) * 1 + 0) * 1024 + k.val = 0 * 1024 + k.val
    omega
  have ey : (fun d => (truncf (F := Ideal) .bf16 (normT x (shapeCast Row g castScale)) less (ix2 a d) : EReal))
      = normAt (fun k => x (ix2 a k)) (fun k => g (ix4 0 0 0 k)) := by
    funext d
    refine Eq.trans (b := (normT x (shapeCast Row g castScale) (ix2 a d) : EReal)) rfl ((normT_at x _ a d).trans ?_)
    simp only [eg]
  unfold stepT stepAt
  refine (halfT_at _ _ a b).trans ?_
  rw [sumT_at, ey]

end Cert.Ffn

end
-- ==== Proof.Ffn.Array.lean ====
/- The feed-forward kernel's result array at the ideal values: the weights as the host prepares them, the block each point
   holds, and the half-step of every row. -/
module

public import proofs.«01_k».proof.Proof.Ffn.Pieces
public import proofs.«01_k».proof.Proof.Ffn.TileAt
public import Idealize.ShloMosaic.Lib.Pipeline.ValueKit.Geometry

@[expose] public section

noncomputable section

namespace Cert.Kernel2Ideal.Ffn

open Idealize.ShloMosaic Idealize.ShloMosaic.TcCoe Idealize.ShloMosaic.ValueIdx
open Idealize.SL Idealize.SL.Sem
open Cert.Ffn Cert.Kernel2Ideal.Gen
open scoped BigOperators

variable (m : (ℓ : Loc nD τ sig) → Buf (Elt Ideal) ℓ) (ρ : Dev nD → PrngReg)

/-- The four argument arrays. -/
def argX (c : Dev nD) : (⟨2, ![65536, 1024]⟩ : Shape).Idx → EReal := m ((c.tc : Thread nD τ).loc main_arg0)
def argG (c : Dev nD) : (⟨3, ![2, 2, 1024]⟩ : Shape).Idx → EReal := m ((c.tc : Thread nD τ).loc main_arg1)
def argI (c : Dev nD) : (⟨4, ![2, 2, 1024, 5632]⟩ : Shape).Idx → EReal := m ((c.tc : Thread nD τ).loc main_arg2)
def argO (c : Dev nD) : (⟨4, ![2, 2, 2816, 1024]⟩ : Shape).Idx → EReal := m ((c.tc : Thread nD τ).loc main_arg3)

/-! ## The weights as the host prepares them -/

theorem host_g (c : Dev nD) : V m c main_v3 = shapeCast S2x2x1x1024 (argG m c) shapeCasts_S2x2x1024_S2x2x1x1024 := rfl
theorem host_i (c : Dev nD) : V m c main_v0 = argI m c := rfl
theorem host_o (c : Dev nD) : V m c main_v2 = shapeCast S2x2x11x256x1024 (argO m c) shapeCasts_S2x2x2816x1024_S2x2x11x256x1024 := rfl

/-! ## The block a point holds -/

theorem N_eq : cfg0.N = 64 := N_0
theorem index_x : ∀ t : Fin cfg0.N, win0_0.index t = ![t.val, 0] := (by decide +kernel : ∀ t : Fin grid0.N, win0_0.index t = ![t.val, 0])
theorem index_g : ∀ t : Fin cfg0.N, win0_1.index t = ![0, 0, 0, 0] := (by decide +kernel : ∀ t : Fin grid0.N, win0_1.index t = ![0, 0, 0, 0])
theorem index_i : ∀ t : Fin cfg0.N, win0_2.index t = ![0, 0, 0, 0] := (by decide +kernel : ∀ t : Fin grid0.N, win0_2.index t = ![0, 0, 0, 0])
theorem index_o : ∀ t : Fin cfg0.N, win0_3.index t = ![0, 0, 0, 0, 0] := (by decide +kernel : ∀ t : Fin grid0.N, win0_3.index t = ![0, 0, 0, 0, 0])
theorem index_r : ∀ t : Fin cfg0.N, win0_4.index t = ![t.val, 0] := (by decide +kernel : ∀ t : Fin grid0.N, win0_4.index t = ![t.val, 0])

/-- Row `a` of tile `n`. -/
def tileRow (n : ℕ) (a : Fin 1024) : Fin 65536 := ⟨n % 64 * 1024 + a.val, by have := a.isLt; have := Nat.mod_lt n (show 0 < 64 by decide); omega⟩

theorem blk_x (c : Dev nD) (t : Fin cfg0.N) (a b : Fin 1024) : (iblk m c 0 t (ix2 a b) : EReal) = argX m c (ix2 (tileRow t.val a) b) := by
  have e := index_x t
  have hN := N_eq
  have h1 : t.val % 64 = t.val := Nat.mod_eq_of_lt (hN ▸ t.isLt)
  blk_simp [iblk]
  refine congrArg (argX m c) (funext fun d => Fin.ext ?_)
  fin_cases d
  · blk_simp [e]; simp [tileRow, h1]
  · blk_simp [e]

theorem blk_g (c : Dev nD) (t : Fin cfg0.N) (k : Fin 1024) : (iblk m c 1 t (ix4 0 0 0 k) : EReal) = argG m c (ix3 0 0 k) := by
  have e := index_g t
  refine Eq.trans (b := (V m c main_v3 : S2x2x1x1024.Idx → EReal) (ix4 0 0 0 k)) ?_ ?_
  · blk_simp [iblk]
    refine congrArg (V m c main_v3 : S2x2x1x1024.Idx → EReal) (funext fun d => Fin.ext ?_)
    fin_cases d
    · blk_simp [e]; rfl
    · blk_simp [e]; rfl
    · blk_simp [e]
    · blk_simp [e]
  · rw [host_g]
    refine shapeCast_apply (argG m c) shapeCasts_S2x2x1024_S2x2x1x1024 (ix4 0 0 0 k) (ix3 0 0 k) ?_
    rw [Shape.rowMajor_val_four, Shape.rowMajor_val_three]
    show (0 * 2 + 0) * 1024 + k.val = ((0 * 2 + 0) * 1 + 0) * 1024 + k.val
    omega

theorem blk_i (c : Dev nD) (t : Fin cfg0.N) (d : Fin 1024) (j : Fin 5632) : (iblk m c 2 t (ix4 0 0 d j) : EReal) = argI m c (ix4 0 0 d j) := by
  have e := index_i t
  refine Eq.trans (b := (V m c main_v0 : S2x2x1024x5632.Idx → EReal) (ix4 0 0 d j)) ?_ (congrFun (host_i m c) _)
  blk_simp [iblk]
  refine congrArg (V m c main_v0 : S2x2x1024x5632.Idx → EReal) (funext fun d => Fin.ext ?_)
  fin_cases d
  · blk_simp [e]; rfl
  · blk_simp [e]; rfl
  · blk_simp [e]
  · blk_simp [e]

theorem blk_o (c : Dev nD) (t : Fin cfg0.N) (j : Fin 2816) (b : Fin 1024) : (outAt (iblk m c 3 t) j b : EReal) = argO m c (ix4 0 0 j b) := by
  have e := index_o t
  have hj := j.isLt
  unfold outAt
  refine Eq.trans (b := (V m c main_v2 : S2x2x11x256x1024.Idx → EReal) (ix5 0 0 ⟨j.val / 256, by omega⟩ ⟨j.val % 256, Nat.mod_lt _ (by decide)⟩ b)) ?_ ?_
  · blk_simp [iblk]
    refine congrArg (V m c main_v2 : S2x2x11x256x1024.Idx → EReal) (funext fun d => Fin.ext ?_)
    fin_cases d
    · blk_simp [e]; rfl
    · blk_simp [e]; rfl
    · blk_simp [e]
    · blk_simp [e]
    · blk_simp [e]
  · rw [host_o]
    refine shapeCast_apply (argO m c) shapeCasts_S2x2x2816x1024_S2x2x11x256x1024 _ (ix4 0 0 j b) ?_
    rw [Shape.rowMajor_val_four, Shape.rowMajor_val_five]
    show ((0 * 2 + 0) * 2816 + j.val) * 1024 + b.val = (((0 * 2 + 0) * 11 + j.val / 256) * 256 + j.val % 256) * 1024 + b.val
    omega

/-! ## The array -/

/-- The half-step of every row. -/
def result (X : (⟨2, ![65536, 1024]⟩ : Shape).Idx → EReal) (G : (⟨3, ![2, 2, 1024]⟩ : Shape).Idx → EReal)
    (I : (⟨4, ![2, 2, 1024, 5632]⟩ : Shape).Idx → EReal) (O : (⟨4, ![2, 2, 2816, 1024]⟩ : Shape).Idx → EReal) :
    (⟨2, ![65536, 1024]⟩ : Shape).Idx → EReal := fun i =>
  stepAt (fun k => X (ix2 (i 0) k)) (fun k => G (ix3 0 0 k)) (fun d j => I (ix4 0 0 d j)) (fun j b => O (ix4 0 0 j b)) (i 1)

theorem tile_at (c : Dev nD) (t : Fin cfg0.N) (a b : Fin 1024) :
    (outsAt0 m c t (ix2 a b) : EReal) = result (argX m c) (argG m c) (argI m c) (argO m c) (ix2 (tileRow t.val a) b) := by
  unfold outsAt0
  rw [out_eq]
  refine (stepT_at (iblk m c 0 t) (iblk m c 1 t) (iblk m c 2 t) (iblk m c 3 t) a b).trans ?_
  simp only [blk_x, blk_g, blk_i]
  rw [show outAt (iblk m c 3 t) = fun j b => argO m c (ix4 0 0 j b) from funext fun j => funext fun b => blk_o m c t j b]
  rfl

theorem final (c : Dev nD) : (dats m 0 c).arrAt 4 cfg0.N = result (argX m c) (argG m c) (argI m c) (argO m c) := by
  refine (dats m 0 c).arrAt_eq_of_covers 4 _ (by decide +kernel) fun t hf y => ?_
  have hN := N_eq
  have e := index_r t
  have h1 : t.val % 64 = t.val := Nat.mod_eq_of_lt (hN ▸ t.isLt)
  blk_simp
  rw [after0_4]
  obtain ⟨a, b, rfl⟩ : ∃ (a b : Fin 1024), y = ix2 a b := ⟨y 0, y 1, eq_ix2 y⟩
  refine (tile_at m c t a b).trans (congrArg (result (argX m c) (argG m c) (argI m c) (argO m c)) (funext fun d => Fin.ext ?_))
  fin_cases d
  · blk_simp [e]; simp [tileRow, h1]
  · blk_simp [e]

end Cert.Kernel2Ideal.Ffn

end
-- ==== Proof.Ffn.Reference.lean ====
/- The feed-forward reference at the ideal values, read at an index: the half-step of the row. -/
module

public import proofs.«01_k».proof.Proof.Gen.Reference2Ideal.Read
public import proofs.«01_k».proof.Proof.Ffn.TileAt

@[expose] public section

noncomputable section

namespace Cert.Ffn

open Idealize.ShloMosaic

/-- The constant 1, and the logistic as the host writes it out. -/
theorem ofBits_one : Ideal.ofBits .f32 0x3F800000#32 = (1 : EReal) := by
  simp [Ideal.ofBits, Ideal.ieee]
  rw [← EReal.coe_mul]
  norm_num
theorem logistic_written (x : EReal) :
    Ideal.div (Ideal.ofBits .f32 0x3F800000#32) (Ideal.ofBits .f32 0x3F800000#32 + Ideal.exp (-x)) = Ideal.logistic x := by
  rw [ofBits_one]; rfl

end Cert.Ffn

namespace Cert.Reference2Ideal.Ffn

open Idealize.ShloMosaic Idealize.ShloMosaic.ValueIdx
open Cert.Ffn Cert.Reference2Ideal.Gen Cert.Reference2Ideal.Read
open scoped BigOperators

variable (X : (⟨2, ![65536, 1024]⟩ : Shape).Idx → EReal) (G : (⟨3, ![2, 2, 1024]⟩ : Shape).Idx → EReal)
  (I : (⟨4, ![2, 2, 1024, 5632]⟩ : Shape).Idx → EReal) (O : (⟨4, ![2, 2, 2816, 1024]⟩ : Shape).Idx → EReal)

theorem scale_at (k : Fin 1024) : (val_main_v1 (F := Ideal) G (ix1 k) : EReal) = G (ix3 0 0 k) := by
  rw [val_main_v1_apply, val_main_v0_apply]
  refine congrArg G (funext fun a => Fin.ext ?_)
  match a with
  | ⟨0, _⟩ => rfl
  | ⟨1, _⟩ => rfl
  | ⟨2, _⟩ => exact Nat.mod_eq_of_lt k.isLt

theorem win_at (d : Fin 1024) (j : Fin 5632) : (val_main_v16 (F := Ideal) I (ix2 d j) : EReal) = I (ix4 0 0 d j) := by
  rw [val_main_v16_apply, val_main_v15_apply]
  refine congrArg I (funext fun a => Fin.ext ?_)
  have := d.isLt; have := j.isLt
  match a with
  | ⟨0, _⟩ => rfl
  | ⟨1, _⟩ => rfl
  | ⟨2, _⟩ => show (d.val * 5632 + j.val) / 5632 % 1024 = d.val; omega
  | ⟨3, _⟩ => show (d.val * 5632 + j.val) % 5632 = j.val; omega

theorem wout_at (j : Fin 2816) (b : Fin 1024) : (val_main_v18 (F := Ideal) O (ix2 j b) : EReal) = O (ix4 0 0 j b) := by
  rw [val_main_v18_apply, val_main_v17_apply]
  refine congrArg O (funext fun a => Fin.ext ?_)
  have := j.isLt; have := b.isLt
  match a with
  | ⟨0, _⟩ => rfl
  | ⟨1, _⟩ => rfl
  | ⟨2, _⟩ => show (j.val * 1024 + b.val) / 1024 % 2816 = j.val; omega
  | ⟨3, _⟩ => show (j.val * 1024 + b.val) % 1024 = b.val; omega

/-- The sum of a row's squares. -/
theorem squares_at (r : Fin 65536) : (val_main_v3 (F := Ideal) X (ix1 r) : EReal) = ∑ k : Fin 1024, X (ix2 r k) * X (ix2 r k) := by
  rw [val_main_v3_apply, show (val_main_cst (F := Ideal) (Shape.Idx.first h_S_) : EReal) = 0 from Ideal.ofBits_zero_f32, zero_add]
  refine Finset.sum_congr rfl fun k _ => ?_
  rw [show idx_main_v3 (ix1 r) k = ix2 r k from funext fun a => by match a with | ⟨0, _⟩ => rfl | ⟨1, _⟩ => rfl]
  rfl

theorem norm_at (r : Fin 65536) (b : Fin 1024) :
    (val_main_v14 (F := Ideal) X G (ix2 r b) : EReal) = normAt (fun k => X (ix2 r k)) (fun k => G (ix3 0 0 k)) b := by
  rw [val_main_v14_apply, val_main_v11_apply, val_main_v10_apply, val_main_v9_apply, val_main_v8_apply, val_main_v6_apply, val_main_v4_apply,
    val_main_v5_apply, val_main_v7_apply, val_main_v13_apply, val_main_v12_apply,
    show idx_main_v4 (idx_main_v10 (ix2 r b)) = ix1 r from funext fun a => by match a with | ⟨0, _⟩ => rfl,
    show idx_main_v12 (idx_main_v13 (ix2 r b)) = ix1 b from funext fun a => by match a with | ⟨0, _⟩ => rfl,
    squares_at, scale_at]
  rfl

theorem proj_at (r : Fin 65536) (j : Fin 5632) :
    (val_main_v19 (F := Ideal) X G I (ix2 r j) : EReal)
      = ∑ d, normAt (fun k => X (ix2 r k)) (fun k => G (ix3 0 0 k)) d * I (ix4 0 0 d j) := by
  rw [val_main_v19_apply]
  refine Finset.sum_congr rfl fun d _ => ?_
  rw [show lidx_main_v19 (ix2 r j) d = ix2 r d from funext fun a => by match a with | ⟨0, _⟩ => rfl | ⟨1, _⟩ => rfl,
    show ridx_main_v19 (ix2 r j) d = ix2 d j from funext fun a => by match a with | ⟨0, _⟩ => rfl | ⟨1, _⟩ => rfl, norm_at, win_at]

theorem gate_at (r : Fin 65536) (j : Fin 2816) :
    (val_main_v20 (F := Ideal) X G I (ix2 r j) : EReal)
      = ∑ d, normAt (fun k => X (ix2 r k)) (fun k => G (ix3 0 0 k)) d * I (ix4 0 0 d (gateCol j)) := by
  rw [val_main_v20_apply,
    show idx_main_v20 (ix2 r j) = ix2 r (gateCol j) from funext fun a => by match a with | ⟨0, _⟩ => rfl | ⟨1, _⟩ => rfl, proj_at]

theorem up_at (r : Fin 65536) (j : Fin 2816) :
    (val_main_v21 (F := Ideal) X G I (ix2 r j) : EReal)
      = ∑ d, normAt (fun k => X (ix2 r k)) (fun k => G (ix3 0 0 k)) d * I (ix4 0 0 d (upCol j)) := by
  rw [val_main_v21_apply,
    show idx_main_v21 (ix2 r j) = ix2 r (upCol j) from funext fun a => by match a with | ⟨0, _⟩ => rfl | ⟨1, _⟩ => rfl, proj_at]

theorem logistic_at (r : Fin 65536) (j : Fin 2816) :
    (val_main_call0_v5 (F := Ideal) X G I (ix2 r j) : EReal) = Ideal.logistic (val_main_v20 (F := Ideal) X G I (ix2 r j)) := by
  rw [val_main_call0_v5_apply, val_main_call0_v3_apply, val_main_call0_v1_apply, val_main_call0_v0_apply, val_main_call0_v2_apply,
    val_main_call0_v4_apply]
  exact logistic_written _

theorem act_at (r : Fin 65536) (j : Fin 2816) :
    (val_main_v23 (F := Ideal) X G I (ix2 r j) : EReal)
      = actAt (normAt (fun k => X (ix2 r k)) (fun k => G (ix3 0 0 k))) (fun d j => I (ix4 0 0 d j)) j := by
  rw [val_main_v23_apply, val_main_v22_apply, logistic_at, gate_at, up_at]
  rfl

/-- The reference's result at an index. -/
theorem result_at (r : Fin 65536) (b : Fin 1024) :
    (val_main_v27 (F := Ideal) X G I O (ix2 r b) : EReal)
      = stepAt (fun k => X (ix2 r k)) (fun k => G (ix3 0 0 k)) (fun d j => I (ix4 0 0 d j)) (fun j b => O (ix4 0 0 j b)) b := by
  have e : (val_main_v24 (F := Ideal) X G I O (ix2 r b) : EReal)
      = ∑ j, actAt (normAt (fun k => X (ix2 r k)) (fun k => G (ix3 0 0 k))) (fun d j => I (ix4 0 0 d j)) j * O (ix4 0 0 j b) := by
    rw [val_main_v24_apply]
    refine Finset.sum_congr rfl fun j _ => ?_
    rw [show lidx_main_v24 (ix2 r b) j = ix2 r j from funext fun a => by match a with | ⟨0, _⟩ => rfl | ⟨1, _⟩ => rfl,
      show ridx_main_v24 (ix2 r b) j = ix2 j b from funext fun a => by match a with | ⟨0, _⟩ => rfl | ⟨1, _⟩ => rfl, act_at, wout_at]
  rw [val_main_v27_apply, val_main_v26_apply, val_main_v25_apply, e]
  rfl

end Cert.Reference2Ideal.Ffn

end
-- ==== Proof.Ffn.Claim.lean ====
/- The feed-forward half-step's claims: the reference's frame, and that the kernel's result is the reference's. -/
module

public import proofs.«01_k».proof.Defs
public import proofs.«01_k».proof.Proof.Gen.Reference2Ideal.Run
public import proofs.«01_k».proof.Proof.Gen.Kernel2Ideal.Value
public import proofs.«01_k».proof.Proof.Ffn.Array
public import proofs.«01_k».proof.Proof.Ffn.Reference
public import Idealize.ShloMosaic.Lib.Quiescent

@[expose] public section

noncomputable section

namespace Cert.Ffn

open Idealize.ShloMosaic Idealize.ShloMosaic.TcCoe Idealize.ShloMosaic.ValueIdx Idealize.SL.Sem

/-- The reference's frame. -/
theorem reference_frame : Cert.quiescent_Reference2Ideal := fun m ρ _ =>
  (θ_run _ _ _).mono (fun _ h => ⟨fun c => (h c).2, sem_eq_zero_of_no_sems rfl _⟩) (Cert.Reference2Ideal.Value.run m ρ)

/-- The kernel's result is the reference's. -/
theorem same_result (X : (⟨2, ![65536, 1024]⟩ : Shape).Idx → EReal) (G : (⟨3, ![2, 2, 1024]⟩ : Shape).Idx → EReal)
    (I : (⟨4, ![2, 2, 1024, 5632]⟩ : Shape).Idx → EReal) (O : (⟨4, ![2, 2, 2816, 1024]⟩ : Shape).Idx → EReal) :
    Cert.Reference2Ideal.Read.val_main_v27 (F := Ideal) X G I O = Cert.Kernel2Ideal.Ffn.result X G I O := by
  funext i
  obtain ⟨r, b, rfl⟩ : ∃ (r : Fin 65536) (b : Fin 1024), i = ix2 r b := ⟨i 0, i 1, eq_ix2 i⟩
  exact Cert.Reference2Ideal.Ffn.result_at X G I O r b

theorem algebraic : Cert.algebraic_Kernel2Ideal_Reference2Ideal := by
  intro m g m' g' hpre hargs
  refine ⟨fun c => (Cert.Kernel2Ideal.Gen.dats m 0 c).arrAt 4 Cert.Kernel2Ideal.cfg0.N, Cert.Kernel2Ideal.Value.run_blocks m g, ?_⟩
  refine (θ_run _ _ _).mono (fun r h c => ⟨(h c).1.trans ?_, (h c).2⟩) (Cert.Reference2Ideal.Value.run m' g')
  obtain ⟨e0, e1, e2, e3⟩ := hargs c
  refine (Cert.Reference2Ideal.Read.val_main_v27_eq _ _).trans ?_
  rw [e0, e1, e2, e3]
  exact (same_result _ _ _ _).trans (Cert.Kernel2Ideal.Ffn.final m c).symm

end Cert.Ffn

end
-- ==== Proof.Post.Whole.lean ====
/- What follows the last mixer written over whole arrays, for any number of rows: the host's operations in the order of
   the reference. -/
module

public import Idealize.ShloMosaic.Lib.Pipeline.Value
public import Idealize.ShloMosaic.Lib.StableHlo.Run

@[expose] public section

noncomputable section

namespace Cert.Post.Whole

open Idealize.ShloMosaic

variable {F : FTy → Type} [FloatOps F]

abbrev Mat (M N : ℕ) : Shape := ⟨2, ![M, N]⟩
abbrev Flat (M : ℕ) : Shape := ⟨1, ![M]⟩
abbrev One : Shape := ⟨0, ![]⟩
abbrev Cube (L M N : ℕ) : Shape := ⟨3, ![L, M, N]⟩
abbrev Quad (L M N K : ℕ) : Shape := ⟨4, ![L, M, N, K]⟩

/-- The layout facts that speak of the number of rows. -/
structure Fits (T : ℕ) : Prop where
  sum : (Mat T 1024).ReducesTo [1] (Flat T)
  row : (Mat T 1024).Reduces [1] (Flat T)
  col : (Flat T).BroadcastsInDim (Mat T 1) ![0]
  oneCol : One.BroadcastsInDim (Mat T 1) ![]
  wide : (Mat T 1).BroadcastsInDim (Mat T 1024) ![0, 1]
  rows : (Mat 1 1024).BroadcastsInDim (Mat T 1024) ![0, 1]
  one : One.BroadcastsInDim (Mat T 1024) ![]
  oneHidden : One.BroadcastsInDim (Mat T 2816) ![]
  gate : (Mat T 5632).Slices ![0, 0] (Mat T 2816)
  up : (Mat T 5632).Slices ![0, 2816] (Mat T 2816)
  layer : (Cube 2 T 256).Slices ![1, 0, 0] (Cube 1 T 256)
  flat : (Cube 1 T 256).ShapeCasts (Mat T 256)

theorem onePos : 0 < One.numel := by decide
theorem oneRow : (Flat 1024).BroadcastsInDim (Mat 1 1024) ![1] := by decide
theorem sliceScale : (Cube 2 2 1024).Slices ![1, 1, 0] (Cube 1 1 1024) := by decide
theorem castScale : (Cube 1 1 1024).ShapeCasts (Flat 1024) := by decide
theorem sliceIn : (Quad 2 2 1024 5632).Slices ![1, 1, 0, 0] (Quad 1 1 1024 5632) := by decide
theorem castIn : (Quad 1 1 1024 5632).ShapeCasts (Mat 1024 5632) := by decide
theorem sliceOut : (Quad 2 2 2816 1024).Slices ![1, 1, 0, 0] (Quad 1 1 2816 1024) := by decide
theorem castOut : (Quad 1 1 2816 1024).ShapeCasts (Mat 2816 1024) := by decide
theorem sliceGain : (Mat 2 1024).Slices ![1, 0] (Mat 1 1024) := by decide
theorem castGain : (Mat 1 1024).ShapeCasts (Flat 1024) := by decide
theorem sliceSquare : (Cube 2 1024 1024).Slices ![1, 0, 0] (Cube 1 1024 1024) := by decide
theorem castSquare : (Cube 1 1024 1024).ShapeCasts (Mat 1024 1024) := by decide
theorem sliceEmb : (Cube 2 256 1024).Slices ![1, 0, 0] (Cube 1 256 1024) := by decide
theorem castEmb : (Cube 1 256 1024).ShapeCasts (Mat 256 1024) := by decide
theorem wider : FTy.bf16.bits < FTy.f32.bits := by decide

/-! ## The last layer's weights -/

def scaleW (g : FVec F (Cube 2 2 1024) .f32) : FVec F (Flat 1024) .f32 := shapeCast _ (extractStridedSlice (Cube 1 1 1024) ![1, 1, 0] g sliceScale) castScale
def inW (w : FVec F (Quad 2 2 1024 5632) .f32) : FVec F (Mat 1024 5632) .f32 := shapeCast _ (extractStridedSlice (Quad 1 1 1024 5632) ![1, 1, 0, 0] w sliceIn) castIn
def outW (w : FVec F (Quad 2 2 2816 1024) .f32) : FVec F (Mat 2816 1024) .f32 := shapeCast _ (extractStridedSlice (Quad 1 1 2816 1024) ![1, 1, 0, 0] w sliceOut) castOut
def gainW (g : FVec F (Mat 2 1024) .f32) : FVec F (Flat 1024) .f32 := shapeCast _ (extractStridedSlice (Mat 1 1024) ![1, 0] g sliceGain) castGain
def squareW (w : FVec F (Cube 2 1024 1024) .f32) : FVec F (Mat 1024 1024) .f32 := shapeCast _ (extractStridedSlice (Cube 1 1024 1024) ![1, 0, 0] w sliceSquare) castSquare
def embW (w : FVec F (Cube 2 256 1024) .f32) : FVec F (Mat 256 1024) .f32 := shapeCast _ (extractStridedSlice (Cube 1 256 1024) ![1, 0, 0] w sliceEmb) castEmb
def onlyW (w : FVec F (Cube 1 1024 1024) .f32) : FVec F (Mat 1024 1024) .f32 := shapeCast _ w castSquare

/-! ## The stages -/

variable {T : ℕ} (h : Fits T)

/-- The embedding's rows of the last layer. -/
def rowsW (p : FVec F (Cube 2 T 256) .f32) : FVec F (Mat T 256) .f32 := shapeCast _ (extractStridedSlice (Cube 1 T 256) ![1, 0, 0] p h.layer) h.flat

/-- Each row's mean square, with the small constant added. -/
def meanW (x : FVec F (Mat T 1024) .f32) : FVec F (Mat T 1) .f32 :=
  addf (Host.divf (broadcastInDim _ ![0] h.col (Host.reduceAdd (mulf x x) (constant One .f32 0x00000000#32) h.sum onePos))
    (broadcastInDim _ ![] h.oneCol (constant One .f32 0x44800000#32))) (broadcastInDim _ ![] h.oneCol (constant One .f32 0x358637BD#32))

/-- Each row over its root mean square, times the gains. -/
def normW (x : FVec F (Mat T 1024) .f32) (g : FVec F (Flat 1024) .f32) : FVec F (Mat T 1024) .f32 :=
  mulf (mulf x (broadcastInDim _ ![0, 1] h.wide (Host.rsqrt (meanW h x)))) (broadcastInDim _ ![0, 1] h.rows (broadcastInDim (Mat 1 1024) ![1] oneRow g))

/-- The logistic function as the host writes it out. -/
def sigmoidW {N : ℕ} (one : One.BroadcastsInDim (Mat T N) ![]) (v : FVec F (Mat T N) .f32) : FVec F (Mat T N) .f32 :=
  Host.divf (broadcastInDim _ ![] one (constant One .f32 0x3F800000#32)) (addf (broadcastInDim _ ![] one (constant One .f32 0x3F800000#32)) (Host.exp (Host.negf v)))

/-- The rows times a matrix. -/
def timesW {K N : ℕ} (y : FVec F (Mat T K) .f32) (w : FVec F (Mat K N) .f32) : FVec F (Mat T N) .f32 := Host.dotGeneral (DotDims.plain T K N) none y w

/-- The hidden units, of their gates and values. -/
def hiddenW (z : FVec F (Mat T 5632) .f32) : FVec F (Mat T 2816) .f32 :=
  mulf (mulf (extractStridedSlice _ ![0, 0] z h.gate) (sigmoidW h.oneHidden (extractStridedSlice _ ![0, 0] z h.gate))) (extractStridedSlice _ ![0, 2816] z h.up)

/-- The half-step of the feed-forward part. -/
def stepW (x : FVec F (Mat T 1024) .f32) (g : FVec F (Flat 1024) .f32) (win : FVec F (Mat 1024 5632) .f32) (wout : FVec F (Mat 2816 1024) .f32) :
    FVec F (Mat T 1024) .f32 :=
  addf x (mulf (broadcastInDim _ ![] h.one (constant One .f32 0x3F000000#32)) (timesW (hiddenW h (timesW (normW h x g) win)) wout))

/-- The gated embedding added. -/
def gatedW (x : FVec F (Mat T 1024) .f32) (g : FVec F (Flat 1024) .f32) (wg : FVec F (Mat 1024 1024) .f32) (p : FVec F (Mat T 256) .f32)
    (wp : FVec F (Mat 256 1024) .f32) : FVec F (Mat T 1024) .f32 :=
  addf x (mulf (sigmoidW h.one (timesW (normW h x g) wg)) (timesW p wp))

/-- The mixer's output projected and added. -/
def mixW (x : FVec F (Mat T 1024) .f32) (o : FVec F (Mat T 1024) .bf16) (w : FVec F (Mat 1024 1024) .f32) : FVec F (Mat T 1024) .f32 :=
  addf x (timesW (extf .f32 o wider) w)

/-- All of it. -/
def postW (X : FVec F (Mat T 1024) .f32) (A : FVec F (Mat T 1024) .bf16) (P : FVec F (Cube 2 T 256) .f32) (G : FVec F (Cube 2 2 1024) .f32)
    (I : FVec F (Quad 2 2 1024 5632) .f32) (O : FVec F (Quad 2 2 2816 1024) .f32) (GP : FVec F (Mat 2 1024) .f32) (WG : FVec F (Cube 2 1024 1024) .f32)
    (WP : FVec F (Cube 2 256 1024) .f32) (WO : FVec F (Cube 1 1024 1024) .f32) (GF : FVec F (Flat 1024) .f32) : FVec F (Mat T 1024) .f32 :=
  normW h (gatedW h (stepW h (mixW X A (onlyW WO)) (scaleW G) (inW I) (outW O)) (gainW GP) (squareW WG) (rowsW h P) (embW WP)) GF

end Cert.Post.Whole

end
-- ==== Proof.Post.Run.lean ====
/- The run of the reference of the mixer's end at 65536 rows: its operations as a list, and every execution's result as
   `postW` of the arguments. The list and the lemmas before the run are the generated ones. -/
module

public import proofs.«01_k».proof.Proof.Gen.Reference3Ideal
public import proofs.«01_k».proof.Proof.Post.Whole
public import Idealize.ShloMosaic.Lib.StableHlo.Run

@[expose] public section

noncomputable section

namespace Cert.Reference3Ideal.Post

open Cert.Reference3Ideal Cert.Reference3Ideal.Gen Cert.Post.Whole Idealize.ShloMosaic Idealize.ShloMosaic.TcCoe Idealize.SL.Sem Idealize.ShloMosaic.StableHlo

variable {F : FTy → Type} [FloatOps F]

/-- The layout facts at 65536 rows. -/
theorem fits : Fits 65536 := ⟨by decide, by decide, by decide, by decide, by decide, by decide, by decide, by decide, by decide, by decide, by decide, by decide⟩

/-- @main's 96 operations, in order (a called function's operations stand in its call's place, spelt `TRef.…`). -/
abbrev ops : List (HloOp τ sig (Elt F)) :=
  [ unary main_arg1 main_v0 ((extf .f32 · bitsLt_bf16_f32) : (⟨S65536x1024, .bf16⟩ : BufTy).Contents (Elt F) → (⟨S65536x1024, .f32⟩ : BufTy).Contents (Elt F)),
    reshape main_arg9 main_v1 (rfl : (.f32 : EltTy) = .f32) shapeCasts_S1x1024x1024_S1024x1024,
    binary main_v0 main_v1 main_v2 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    binary main_arg0 main_v2 main_v3 (addf : (⟨S65536x1024, .f32⟩ : BufTy).Contents (Elt F) → (⟨S65536x1024, .f32⟩ : BufTy).Contents (Elt F) → (⟨S65536x1024, .f32⟩ : BufTy).Contents (Elt F)),
    unary main_arg3 main_v4 ((extractStridedSlice S1x1x1024 ![1, 1, 0] · slices_S2x2x1024_S1x1x1024_1_1_0) : (⟨S2x2x1024, .f32⟩ : BufTy).Contents (Elt F) → (⟨S1x1x1024, .f32⟩ : BufTy).Contents (Elt F)),
    reshape main_v4 main_v5 (rfl : (.f32 : EltTy) = .f32) shapeCasts_S1x1x1024_S1024,
    binary main_v3 main_v3 main_v6 (mulf : (⟨S65536x1024, .f32⟩ : BufTy).Contents (Elt F) → (⟨S65536x1024, .f32⟩ : BufTy).Contents (Elt F) → (⟨S65536x1024, .f32⟩ : BufTy).Contents (Elt F)),
    nullary main_cst (constant S_ .f32 0x00000000#32),
    binary main_v6 main_cst main_v7 ((fun x v => Host.reduceAdd x v reducesTo_S65536x1024_S65536_d1 h_S_) : (⟨S65536x1024, .f32⟩ : BufTy).Contents (Elt F) → (⟨S_, .f32⟩ : BufTy).Contents (Elt F) → (⟨S65536, .f32⟩ : BufTy).Contents (Elt F)),
    unary main_v7 main_v8 (broadcastInDim S65536x1 ![0] bcast_S65536_S65536x1_0 : (⟨S65536, .f32⟩ : BufTy).Contents (Elt F) → (⟨S65536x1, .f32⟩ : BufTy).Contents (Elt F)),
    nullary main_cst_0 (constant S_ .f32 0x44800000#32),
    unary main_cst_0 main_v9 (broadcastInDim S65536x1 ![] bcast_S_S65536x1 : (⟨S_, .f32⟩ : BufTy).Contents (Elt F) → (⟨S65536x1, .f32⟩ : BufTy).Contents (Elt F)),
    binary main_v8 main_v9 main_v10 (Host.divf : (⟨S65536x1, .f32⟩ : BufTy).Contents (Elt F) → (⟨S65536x1, .f32⟩ : BufTy).Contents (Elt F) → (⟨S65536x1, .f32⟩ : BufTy).Contents (Elt F)),
    nullary main_cst_1 (constant S_ .f32 0x358637BD#32),
    unary main_cst_1 main_v11 (broadcastInDim S65536x1 ![] bcast_S_S65536x1 : (⟨S_, .f32⟩ : BufTy).Contents (Elt F) → (⟨S65536x1, .f32⟩ : BufTy).Contents (Elt F)),
    binary main_v10 main_v11 main_v12 (addf : (⟨S65536x1, .f32⟩ : BufTy).Contents (Elt F) → (⟨S65536x1, .f32⟩ : BufTy).Contents (Elt F) → (⟨S65536x1, .f32⟩ : BufTy).Contents (Elt F)),
    unary main_v12 main_v13 (Host.rsqrt : (⟨S65536x1, .f32⟩ : BufTy).Contents (Elt F) → (⟨S65536x1, .f32⟩ : BufTy).Contents (Elt F)),
    unary main_v13 main_v14 (broadcastInDim S65536x1024 ![0, 1] bcast_S65536x1_S65536x1024_0_1 : (⟨S65536x1, .f32⟩ : BufTy).Contents (Elt F) → (⟨S65536x1024, .f32⟩ : BufTy).Contents (Elt F)),
    binary main_v3 main_v14 main_v15 (mulf : (⟨S65536x1024, .f32⟩ : BufTy).Contents (Elt F) → (⟨S65536x1024, .f32⟩ : BufTy).Contents (Elt F) → (⟨S65536x1024, .f32⟩ : BufTy).Contents (Elt F)),
    unary main_v5 main_v16 (broadcastInDim S1x1024 ![1] bcast_S1024_S1x1024_1 : (⟨S1024, .f32⟩ : BufTy).Contents (Elt F) → (⟨S1x1024, .f32⟩ : BufTy).Contents (Elt F)),
    unary main_v16 main_v17 (broadcastInDim S65536x1024 ![0, 1] bcast_S1x1024_S65536x1024_0_1 : (⟨S1x1024, .f32⟩ : BufTy).Contents (Elt F) → (⟨S65536x1024, .f32⟩ : BufTy).Contents (Elt F)),
    binary main_v15 main_v17 main_v18 (mulf : (⟨S65536x1024, .f32⟩ : BufTy).Contents (Elt F) → (⟨S65536x1024, .f32⟩ : BufTy).Contents (Elt F) → (⟨S65536x1024, .f32⟩ : BufTy).Contents (Elt F)),
    unary main_arg4 main_v19 ((extractStridedSlice S1x1x1024x5632 ![1, 1, 0, 0] · slices_S2x2x1024x5632_S1x1x1024x5632_1_1_0_0) : (⟨S2x2x1024x5632, .f32⟩ : BufTy).Contents (Elt F) → (⟨S1x1x1024x5632, .f32⟩ : BufTy).Contents (Elt F)),
    reshape main_v19 main_v20 (rfl : (.f32 : EltTy) = .f32) shapeCasts_S1x1x1024x5632_S1024x5632,
    unary main_arg5 main_v21 ((extractStridedSlice S1x1x2816x1024 ![1, 1, 0, 0] · slices_S2x2x2816x1024_S1x1x2816x1024_1_1_0_0) : (⟨S2x2x2816x1024, .f32⟩ : BufTy).Contents (Elt F) → (⟨S1x1x2816x1024, .f32⟩ : BufTy).Contents (Elt F)),
    reshape main_v21 main_v22 (rfl : (.f32 : EltTy) = .f32) shapeCasts_S1x1x2816x1024_S2816x1024,
    binary main_v18 main_v20 main_v23 ((fun l r => Host.dotGeneral dot_S65536x1024_S1024x5632_S65536x5632_1_0_0_1_n_n none l r) : (⟨S65536x1024, .f32⟩ : BufTy).Contents (Elt F) → (⟨S1024x5632, .f32⟩ : BufTy).Contents (Elt F) → (⟨S65536x5632, .f32⟩ : BufTy).Contents (Elt F)),
    unary main_v23 main_v24 ((extractStridedSlice S65536x2816 ![0, 0] · slices_S65536x5632_S65536x2816_0_0) : (⟨S65536x5632, .f32⟩ : BufTy).Contents (Elt F) → (⟨S65536x2816, .f32⟩ : BufTy).Contents (Elt F)),
    unary main_v23 main_v25 ((extractStridedSlice S65536x2816 ![0, 2816] · slices_S65536x5632_S65536x2816_0_2816) : (⟨S65536x5632, .f32⟩ : BufTy).Contents (Elt F) → (⟨S65536x2816, .f32⟩ : BufTy).Contents (Elt F)),
    TRef.unary (TRef.of (T := ⟨S65536x2816, .f32⟩) main_v24) (TRef.of (T := ⟨S65536x2816, .f32⟩) main_call0_v0) Host.negf,
    TRef.unary (TRef.of (T := ⟨S65536x2816, .f32⟩) main_call0_v0) (TRef.of (T := ⟨S65536x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S65536x2816, .f32⟩) main_call0_v2) (broadcastInDim S65536x2816 ![] bcast_S_S65536x2816),
    TRef.binary (TRef.of (T := ⟨S65536x2816, .f32⟩) main_call0_v2) (TRef.of (T := ⟨S65536x2816, .f32⟩) main_call0_v1) (TRef.of (T := ⟨S65536x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S65536x2816, .f32⟩) main_call0_v4) (broadcastInDim S65536x2816 ![] bcast_S_S65536x2816),
    TRef.binary (TRef.of (T := ⟨S65536x2816, .f32⟩) main_call0_v4) (TRef.of (T := ⟨S65536x2816, .f32⟩) main_call0_v3) (TRef.of (T := ⟨S65536x2816, .f32⟩) main_call0_v5) Host.divf,
    TRef.binary (TRef.of (T := ⟨S65536x2816, .f32⟩) main_v24) (TRef.of (T := ⟨S65536x2816, .f32⟩) main_call0_v5) (TRef.of (T := ⟨S65536x2816, .f32⟩) main_v26) mulf,
    binary main_v26 main_v25 main_v27 (mulf : (⟨S65536x2816, .f32⟩ : BufTy).Contents (Elt F) → (⟨S65536x2816, .f32⟩ : BufTy).Contents (Elt F) → (⟨S65536x2816, .f32⟩ : BufTy).Contents (Elt F)),
    binary main_v27 main_v22 main_v28 ((fun l r => Host.dotGeneral dot_S65536x2816_S2816x1024_S65536x1024_1_0_0_1_n_n none l r) : (⟨S65536x2816, .f32⟩ : BufTy).Contents (Elt F) → (⟨S2816x1024, .f32⟩ : BufTy).Contents (Elt F) → (⟨S65536x1024, .f32⟩ : BufTy).Contents (Elt F)),
    nullary main_cst_2 (constant S_ .f32 0x3F000000#32),
    unary main_cst_2 main_v29 (broadcastInDim S65536x1024 ![] bcast_S_S65536x1024 : (⟨S_, .f32⟩ : BufTy).Contents (Elt F) → (⟨S65536x1024, .f32⟩ : BufTy).Contents (Elt F)),
    binary main_v29 main_v28 main_v30 (mulf : (⟨S65536x1024, .f32⟩ : BufTy).Contents (Elt F) → (⟨S65536x1024, .f32⟩ : BufTy).Contents (Elt F) → (⟨S65536x1024, .f32⟩ : BufTy).Contents (Elt F)),
    binary main_v3 main_v30 main_v31 (addf : (⟨S65536x1024, .f32⟩ : BufTy).Contents (Elt F) → (⟨S65536x1024, .f32⟩ : BufTy).Contents (Elt F) → (⟨S65536x1024, .f32⟩ : BufTy).Contents (Elt F)),
    unary main_arg6 main_v32 ((extractStridedSlice S1x1024 ![1, 0] · slices_S2x1024_S1x1024_1_0) : (⟨S2x1024, .f32⟩ : BufTy).Contents (Elt F) → (⟨S1x1024, .f32⟩ : BufTy).Contents (Elt F)),
    reshape main_v32 main_v33 (rfl : (.f32 : EltTy) = .f32) shapeCasts_S1x1024_S1024,
    binary main_v31 main_v31 main_v34 (mulf : (⟨S65536x1024, .f32⟩ : BufTy).Contents (Elt F) → (⟨S65536x1024, .f32⟩ : BufTy).Contents (Elt F) → (⟨S65536x1024, .f32⟩ : BufTy).Contents (Elt F)),
    nullary main_cst_3 (constant S_ .f32 0x00000000#32),
    binary main_v34 main_cst_3 main_v35 ((fun x v => Host.reduceAdd x v reducesTo_S65536x1024_S65536_d1 h_S_) : (⟨S65536x1024, .f32⟩ : BufTy).Contents (Elt F) → (⟨S_, .f32⟩ : BufTy).Contents (Elt F) → (⟨S65536, .f32⟩ : BufTy).Contents (Elt F)),
    unary main_v35 main_v36 (broadcastInDim S65536x1 ![0] bcast_S65536_S65536x1_0 : (⟨S65536, .f32⟩ : BufTy).Contents (Elt F) → (⟨S65536x1, .f32⟩ : BufTy).Contents (Elt F)),
    nullary main_cst_4 (constant S_ .f32 0x44800000#32),
    unary main_cst_4 main_v37 (broadcastInDim S65536x1 ![] bcast_S_S65536x1 : (⟨S_, .f32⟩ : BufTy).Contents (Elt F) → (⟨S65536x1, .f32⟩ : BufTy).Contents (Elt F)),
    binary main_v36 main_v37 main_v38 (Host.divf : (⟨S65536x1, .f32⟩ : BufTy).Contents (Elt F) → (⟨S65536x1, .f32⟩ : BufTy).Contents (Elt F) → (⟨S65536x1, .f32⟩ : BufTy).Contents (Elt F)),
    nullary main_cst_5 (constant S_ .f32 0x358637BD#32),
    unary main_cst_5 main_v39 (broadcastInDim S65536x1 ![] bcast_S_S65536x1 : (⟨S_, .f32⟩ : BufTy).Contents (Elt F) → (⟨S65536x1, .f32⟩ : BufTy).Contents (Elt F)),
    binary main_v38 main_v39 main_v40 (addf : (⟨S65536x1, .f32⟩ : BufTy).Contents (Elt F) → (⟨S65536x1, .f32⟩ : BufTy).Contents (Elt F) → (⟨S65536x1, .f32⟩ : BufTy).Contents (Elt F)),
    unary main_v40 main_v41 (Host.rsqrt : (⟨S65536x1, .f32⟩ : BufTy).Contents (Elt F) → (⟨S65536x1, .f32⟩ : BufTy).Contents (Elt F)),
    unary main_v41 main_v42 (broadcastInDim S65536x1024 ![0, 1] bcast_S65536x1_S65536x1024_0_1 : (⟨S65536x1, .f32⟩ : BufTy).Contents (Elt F) → (⟨S65536x1024, .f32⟩ : BufTy).Contents (Elt F)),
    binary main_v31 main_v42 main_v43 (mulf : (⟨S65536x1024, .f32⟩ : BufTy).Contents (Elt F) → (⟨S65536x1024, .f32⟩ : BufTy).Contents (Elt F) → (⟨S65536x1024, .f32⟩ : BufTy).Contents (Elt F)),
    unary main_v33 main_v44 (broadcastInDim S1x1024 ![1] bcast_S1024_S1x1024_1 : (⟨S1024, .f32⟩ : BufTy).Contents (Elt F) → (⟨S1x1024, .f32⟩ : BufTy).Contents (Elt F)),
    unary main_v44 main_v45 (broadcastInDim S65536x1024 ![0, 1] bcast_S1x1024_S65536x1024_0_1 : (⟨S1x1024, .f32⟩ : BufTy).Contents (Elt F) → (⟨S65536x1024, .f32⟩ : BufTy).Contents (Elt F)),
    binary main_v43 main_v45 main_v46 (mulf : (⟨S65536x1024, .f32⟩ : BufTy).Contents (Elt F) → (⟨S65536x1024, .f32⟩ : BufTy).Contents (Elt F) → (⟨S65536x1024, .f32⟩ : BufTy).Contents (Elt F)),
    unary main_arg7 main_v47 ((extractStridedSlice S1x1024x1024 ![1, 0, 0] · slices_S2x1024x1024_S1x1024x1024_1_0_0) : (⟨S2x1024x1024, .f32⟩ : BufTy).Contents (Elt F) → (⟨S1x1024x1024, .f32⟩ : BufTy).Contents (Elt F)),
    reshape main_v47 main_v48 (rfl : (.f32 : EltTy) = .f32) shapeCasts_S1x1024x1024_S1024x1024,
    binary main_v46 main_v48 main_v49 ((fun l r => Host.dotGeneral dot_S65536x1024_S1024x1024_S65536x1024_1_0_0_1_n_n none l r) : (⟨S65536x1024, .f32⟩ : BufTy).Contents (Elt F) → (⟨S1024x1024, .f32⟩ : BufTy).Contents (Elt F) → (⟨S65536x1024, .f32⟩ : BufTy).Contents (Elt F)),
    unary main_v49 main_v50 (Host.negf : (⟨S65536x1024, .f32⟩ : BufTy).Contents (Elt F) → (⟨S65536x1024, .f32⟩ : BufTy).Contents (Elt F)),
    unary main_v50 main_v51 (Host.exp : (⟨S65536x1024, .f32⟩ : BufTy).Contents (Elt F) → (⟨S65536x1024, .f32⟩ : BufTy).Contents (Elt F)),
    nullary main_cst_6 (constant S_ .f32 0x3F800000#32),
    unary main_cst_6 main_v52 (broadcastInDim S65536x1024 ![] bcast_S_S65536x1024 : (⟨S_, .f32⟩ : BufTy).Contents (Elt F) → (⟨S65536x1024, .f32⟩ : BufTy).Contents (Elt F)),
    binary main_v52 main_v51 main_v53 (addf : (⟨S65536x1024, .f32⟩ : BufTy).Contents (Elt F) → (⟨S65536x1024, .f32⟩ : BufTy).Contents (Elt F) → (⟨S65536x1024, .f32⟩ : BufTy).Contents (Elt F)),
    nullary main_cst_7 (constant S_ .f32 0x3F800000#32),
    unary main_cst_7 main_v54 (broadcastInDim S65536x1024 ![] bcast_S_S65536x1024 : (⟨S_, .f32⟩ : BufTy).Contents (Elt F) → (⟨S65536x1024, .f32⟩ : BufTy).Contents (Elt F)),
    binary main_v54 main_v53 main_v55 (Host.divf : (⟨S65536x1024, .f32⟩ : BufTy).Contents (Elt F) → (⟨S65536x1024, .f32⟩ : BufTy).Contents (Elt F) → (⟨S65536x1024, .f32⟩ : BufTy).Contents (Elt F)),
    unary main_arg2 main_v56 ((extractStridedSlice S1x65536x256 ![1, 0, 0] · slices_S2x65536x256_S1x65536x256_1_0_0) : (⟨S2x65536x256, .f32⟩ : BufTy).Contents (Elt F) → (⟨S1x65536x256, .f32⟩ : BufTy).Contents (Elt F)),
    reshape main_v56 main_v57 (rfl : (.f32 : EltTy) = .f32) shapeCasts_S1x65536x256_S65536x256,
    unary main_arg8 main_v58 ((extractStridedSlice S1x256x1024 ![1, 0, 0] · slices_S2x256x1024_S1x256x1024_1_0_0) : (⟨S2x256x1024, .f32⟩ : BufTy).Contents (Elt F) → (⟨S1x256x1024, .f32⟩ : BufTy).Contents (Elt F)),
    reshape main_v58 main_v59 (rfl : (.f32 : EltTy) = .f32) shapeCasts_S1x256x1024_S256x1024,
    binary main_v57 main_v59 main_v60 ((fun l r => Host.dotGeneral dot_S65536x256_S256x1024_S65536x1024_1_0_0_1_n_n none l r) : (⟨S65536x256, .f32⟩ : BufTy).Contents (Elt F) → (⟨S256x1024, .f32⟩ : BufTy).Contents (Elt F) → (⟨S65536x1024, .f32⟩ : BufTy).Contents (Elt F)),
    binary main_v55 main_v60 main_v61 (mulf : (⟨S65536x1024, .f32⟩ : BufTy).Contents (Elt F) → (⟨S65536x1024, .f32⟩ : BufTy).Contents (Elt F) → (⟨S65536x1024, .f32⟩ : BufTy).Contents (Elt F)),
    binary main_v31 main_v61 main_v62 (addf : (⟨S65536x1024, .f32⟩ : BufTy).Contents (Elt F) → (⟨S65536x1024, .f32⟩ : BufTy).Contents (Elt F) → (⟨S65536x1024, .f32⟩ : BufTy).Contents (Elt F)),
    binary main_v62 main_v62 main_v63 (mulf : (⟨S65536x1024, .f32⟩ : BufTy).Contents (Elt F) → (⟨S65536x1024, .f32⟩ : BufTy).Contents (Elt F) → (⟨S65536x1024, .f32⟩ : BufTy).Contents (Elt F)),
    nullary main_cst_8 (constant S_ .f32 0x00000000#32),
    binary main_v63 main_cst_8 main_v64 ((fun x v => Host.reduceAdd x v reducesTo_S65536x1024_S65536_d1 h_S_) : (⟨S65536x1024, .f32⟩ : BufTy).Contents (Elt F) → (⟨S_, .f32⟩ : BufTy).Contents (Elt F) → (⟨S65536, .f32⟩ : BufTy).Contents (Elt F)),
    unary main_v64 main_v65 (broadcastInDim S65536x1 ![0] bcast_S65536_S65536x1_0 : (⟨S65536, .f32⟩ : BufTy).Contents (Elt F) → (⟨S65536x1, .f32⟩ : BufTy).Contents (Elt F)),
    nullary main_cst_9 (constant S_ .f32 0x44800000#32),
    unary main_cst_9 main_v66 (broadcastInDim S65536x1 ![] bcast_S_S65536x1 : (⟨S_, .f32⟩ : BufTy).Contents (Elt F) → (⟨S65536x1, .f32⟩ : BufTy).Contents (Elt F)),
    binary main_v65 main_v66 main_v67 (Host.divf : (⟨S65536x1, .f32⟩ : BufTy).Contents (Elt F) → (⟨S65536x1, .f32⟩ : BufTy).Contents (Elt F) → (⟨S65536x1, .f32⟩ : BufTy).Contents (Elt F)),
    nullary main_cst_10 (constant S_ .f32 0x358637BD#32),
    unary main_cst_10 main_v68 (broadcastInDim S65536x1 ![] bcast_S_S65536x1 : (⟨S_, .f32⟩ : BufTy).Contents (Elt F) → (⟨S65536x1, .f32⟩ : BufTy).Contents (Elt F)),
    binary main_v67 main_v68 main_v69 (addf : (⟨S65536x1, .f32⟩ : BufTy).Contents (Elt F) → (⟨S65536x1, .f32⟩ : BufTy).Contents (Elt F) → (⟨S65536x1, .f32⟩ : BufTy).Contents (Elt F)),
    unary main_v69 main_v70 (Host.rsqrt : (⟨S65536x1, .f32⟩ : BufTy).Contents (Elt F) → (⟨S65536x1, .f32⟩ : BufTy).Contents (Elt F)),
    unary main_v70 main_v71 (broadcastInDim S65536x1024 ![0, 1] bcast_S65536x1_S65536x1024_0_1 : (⟨S65536x1, .f32⟩ : BufTy).Contents (Elt F) → (⟨S65536x1024, .f32⟩ : BufTy).Contents (Elt F)),
    binary main_v62 main_v71 main_v72 (mulf : (⟨S65536x1024, .f32⟩ : BufTy).Contents (Elt F) → (⟨S65536x1024, .f32⟩ : BufTy).Contents (Elt F) → (⟨S65536x1024, .f32⟩ : BufTy).Contents (Elt F)),
    unary main_arg10 main_v73 (broadcastInDim S1x1024 ![1] bcast_S1024_S1x1024_1 : (⟨S1024, .f32⟩ : BufTy).Contents (Elt F) → (⟨S1x1024, .f32⟩ : BufTy).Contents (Elt F)),
    unary main_v73 main_v74 (broadcastInDim S65536x1024 ![0, 1] bcast_S1x1024_S65536x1024_0_1 : (⟨S1x1024, .f32⟩ : BufTy).Contents (Elt F) → (⟨S65536x1024, .f32⟩ : BufTy).Contents (Elt F)),
    binary main_v72 main_v74 main_v75 (mulf : (⟨S65536x1024, .f32⟩ : BufTy).Contents (Elt F) → (⟨S65536x1024, .f32⟩ : BufTy).Contents (Elt F) → (⟨S65536x1024, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., reshape_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

set_option maxRecDepth 8192 in
set_option maxRecDepth 8192 in
set_option maxHeartbeats 38400000 in
/-- On every device, for any float values, from any memory with zero counters: every weakly fair execution of
    @main terminates with the result at `postW` of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) =
        postW fits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v75).trans (by simp only [ops, TRef.binary, TRef.nullary, TRef.unary, TRef.toBuf, TRef.ofBuf, cast_eq]; after_results_simp <;> rfl),
      (h c main_arg0).trans (by simp only [ops, TRef.binary, TRef.nullary, TRef.unary, TRef.toBuf, TRef.ofBuf, cast_eq]; after_results_simp <;> rfl),
      (h c main_arg1).trans (by simp only [ops, TRef.binary, TRef.nullary, TRef.unary, TRef.toBuf, TRef.ofBuf, cast_eq]; after_results_simp <;> rfl),
      (h c main_arg2).trans (by simp only [ops, TRef.binary, TRef.nullary, TRef.unary, TRef.toBuf, TRef.ofBuf, cast_eq]; after_results_simp <;> rfl),
      (h c main_arg3).trans (by simp only [ops, TRef.binary, TRef.nullary, TRef.unary, TRef.toBuf, TRef.ofBuf, cast_eq]; after_results_simp <;> rfl),
      (h c main_arg4).trans (by simp only [ops, TRef.binary, TRef.nullary, TRef.unary, TRef.toBuf, TRef.ofBuf, cast_eq]; after_results_simp <;> rfl),
      (h c main_arg5).trans (by simp only [ops, TRef.binary, TRef.nullary, TRef.unary, TRef.toBuf, TRef.ofBuf, cast_eq]; after_results_simp <;> rfl),
      (h c main_arg6).trans (by simp only [ops, TRef.binary, TRef.nullary, TRef.unary, TRef.toBuf, TRef.ofBuf, cast_eq]; after_results_simp <;> rfl),
      (h c main_arg7).trans (by simp only [ops, TRef.binary, TRef.nullary, TRef.unary, TRef.toBuf, TRef.ofBuf, cast_eq]; after_results_simp <;> rfl),
      (h c main_arg8).trans (by simp only [ops, TRef.binary, TRef.nullary, TRef.unary, TRef.toBuf, TRef.ofBuf, cast_eq]; after_results_simp <;> rfl),
      (h c main_arg9).trans (by simp only [ops, TRef.binary, TRef.nullary, TRef.unary, TRef.toBuf, TRef.ofBuf, cast_eq]; after_results_simp <;> rfl),
      (h c main_arg10).trans (by simp only [ops, TRef.binary, TRef.nullary, TRef.unary, TRef.toBuf, TRef.ofBuf, cast_eq]; after_results_simp <;> rfl)⟩)
    (run_seq scopedRefs_eq scopedSems_eq defs main (fun _ => ops) main_eq (fun _ => ops_sub) m ρ)

end Cert.Reference3Ideal.Post

end
-- ==== Proof.Post.Tile.lean ====
/- The tile operations after the last mixer: the attention's output projected and added, the feed-forward half-step, the
   gated per-layer embedding, and the final normalisation. -/
module

public import proofs.«01_k».proof.Proof.Ffn.Tile

@[expose] public section

noncomputable section

namespace Cert.Post

open Idealize.ShloMosaic Cert.Ffn

variable {F : FTy → Type} [FloatOps F]

abbrev Sq : Shape := ⟨3, ![1, 1024, 1024]⟩
abbrev Emb : Shape := ⟨3, ![1, 1024, 256]⟩
abbrev EmbW : Shape := ⟨3, ![1, 256, 1024]⟩
abbrev Scale3 : Shape := ⟨3, ![1, 1, 1024]⟩

theorem castSq : Sq.ShapeCasts Rows := by decide
theorem castEmb : Emb.ShapeCasts Units := by decide
theorem castEmbW : EmbW.ShapeCasts OutLast := by decide
theorem castScale3 : Scale3.ShapeCasts Row := by decide

/-- The rows times a square weight. -/
def squareT (y : FVec F Rows .bf16) (w : Vec F Sq .bf16) : FVec F Rows .f32 :=
  matmul (DotDims.plain 1024 1024 1024) none y (shapeCast Rows w castSq) (constant Rows .f32 0x00000000#32)

/-- The embedding's rows projected. -/
def embT (p : Vec F Emb .f32) (w : Vec F EmbW .bf16) : FVec F Rows .f32 :=
  matmul (DotDims.plain 1024 256 1024) none (truncf .bf16 (shapeCast Units p castEmb) less) (shapeCast OutLast w castEmbW) (constant Rows .f32 0x00000000#32)

/-- The gate. -/
def gateT (x : FVec F Rows .f32) (g : Vec F Scale3 .f32) (w : Vec F Sq .bf16) : FVec F Rows .f32 :=
  logistic (squareT (truncf .bf16 (normT x (shapeCast Row g castScale3)) less) w)

/-- The gated embedding added, and the sum normalised. -/
def endT (x gate : FVec F Rows .f32) (p : Vec F Emb .f32) (wp : Vec F EmbW .bf16) (gf : Vec F Row .f32) : FVec F Rows .f32 :=
  normT (addf x (mulf gate (embT p wp))) (shapeCast Row gf castRow)

/-- The whole tile. -/
def postT (x : FVec F Rows .f32) (o : FVec F Rows .bf16) (wo : Vec F Sq .bf16) (g : FVec F Scale .f32) (win : Vec F In .bf16) (wout : Vec F Out .bf16)
    (p : Vec F Emb .f32) (gp : Vec F Scale3 .f32) (wg : Vec F Sq .bf16) (wp : Vec F EmbW .bf16) (gf : Vec F Row .f32) : FVec F Rows .f32 :=
  endT (stepT (addf x (squareT o wo)) g win wout) (gateT (stepT (addf x (squareT o wo)) g win wout) gp wg) p wp gf

end Cert.Post

end
-- ==== Proof.Post.Pieces.lean ====
/- What the last call leaves in its output block: the output projection, the half-step, the gated branch and the last
   normalisation of the tile. The block is stored eight times over; each store covers it, and each load of it reads the
   store before. -/
module

public import proofs.«01_k».proof.Proof.Gen.Kernel3Ideal.Frame
public import proofs.«01_k».proof.Proof.Post.Tile
public import Idealize.ShloMosaic.Lib.VecWindow

@[expose] public section

set_option maxRecDepth 16384

noncomputable section

namespace Cert.Kernel3Ideal.Post

open Idealize.ShloMosaic Idealize.ShloMosaic.TcCoe Idealize.ShloMosaic.Tactic
open Cert.Kernel3Ideal.Gen Cert.Ffn Cert.Post

variable {F : FTy → Type} [FloatOps F]

/-- What the loads of the output block read: the product over the first hidden units, 512 more each time, and in the end
    over all. -/
theorem load0 (c : Dev nD) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg12 : Memref sig .tc .vmem S1024x1024 .f32) (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) :
    kernelRun0_A.sl.v44 c arg12 = accT (kernelRun0_A.sl.r_1 c arg1 harg1 arg2 harg2 arg3 harg3 arg4 harg4 x0 x1 x2 x3) (arg5.view.read (Elt F) (harg5.unread x4)) (arg6.view.read (Elt F) (harg6.unread x5)) 0 (by decide) :=
  View.readCov_full (s := S1024x1024) arg12.view _ _ _ _

theorem load1 (c : Dev nD) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg12 : Memref sig .tc .vmem S1024x1024 .f32) (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) :
    kernelRun0_A.sl.v73 c arg1 harg1 arg2 harg2 arg3 harg3 arg4 harg4 arg5 harg5 arg6 harg6 arg12 x0 x1 x2 x3 x4 x5 = accT (kernelRun0_A.sl.r_1 c arg1 harg1 arg2 harg2 arg3 harg3 arg4 harg4 x0 x1 x2 x3) (arg5.view.read (Elt F) (harg5.unread x4)) (arg6.view.read (Elt F) (harg6.unread x5)) 1 (by decide) := by
  refine (View.readCov_full (s := S1024x1024) arg12.view _ _ _ _).trans ?_
  refine Eq.trans (b := pairT (kernelRun0_A.sl.v44 c arg12) (actOf (kernelRun0_A.sl.r_1 c arg1 harg1 arg2 harg2 arg3 harg3 arg4 harg4 x0 x1 x2 x3) (arg5.view.read (Elt F) (harg5.unread x4)) 0 (by decide)) (actOf (kernelRun0_A.sl.r_1 c arg1 harg1 arg2 harg2 arg3 harg3 arg4 harg4 x0 x1 x2 x3) (arg5.view.read (Elt F) (harg5.unread x4)) 256 (by decide))
    (View.ld (arg6.view.read (Elt F) (harg6.unread x5)) (Rect.unit ![0, 0, 0, 0, 0] ![1, 1, 2, 256, 1024] (inbOut 0 2 (by decide))))) (by sl_kernel_rfl) ?_
  rw [load0 c arg1 harg1 arg2 harg2 arg3 harg3 arg4 harg4 arg5 harg5 arg6 harg6 arg12 x0 x1 x2 x3 x4 x5]; rfl

theorem load2 (c : Dev nD) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg12 : Memref sig .tc .vmem S1024x1024 .f32) (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) :
    kernelRun0_A.sl.v102 c arg1 harg1 arg2 harg2 arg3 harg3 arg4 harg4 arg5 harg5 arg6 harg6 arg12 x0 x1 x2 x3 x4 x5 = accT (kernelRun0_A.sl.r_1 c arg1 harg1 arg2 harg2 arg3 harg3 arg4 harg4 x0 x1 x2 x3) (arg5.view.read (Elt F) (harg5.unread x4)) (arg6.view.read (Elt F) (harg6.unread x5)) 2 (by decide) := by
  refine (View.readCov_full (s := S1024x1024) arg12.view _ _ _ _).trans ?_
  refine Eq.trans (b := pairT (kernelRun0_A.sl.v73 c arg1 harg1 arg2 harg2 arg3 harg3 arg4 harg4 arg5 harg5 arg6 harg6 arg12 x0 x1 x2 x3 x4 x5) (actOf (kernelRun0_A.sl.r_1 c arg1 harg1 arg2 harg2 arg3 harg3 arg4 harg4 x0 x1 x2 x3) (arg5.view.read (Elt F) (harg5.unread x4)) 512 (by decide)) (actOf (kernelRun0_A.sl.r_1 c arg1 harg1 arg2 harg2 arg3 harg3 arg4 harg4 x0 x1 x2 x3) (arg5.view.read (Elt F) (harg5.unread x4)) 768 (by decide))
    (View.ld (arg6.view.read (Elt F) (harg6.unread x5)) (Rect.unit ![0, 0, 2, 0, 0] ![1, 1, 2, 256, 1024] (inbOut 2 2 (by decide))))) (by sl_kernel_rfl) ?_
  rw [load1 c arg1 harg1 arg2 harg2 arg3 harg3 arg4 harg4 arg5 harg5 arg6 harg6 arg12 x0 x1 x2 x3 x4 x5]; rfl

theorem load3 (c : Dev nD) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg12 : Memref sig .tc .vmem S1024x1024 .f32) (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) :
    kernelRun0_A.sl.v131 c arg1 harg1 arg2 harg2 arg3 harg3 arg4 harg4 arg5 harg5 arg6 harg6 arg12 x0 x1 x2 x3 x4 x5 = accT (kernelRun0_A.sl.r_1 c arg1 harg1 arg2 harg2 arg3 harg3 arg4 harg4 x0 x1 x2 x3) (arg5.view.read (Elt F) (harg5.unread x4)) (arg6.view.read (Elt F) (harg6.unread x5)) 3 (by decide) := by
  refine (View.readCov_full (s := S1024x1024) arg12.view _ _ _ _).trans ?_
  refine Eq.trans (b := pairT (kernelRun0_A.sl.v102 c arg1 harg1 arg2 harg2 arg3 harg3 arg4 harg4 arg5 harg5 arg6 harg6 arg12 x0 x1 x2 x3 x4 x5) (actOf (kernelRun0_A.sl.r_1 c arg1 harg1 arg2 harg2 arg3 harg3 arg4 harg4 x0 x1 x2 x3) (arg5.view.read (Elt F) (harg5.unread x4)) 1024 (by decide)) (actOf (kernelRun0_A.sl.r_1 c arg1 harg1 arg2 harg2 arg3 harg3 arg4 harg4 x0 x1 x2 x3) (arg5.view.read (Elt F) (harg5.unread x4)) 1280 (by decide))
    (View.ld (arg6.view.read (Elt F) (harg6.unread x5)) (Rect.unit ![0, 0, 4, 0, 0] ![1, 1, 2, 256, 1024] (inbOut 4 2 (by decide))))) (by sl_kernel_rfl) ?_
  rw [load2 c arg1 harg1 arg2 harg2 arg3 harg3 arg4 harg4 arg5 harg5 arg6 harg6 arg12 x0 x1 x2 x3 x4 x5]; rfl

theorem load4 (c : Dev nD) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg12 : Memref sig .tc .vmem S1024x1024 .f32) (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) :
    kernelRun0_A.sl.v160 c arg1 harg1 arg2 harg2 arg3 harg3 arg4 harg4 arg5 harg5 arg6 harg6 arg12 x0 x1 x2 x3 x4 x5 = accT (kernelRun0_A.sl.r_1 c arg1 harg1 arg2 harg2 arg3 harg3 arg4 harg4 x0 x1 x2 x3) (arg5.view.read (Elt F) (harg5.unread x4)) (arg6.view.read (Elt F) (harg6.unread x5)) 4 (by decide) := by
  refine (View.readCov_full (s := S1024x1024) arg12.view _ _ _ _).trans ?_
  refine Eq.trans (b := pairT (kernelRun0_A.sl.v131 c arg1 harg1 arg2 harg2 arg3 harg3 arg4 harg4 arg5 harg5 arg6 harg6 arg12 x0 x1 x2 x3 x4 x5) (actOf (kernelRun0_A.sl.r_1 c arg1 harg1 arg2 harg2 arg3 harg3 arg4 harg4 x0 x1 x2 x3) (arg5.view.read (Elt F) (harg5.unread x4)) 1536 (by decide)) (actOf (kernelRun0_A.sl.r_1 c arg1 harg1 arg2 harg2 arg3 harg3 arg4 harg4 x0 x1 x2 x3) (arg5.view.read (Elt F) (harg5.unread x4)) 1792 (by decide))
    (View.ld (arg6.view.read (Elt F) (harg6.unread x5)) (Rect.unit ![0, 0, 6, 0, 0] ![1, 1, 2, 256, 1024] (inbOut 6 2 (by decide))))) (by sl_kernel_rfl) ?_
  rw [load3 c arg1 harg1 arg2 harg2 arg3 harg3 arg4 harg4 arg5 harg5 arg6 harg6 arg12 x0 x1 x2 x3 x4 x5]; rfl

theorem load5 (c : Dev nD) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg12 : Memref sig .tc .vmem S1024x1024 .f32) (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) :
    kernelRun0_A.sl.v168 c arg1 harg1 arg2 harg2 arg3 harg3 arg4 harg4 arg5 harg5 arg6 harg6 arg12 x0 x1 x2 x3 x4 x5 = accT (kernelRun0_A.sl.r_1 c arg1 harg1 arg2 harg2 arg3 harg3 arg4 harg4 x0 x1 x2 x3) (arg5.view.read (Elt F) (harg5.unread x4)) (arg6.view.read (Elt F) (harg6.unread x5)) 5 (by decide) := by
  refine (View.readCov_full (s := S1024x1024) arg12.view _ _ _ _).trans ?_
  refine Eq.trans (b := pairT (kernelRun0_A.sl.v160 c arg1 harg1 arg2 harg2 arg3 harg3 arg4 harg4 arg5 harg5 arg6 harg6 arg12 x0 x1 x2 x3 x4 x5) (actOf (kernelRun0_A.sl.r_1 c arg1 harg1 arg2 harg2 arg3 harg3 arg4 harg4 x0 x1 x2 x3) (arg5.view.read (Elt F) (harg5.unread x4)) 2048 (by decide)) (actOf (kernelRun0_A.sl.r_1 c arg1 harg1 arg2 harg2 arg3 harg3 arg4 harg4 x0 x1 x2 x3) (arg5.view.read (Elt F) (harg5.unread x4)) 2304 (by decide))
    (View.ld (arg6.view.read (Elt F) (harg6.unread x5)) (Rect.unit ![0, 0, 8, 0, 0] ![1, 1, 2, 256, 1024] (inbOut 8 2 (by decide))))) (by sl_kernel_rfl) ?_
  rw [load4 c arg1 harg1 arg2 harg2 arg3 harg3 arg4 harg4 arg5 harg5 arg6 harg6 arg12 x0 x1 x2 x3 x4 x5]; rfl

theorem load6 (c : Dev nD) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg12 : Memref sig .tc .vmem S1024x1024 .f32) (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) :
    kernelRun0_A.sl.v185 c arg1 harg1 arg2 harg2 arg3 harg3 arg4 harg4 arg5 harg5 arg6 harg6 arg12 x0 x1 x2 x3 x4 x5 = sumT (kernelRun0_A.sl.r_1 c arg1 harg1 arg2 harg2 arg3 harg3 arg4 harg4 x0 x1 x2 x3) (arg5.view.read (Elt F) (harg5.unread x4)) (arg6.view.read (Elt F) (harg6.unread x5)) := by
  refine (View.readCov_full (s := S1024x1024) arg12.view _ _ _ _).trans ?_
  refine Eq.trans (b := lastT (kernelRun0_A.sl.v168 c arg1 harg1 arg2 harg2 arg3 harg3 arg4 harg4 arg5 harg5 arg6 harg6 arg12 x0 x1 x2 x3 x4 x5) (actOf (kernelRun0_A.sl.r_1 c arg1 harg1 arg2 harg2 arg3 harg3 arg4 harg4 x0 x1 x2 x3) (arg5.view.read (Elt F) (harg5.unread x4)) 2560 (by decide))
    (View.ld (arg6.view.read (Elt F) (harg6.unread x5)) (Rect.unit ![0, 0, 10, 0, 0] ![1, 1, 1, 256, 1024] (inbOut 10 1 (by decide))))) (by sl_kernel_rfl) ?_
  rw [load5 c arg1 harg1 arg2 harg2 arg3 harg3 arg4 harg4 arg5 harg5 arg6 harg6 arg12 x0 x1 x2 x3 x4 x5]; rfl

/-- The block in the end. -/
theorem out_eq (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg7 : Memref sig .tc .vmem S1x1024x256 .f32) (harg7 : arg7.IsWhole) (arg8 : Memref sig .tc .vmem S1x1x1024 .f32) (harg8 : arg8.IsWhole) (arg9 : Memref sig .tc .vmem S1x1024x1024 .bf16) (harg9 : arg9.IsWhole) (arg10 : Memref sig .tc .vmem S1x256x1024 .bf16) (harg10 : arg10.IsWhole) (arg11 : Memref sig .tc .vmem S1x1024 .f32) (harg11 : arg11.IsWhole) (arg12 : Memref sig .tc .vmem S1024x1024 .f32) (harg12 : arg12.IsWhole)
    (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) (x6 : Vec F S1x1024x256 .f32) (x7 : Vec F S1x1x1024 .f32) (x8 : Vec F S1x1024x1024 .bf16) (x9 : Vec F S1x256x1024 .bf16) (x10 : Vec F S1x1024 .f32) :
    out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 = postT x0 x1 x2 x3 x4 x5 x6 x7 x8 x9 x10 := by
  unfold out0_A_11 kernelRun0_A
  dsimp only
  refine (View.read_writes_full (s := S1024x1024) VO0_11 _ _ _ _).trans ?_
  have e0 : arg1.view.readAt (Elt F) (Rect.unit ![0, 0] S1024x1024.size inb_S1024x1024_S1024x1024_0_0).toLoadRect (harg1.unread x0) = x0 :=
    (View.readAt_full (s := S1024x1024) arg1.view _ _).trans (harg1.read_unread x0)
  have e1 : arg2.view.readAt (Elt F) (Rect.unit ![0, 0] S1024x1024.size inb_S1024x1024_S1024x1024_0_0).toLoadRect (harg2.unread x1) = x1 :=
    (View.readAt_full (s := S1024x1024) arg2.view _ _).trans (harg2.read_unread x1)
  have e2 : arg3.view.readAt (Elt F) (Rect.unit ![0, 0, 0] S1x1024x1024.size inb_S1x1024x1024_S1x1024x1024_0_0_0).toLoadRect (harg3.unread x2) = x2 :=
    (View.readAt_full (s := S1x1024x1024) arg3.view _ _).trans (harg3.read_unread x2)
  have e3 : arg4.view.readAt (Elt F) (Rect.unit ![0, 0, 0, 0] S1x1x1x1024.size inb_S1x1x1x1024_S1x1x1x1024_0_0_0_0).toLoadRect (harg4.unread x3) = x3 :=
    (View.readAt_full (s := S1x1x1x1024) arg4.view _ _).trans (harg4.read_unread x3)
  have e6 : arg7.view.readAt (Elt F) (Rect.unit ![0, 0, 0] S1x1024x256.size inb_S1x1024x256_S1x1024x256_0_0_0).toLoadRect (harg7.unread x6) = x6 :=
    (View.readAt_full (s := S1x1024x256) arg7.view _ _).trans (harg7.read_unread x6)
  have e7 : arg8.view.readAt (Elt F) (Rect.unit ![0, 0, 0] S1x1x1024.size inb_S1x1x1024_S1x1x1024_0_0_0).toLoadRect (harg8.unread x7) = x7 :=
    (View.readAt_full (s := S1x1x1024) arg8.view _ _).trans (harg8.read_unread x7)
  have e8 : arg9.view.readAt (Elt F) (Rect.unit ![0, 0, 0] S1x1024x1024.size inb_S1x1024x1024_S1x1024x1024_0_0_0).toLoadRect (harg9.unread x8) = x8 :=
    (View.readAt_full (s := S1x1024x1024) arg9.view _ _).trans (harg9.read_unread x8)
  have e9 : arg10.view.readAt (Elt F) (Rect.unit ![0, 0, 0] S1x256x1024.size inb_S1x256x1024_S1x256x1024_0_0_0).toLoadRect (harg10.unread x9) = x9 :=
    (View.readAt_full (s := S1x256x1024) arg10.view _ _).trans (harg10.read_unread x9)
  have e10 : arg11.view.readAt (Elt F) (Rect.unit ![0, 0] S1x1024.size inb_S1x1024_S1x1024_0_0).toLoadRect (harg11.unread x10) = x10 :=
    (View.readAt_full (s := S1x1024) arg11.view _ _).trans (harg11.read_unread x10)
  have er : kernelRun0_A.sl.r c arg1 harg1 arg2 harg2 arg3 harg3 x0 x1 x2 = addf x0 (squareT x1 x2) := by
    refine Eq.trans (b := addf (arg1.view.readAt (Elt F) (Rect.unit ![0, 0] S1024x1024.size inb_S1024x1024_S1024x1024_0_0).toLoadRect (harg1.unread x0))
      (squareT (arg2.view.readAt (Elt F) (Rect.unit ![0, 0] S1024x1024.size inb_S1024x1024_S1024x1024_0_0).toLoadRect (harg2.unread x1))
        (arg3.view.readAt (Elt F) (Rect.unit ![0, 0, 0] S1x1024x1024.size inb_S1x1024x1024_S1x1024x1024_0_0_0).toLoadRect (harg3.unread x2)))) (by sl_kernel_rfl) ?_
    rw [e0, e1, e2]
  have ey : kernelRun0_A.sl.r_1 c arg1 harg1 arg2 harg2 arg3 harg3 arg4 harg4 x0 x1 x2 x3 = truncf .bf16 (normT (addf x0 (squareT x1 x2)) (shapeCast Row x3 castScale)) less := by
    refine Eq.trans (b := truncf .bf16 (normT (kernelRun0_A.sl.r c arg1 harg1 arg2 harg2 arg3 harg3 x0 x1 x2) (shapeCast Row
      (arg4.view.readAt (Elt F) (Rect.unit ![0, 0, 0, 0] S1x1x1x1024.size inb_S1x1x1x1024_S1x1x1x1024_0_0_0_0).toLoadRect (harg4.unread x3)) castScale)) less) (by sl_kernel_rfl) ?_
    rw [er, e3]
  have eh : kernelRun0_A.sl.r_20 c arg1 harg1 arg2 harg2 arg3 harg3 arg4 harg4 arg5 harg5 arg6 harg6 arg12 x0 x1 x2 x3 x4 x5 = stepT (addf x0 (squareT x1 x2)) x3 x4 x5 := by
    refine Eq.trans (b := halfT (kernelRun0_A.sl.r c arg1 harg1 arg2 harg2 arg3 harg3 x0 x1 x2) (kernelRun0_A.sl.v185 c arg1 harg1 arg2 harg2 arg3 harg3 arg4 harg4 arg5 harg5 arg6 harg6 arg12 x0 x1 x2 x3 x4 x5)) (by sl_kernel_rfl) ?_
    rw [load6, er, ey, harg5.read_unread x4, harg6.read_unread x5]; rfl
  have eg : kernelRun0_A.sl.r_21 c arg1 harg1 arg2 harg2 arg3 harg3 arg4 harg4 arg5 harg5 arg6 harg6 arg8 harg8 arg9 harg9 arg12 x0 x1 x2 x3 x4 x5 x7 x8 = gateT (stepT (addf x0 (squareT x1 x2)) x3 x4 x5) x7 x8 := by
    refine Eq.trans (b := gateT (kernelRun0_A.sl.r_20 c arg1 harg1 arg2 harg2 arg3 harg3 arg4 harg4 arg5 harg5 arg6 harg6 arg12 x0 x1 x2 x3 x4 x5)
      (arg8.view.readAt (Elt F) (Rect.unit ![0, 0, 0] S1x1x1024.size inb_S1x1x1024_S1x1x1024_0_0_0).toLoadRect (harg8.unread x7))
      (arg9.view.readAt (Elt F) (Rect.unit ![0, 0, 0] S1x1024x1024.size inb_S1x1024x1024_S1x1024x1024_0_0_0).toLoadRect (harg9.unread x8))) (by sl_kernel_rfl) ?_
    rw [eh, e7, e8]
  refine Eq.trans (b := endT (kernelRun0_A.sl.r_20 c arg1 harg1 arg2 harg2 arg3 harg3 arg4 harg4 arg5 harg5 arg6 harg6 arg12 x0 x1 x2 x3 x4 x5)
    (kernelRun0_A.sl.r_21 c arg1 harg1 arg2 harg2 arg3 harg3 arg4 harg4 arg5 harg5 arg6 harg6 arg8 harg8 arg9 harg9 arg12 x0 x1 x2 x3 x4 x5 x7 x8)
    (arg7.view.readAt (Elt F) (Rect.unit ![0, 0, 0] S1x1024x256.size inb_S1x1024x256_S1x1024x256_0_0_0).toLoadRect (harg7.unread x6))
    (arg10.view.readAt (Elt F) (Rect.unit ![0, 0, 0] S1x256x1024.size inb_S1x256x1024_S1x256x1024_0_0_0).toLoadRect (harg10.unread x9))
    (arg11.view.readAt (Elt F) (Rect.unit ![0, 0] S1x1024.size inb_S1x1024_S1x1024_0_0).toLoadRect (harg11.unread x10))) (by sl_kernel_rfl) ?_
  rw [eh, eg, e6, e9, e10]; rfl

end Cert.Kernel3Ideal.Post

end
-- ==== Proof.Post.TileAt.lean ====
/- The tile operations after the last mixer read at an index, at the ideal values. -/
module

public import proofs.«01_k».proof.Proof.Post.Tile
public import proofs.«01_k».proof.Proof.Ffn.TileAt

@[expose] public section

noncomputable section

namespace Cert.Post

open Idealize.ShloMosaic Idealize.ShloMosaic.ValueIdx
open Cert.Ffn
open scoped BigOperators

/-- A row with the attention's row, projected, added. -/
def mixAt (x o : Fin 1024 → EReal) (wo : Fin 1024 → Fin 1024 → EReal) (b : Fin 1024) : EReal := x b + ∑ d, o d * wo d b

/-- The embedding's gate, from the row normalised. -/
def gateAt (z gp : Fin 1024 → EReal) (wg : Fin 1024 → Fin 1024 → EReal) (b : Fin 1024) : EReal := Ideal.logistic (∑ d, normAt z gp d * wg d b)

/-- The embedding's row projected. -/
def embAt (p : Fin 256 → EReal) (wp : Fin 256 → Fin 1024 → EReal) (b : Fin 1024) : EReal := ∑ e, p e * wp e b

/-- A row with its gated embedding added, normalised. -/
def endAt (z : Fin 1024 → EReal) (p : Fin 256 → EReal) (gp : Fin 1024 → EReal) (wg : Fin 1024 → Fin 1024 → EReal) (wp : Fin 256 → Fin 1024 → EReal)
    (gf : Fin 1024 → EReal) (b : Fin 1024) : EReal := normAt (fun b => z b + gateAt z gp wg b * embAt p wp b) gf b

/-- The whole row. -/
def postAt (x o : Fin 1024 → EReal) (wo : Fin 1024 → Fin 1024 → EReal) (g : Fin 1024 → EReal) (win : Fin 1024 → Fin 5632 → EReal)
    (wout : Fin 2816 → Fin 1024 → EReal) (p : Fin 256 → EReal) (gp : Fin 1024 → EReal) (wg : Fin 1024 → Fin 1024 → EReal)
    (wp : Fin 256 → Fin 1024 → EReal) (gf : Fin 1024 → EReal) (b : Fin 1024) : EReal :=
  endAt (stepAt (mixAt x o wo) g win wout) p gp wg wp gf b

theorem squareT_at (y : FVec Ideal Rows .bf16) (w : Vec Ideal Sq .bf16) (a b : Fin 1024) :
    (squareT y w (ix2 a b) : EReal) = ∑ d : Fin 1024, (y (ix2 a d) : EReal) * (w (ix3 0 d b) : EReal) := by
  unfold squareT
  simp only [matmul]
  refine (Ideal.matmul_plain_apply (M := 1024) (K := 1024) (N := 1024) none _ _ _ a b).trans ?_
  have hz : (constant (F := Ideal) Rows .f32 0x00000000#32 (ix2 a b) : EReal) = 0 := Ideal.ofBits_zero_f32
  rw [hz, zero_add]
  refine Finset.sum_congr rfl fun d _ => congrArg (fun v : EReal => (y (ix2 a d) : EReal) * v) ?_
  refine shapeCast_apply w castSq (ix2 d b) (ix3 0 d b) ?_
  rw [Shape.rowMajor_val_three, Shape.rowMajor_val_two]
  show (0 * 1024 + d.val) * 1024 + b.val = d.val * 1024 + b.val
  omega

theorem embT_at (p : Vec Ideal Emb .f32) (w : Vec Ideal EmbW .bf16) (a b : Fin 1024) :
    (embT p w (ix2 a b) : EReal) = embAt (fun e => p (ix3 0 a e)) (fun e b => w (ix3 0 e b)) b := by
  unfold embT embAt
  simp only [matmul]
  refine (Ideal.matmul_plain_apply (M := 1024) (K := 256) (N := 1024) none _ _ _ a b).trans ?_
  have hz : (constant (F := Ideal) Rows .f32 0x00000000#32 (ix2 a b) : EReal) = 0 := Ideal.ofBits_zero_f32
  rw [hz, zero_add]
  refine Finset.sum_congr rfl fun e _ => ?_
  refine congrArg₂ (fun u v : EReal => u * v) ?_ ?_
  · refine Eq.trans (b := (shapeCast Units p castEmb (ix2 a e) : EReal)) rfl (shapeCast_apply p castEmb (ix2 a e) (ix3 0 a e) ?_)
    rw [Shape.rowMajor_val_three, Shape.rowMajor_val_two]
    show (0 * 1024 + a.val) * 256 + e.val = a.val * 256 + e.val
    omega
  · refine shapeCast_apply w castEmbW (ix2 e b) (ix3 0 e b) ?_
    rw [Shape.rowMajor_val_three, Shape.rowMajor_val_two]
    show (0 * 256 + e.val) * 1024 + b.val = e.val * 1024 + b.val
    omega

theorem gateT_at (x : FVec Ideal Rows .f32) (g : Vec Ideal Scale3 .f32) (w : Vec Ideal Sq .bf16) (a b : Fin 1024) :
    (gateT x g w (ix2 a b) : EReal) = gateAt (fun k => x (ix2 a k)) (fun k => g (ix3 0 0 k)) (fun d b => w (ix3 0 d b)) b := by
  have eg : ∀ k : Fin 1024, (shapeCast Row g castScale3 (ix2 0 k) : EReal) = g (ix3 0 0 k) := fun k => by
    refine shapeCast_apply g castScale3 (ix2 0 k) (ix3 0 0 k) ?_
    rw [Shape.rowMajor_val_two, Shape.rowMajor_val_three]
    show (0 * 1 + 0) * 1024 + k.val = 0 * 1024 + k.val
    omega
  refine congrArg Ideal.logistic ((squareT_at _ w a b).trans (Finset.sum_congr rfl fun d _ => congrArg (fun v : EReal => v * (w (ix3 0 d b) : EReal)) ?_))
  refine Eq.trans (b := (normT x (shapeCast Row g castScale3) (ix2 a d) : EReal)) rfl ((normT_at x _ a d).trans ?_)
  simp only [eg]

theorem endT_at (x gate : FVec Ideal Rows .f32) (p : Vec Ideal Emb .f32) (wp : Vec Ideal EmbW .bf16) (gf : Vec Ideal Row .f32) (a b : Fin 1024) :
    (endT x gate p wp gf (ix2 a b) : EReal)
      = normAt (fun b => (x (ix2 a b) : EReal) + (gate (ix2 a b) : EReal) * embAt (fun e => p (ix3 0 a e)) (fun e b => wp (ix3 0 e b)) b)
          (fun k => gf (ix2 0 k)) b := by
  unfold endT
  refine (normT_at _ _ a b).trans ?_
  have eg : ∀ k : Fin 1024, (shapeCast Row gf castRow (ix2 0 k) : EReal) = gf (ix2 0 k) := fun k => shapeCast_apply gf castRow _ _ rfl
  have es : ∀ k : Fin 1024, (addf x (mulf gate (embT p wp)) (ix2 a k) : EReal)
      = (x (ix2 a k) : EReal) + (gate (ix2 a k) : EReal) * embAt (fun e => p (ix3 0 a e)) (fun e b => wp (ix3 0 e b)) k := fun k =>
    congrArg (fun v : EReal => (x (ix2 a k) : EReal) + (gate (ix2 a k) : EReal) * v) (embT_at p wp a k)
  simp only [eg, es]

/-- The whole tile at an index. -/
theorem postT_at (x : FVec Ideal Rows .f32) (o : FVec Ideal Rows .bf16) (wo : Vec Ideal Sq .bf16) (g : FVec Ideal Scale .f32) (win : Vec Ideal In .bf16)
    (wout : Vec Ideal Out .bf16) (p : Vec Ideal Emb .f32) (gp : Vec Ideal Scale3 .f32) (wg : Vec Ideal Sq .bf16) (wp : Vec Ideal EmbW .bf16)
    (gf : Vec Ideal Row .f32) (a b : Fin 1024) :
    (postT x o wo g win wout p gp wg wp gf (ix2 a b) : EReal)
      = postAt (fun k => x (ix2 a k)) (fun k => o (ix2 a k)) (fun d b => wo (ix3 0 d b)) (fun k => g (ix4 0 0 0 k)) (fun d c => win (ix4 0 0 d c))
          (outAt wout) (fun e => p (ix3 0 a e)) (fun k => gp (ix3 0 0 k)) (fun d b => wg (ix3 0 d b)) (fun e b => wp (ix3 0 e b))
          (fun k => gf (ix2 0 k)) b := by
  have em : (fun k => (addf x (squareT o wo) (ix2 a k) : EReal)) = mixAt (fun k => x (ix2 a k)) (fun k => o (ix2 a k)) (fun d b => wo (ix3 0 d b)) :=
    funext fun k => congrArg (fun v : EReal => (x (ix2 a k) : EReal) + v) (squareT_at o wo a k)
  have ez : (fun k => (stepT (addf x (squareT o wo)) g win wout (ix2 a k) : EReal))
      = stepAt (mixAt (fun k => x (ix2 a k)) (fun k => o (ix2 a k)) (fun d b => wo (ix3 0 d b))) (fun k => g (ix4 0 0 0 k)) (fun d c => win (ix4 0 0 d c)) (outAt wout) := by
    funext k
    rw [stepT_at, em]
  unfold postT postAt
  refine (endT_at _ _ p wp gf a b).trans ?_
  simp only [gateT_at]
  rw [ez]
  simp only [fun k => congrFun ez k]
  rfl

end Cert.Post

end
-- ==== Proof.Post.WholeAt.lean ====
/- What follows the last mixer over whole arrays, read at a row and a column, at the ideal values: the row functions of the
   tile, whatever the number of rows. -/
module

public import proofs.«01_k».proof.Proof.Post.Whole
public import proofs.«01_k».proof.Proof.Post.TileAt
public import proofs.«01_k».proof.Proof.Ffn.Reference
public import Idealize.ShloMosaic.Lib.StackMember
public import Idealize.ShloMosaic.PureOps.Ideal.Laws

@[expose] public section

noncomputable section

namespace Cert.Post.Whole

open Idealize.ShloMosaic Idealize.ShloMosaic.ValueIdx
open Cert.Ffn Cert.Post
open scoped BigOperators

/-! ## The weights -/

theorem scaleW_at (g : FVec Ideal (Cube 2 2 1024) .f32) (k : Fin 1024) : (scaleW g (ix1 k) : EReal) = g (ix3 1 1 k) := by
  refine (shapeCast_apply _ castScale (ix1 k) (ix3 0 0 k) ?_).trans ?_
  · rw [Shape.rowMajor_val_three, Shape.rowMajor_val_one]
    show (0 * 1 + 0) * 1024 + k.val = k.val
    omega
  · refine extractStridedSlice_apply _ g sliceScale (ix3 0 0 k) (ix3 1 1 k) fun a => ?_
    match a with
    | ⟨0, _⟩ => rfl
    | ⟨1, _⟩ => rfl
    | ⟨2, _⟩ => exact (Nat.zero_add _).symm

theorem inW_at (w : FVec Ideal (Quad 2 2 1024 5632) .f32) (d : Fin 1024) (j : Fin 5632) : (inW w (ix2 d j) : EReal) = w (ix4 1 1 d j) := by
  refine (shapeCast_apply _ castIn (ix2 d j) (ix4 0 0 d j) ?_).trans ?_
  · rw [Shape.rowMajor_val_four, Shape.rowMajor_val_two]
    show ((0 * 1 + 0) * 1024 + d.val) * 5632 + j.val = d.val * 5632 + j.val
    omega
  · refine extractStridedSlice_apply _ w sliceIn (ix4 0 0 d j) (ix4 1 1 d j) fun a => ?_
    match a with
    | ⟨0, _⟩ => rfl
    | ⟨1, _⟩ => rfl
    | ⟨2, _⟩ => exact (Nat.zero_add _).symm
    | ⟨3, _⟩ => exact (Nat.zero_add _).symm

theorem outW_at (w : FVec Ideal (Quad 2 2 2816 1024) .f32) (j : Fin 2816) (b : Fin 1024) : (outW w (ix2 j b) : EReal) = w (ix4 1 1 j b) := by
  refine (shapeCast_apply _ castOut (ix2 j b) (ix4 0 0 j b) ?_).trans ?_
  · rw [Shape.rowMajor_val_four, Shape.rowMajor_val_two]
    show ((0 * 1 + 0) * 2816 + j.val) * 1024 + b.val = j.val * 1024 + b.val
    omega
  · refine extractStridedSlice_apply _ w sliceOut (ix4 0 0 j b) (ix4 1 1 j b) fun a => ?_
    match a with
    | ⟨0, _⟩ => rfl
    | ⟨1, _⟩ => rfl
    | ⟨2, _⟩ => exact (Nat.zero_add _).symm
    | ⟨3, _⟩ => exact (Nat.zero_add _).symm

theorem gainW_at (g : FVec Ideal (Mat 2 1024) .f32) (k : Fin 1024) : (gainW g (ix1 k) : EReal) = g (ix2 1 k) := by
  refine (shapeCast_apply _ castGain (ix1 k) (ix2 0 k) ?_).trans ?_
  · rw [Shape.rowMajor_val_two, Shape.rowMajor_val_one]
    show 0 * 1024 + k.val = k.val
    omega
  · refine extractStridedSlice_apply _ g sliceGain (ix2 0 k) (ix2 1 k) fun a => ?_
    match a with
    | ⟨0, _⟩ => rfl
    | ⟨1, _⟩ => exact (Nat.zero_add _).symm

/-- A matrix that is the second of two, read at an index. -/
theorem second_at {M N : ℕ} (w : FVec Ideal (Cube 2 M N) .f32) (hs : (Cube 2 M N).Slices ![1, 0, 0] (Cube 1 M N)) (hc : (Cube 1 M N).ShapeCasts (Mat M N))
    (d : Fin M) (b : Fin N) : (shapeCast (Mat M N) (extractStridedSlice (Cube 1 M N) ![1, 0, 0] w hs) hc (ix2 d b) : EReal) = w (ix3 1 d b) := by
  refine (shapeCast_apply _ hc (ix2 d b) (ix3 0 d b) ?_).trans ?_
  · rw [Shape.rowMajor_val_three, Shape.rowMajor_val_two]
    show (0 * M + d.val) * N + b.val = d.val * N + b.val
    rw [Nat.zero_mul, Nat.zero_add]
  · refine extractStridedSlice_apply _ w hs (ix3 0 d b) (ix3 1 d b) fun a => ?_
    match a with
    | ⟨0, _⟩ => rfl
    | ⟨1, _⟩ => exact (Nat.zero_add _).symm
    | ⟨2, _⟩ => exact (Nat.zero_add _).symm

theorem onlyW_at (w : FVec Ideal (Cube 1 1024 1024) .f32) (d b : Fin 1024) : (onlyW w (ix2 d b) : EReal) = w (ix3 0 d b) := by
  refine shapeCast_apply w castSquare (ix2 d b) (ix3 0 d b) ?_
  rw [Shape.rowMajor_val_three, Shape.rowMajor_val_two]
  show (0 * 1024 + d.val) * 1024 + b.val = d.val * 1024 + b.val
  omega

/-! ## The stages -/

variable {T : ℕ} (h : Fits T)

/-- A constant broadcast, read at an index. -/
theorem constant_at {M N : ℕ} (one : One.BroadcastsInDim (Mat M N) ![]) (v : BitVec 32) (i : (Mat M N).Idx) :
    (broadcastInDim (Mat M N) ![] one (constant (F := Ideal) One .f32 v) i : EReal) = Ideal.ofBits .f32 v :=
  (broadcastInDim_apply _ one _ i (fun a => a.elim0) (fun a => a.elim0)).trans rfl

theorem timesW_at {K N : ℕ} (y : FVec Ideal (Mat T K) .f32) (w : FVec Ideal (Mat K N) .f32) (r : Fin T) (b : Fin N) :
    (timesW y w (ix2 r b) : EReal) = ∑ d : Fin K, (y (ix2 r d) : EReal) * w (ix2 d b) := StackMember.dotGeneral_plain_apply none y w r b

theorem sum_at (x : FVec Ideal (Mat T 1024) .f32) (r : Fin T) :
    (Host.reduceAdd x (constant One .f32 0x00000000#32) h.sum onePos (ix1 r) : EReal) = ∑ k : Fin 1024, (x (ix2 r k) : EReal) := by
  refine (Ideal.hostReduceAdd_single h.sum h.row x _ (ix1 r)).trans ?_
  rw [show (constant (F := Ideal) One .f32 0x00000000#32 (Shape.Idx.first onePos) : EReal) = 0 from Ideal.ofBits_zero_f32, zero_add]
  refine Finset.sum_congr rfl fun k _ => congrArg x (funext fun a => Fin.ext ?_)
  match a with
  | ⟨0, _⟩ => rfl
  | ⟨1, _⟩ => rfl

theorem meanW_at (x : FVec Ideal (Mat T 1024) .f32) (r : Fin T) :
    (meanW h x (ix2 r 0) : EReal) = Ideal.div (∑ k : Fin 1024, (x (ix2 r k) : EReal) * x (ix2 r k)) width + eps := by
  have hr := r.isLt
  have e : (broadcastInDim (Mat T 1) ![0] h.col (Host.reduceAdd (mulf x x) (constant One .f32 0x00000000#32) h.sum onePos) (ix2 r 0) : EReal)
      = ∑ k : Fin 1024, (x (ix2 r k) : EReal) * x (ix2 r k) := by
    refine (broadcastInDim_apply _ h.col _ (ix2 r 0) (ix1 r) fun a => ?_).trans (sum_at h (mulf x x) r)
    match a with
    | ⟨0, _⟩ =>
      show r.val = if T = 1 then 0 else r.val
      split <;> omega
  exact congrArg₂ (fun u v : EReal => u + v) (congrArg₂ Ideal.div e (constant_at h.oneCol _ _)) (constant_at h.oneCol _ _)

theorem normW_at (x : FVec Ideal (Mat T 1024) .f32) (g : FVec Ideal (Flat 1024) .f32) (r : Fin T) (b : Fin 1024) :
    (normW h x g (ix2 r b) : EReal) = normAt (fun k => x (ix2 r k)) (fun k => g (ix1 k)) b := by
  have hr := r.isLt
  have e : (broadcastInDim (Mat T 1024) ![0, 1] h.wide (Host.rsqrt (meanW h x)) (ix2 r b) : EReal)
      = Ideal.rsqrt (Ideal.div (∑ k : Fin 1024, (x (ix2 r k) : EReal) * x (ix2 r k)) width + eps) := by
    refine (broadcastInDim_apply _ h.wide _ (ix2 r b) (ix2 r 0) fun a => ?_).trans (congrArg Ideal.rsqrt (meanW_at h x r))
    match a with
    | ⟨0, _⟩ =>
      show r.val = if T = 1 then 0 else r.val
      split <;> omega
    | ⟨1, _⟩ => rfl
  have eg : (broadcastInDim (Mat T 1024) ![0, 1] h.rows (broadcastInDim (Mat 1 1024) ![1] oneRow g) (ix2 r b) : EReal) = g (ix1 b) := by
    refine (broadcastInDim_apply _ h.rows _ (ix2 r b) (ix2 0 b) fun a => ?_).trans (broadcastInDim_apply _ oneRow g (ix2 0 b) (ix1 b) fun a => ?_)
    · match a with
      | ⟨0, _⟩ => rfl
      | ⟨1, _⟩ => rfl
    · match a with
      | ⟨0, _⟩ => rfl
  exact congrArg₂ (fun u v : EReal => (x (ix2 r b) : EReal) * u * v) e eg

theorem sigmoidW_at {N : ℕ} (one : One.BroadcastsInDim (Mat T N) ![]) (v : FVec Ideal (Mat T N) .f32) (i : (Mat T N).Idx) :
    (sigmoidW one v i : EReal) = Ideal.logistic (v i) := by
  refine Eq.trans (b := Ideal.div (Ideal.ofBits .f32 0x3F800000#32) (Ideal.ofBits .f32 0x3F800000#32 + Ideal.exp (-(v i : EReal)))) ?_ (logistic_written _)
  exact congrArg₂ Ideal.div (constant_at one _ i) (congrArg (fun u : EReal => u + Ideal.exp (-(v i : EReal))) (constant_at one _ i))

theorem hiddenW_at (z : FVec Ideal (Mat T 5632) .f32) (r : Fin T) (j : Fin 2816) :
    (hiddenW h z (ix2 r j) : EReal) = (z (ix2 r (gateCol j)) : EReal) * Ideal.logistic (z (ix2 r (gateCol j))) * z (ix2 r (upCol j)) := by
  have eg : (extractStridedSlice (Mat T 2816) ![0, 0] z h.gate (ix2 r j) : EReal) = z (ix2 r (gateCol j)) := by
    refine extractStridedSlice_apply _ z h.gate (ix2 r j) _ fun a => ?_
    match a with
    | ⟨0, _⟩ => exact (Nat.zero_add _).symm
    | ⟨1, _⟩ => exact (Nat.zero_add _).symm
  have eu : (extractStridedSlice (Mat T 2816) ![0, 2816] z h.up (ix2 r j) : EReal) = z (ix2 r (upCol j)) := by
    refine extractStridedSlice_apply _ z h.up (ix2 r j) _ fun a => ?_
    match a with
    | ⟨0, _⟩ => exact (Nat.zero_add _).symm
    | ⟨1, _⟩ => rfl
  refine congrArg₂ (fun u v : EReal => u * v) (congrArg₂ (fun u v : EReal => u * v) eg ((sigmoidW_at h.oneHidden _ _).trans (congrArg Ideal.logistic eg))) eu

theorem stepW_at (x : FVec Ideal (Mat T 1024) .f32) (g : FVec Ideal (Flat 1024) .f32) (win : FVec Ideal (Mat 1024 5632) .f32)
    (wout : FVec Ideal (Mat 2816 1024) .f32) (r : Fin T) (b : Fin 1024) :
    (stepW h x g win wout (ix2 r b) : EReal)
      = stepAt (fun k => x (ix2 r k)) (fun k => g (ix1 k)) (fun d j => win (ix2 d j)) (fun j b => wout (ix2 j b)) b := by
  have e : (timesW (hiddenW h (timesW (normW h x g) win)) wout (ix2 r b) : EReal)
      = ∑ j : Fin 2816, actAt (normAt (fun k => x (ix2 r k)) (fun k => g (ix1 k))) (fun d j => win (ix2 d j)) j * wout (ix2 j b) := by
    rw [timesW_at]
    refine Finset.sum_congr rfl fun j _ => congrArg (fun u : EReal => u * (wout (ix2 j b) : EReal)) ?_
    rw [hiddenW_at, timesW_at, timesW_at]
    simp only [normW_at]
    rfl
  exact congrArg₂ (fun u v : EReal => (x (ix2 r b) : EReal) + u * v) (constant_at h.one _ _) e

theorem gatedW_at (x : FVec Ideal (Mat T 1024) .f32) (g : FVec Ideal (Flat 1024) .f32) (wg : FVec Ideal (Mat 1024 1024) .f32)
    (p : FVec Ideal (Mat T 256) .f32) (wp : FVec Ideal (Mat 256 1024) .f32) (r : Fin T) (b : Fin 1024) :
    (gatedW h x g wg p wp (ix2 r b) : EReal)
      = (x (ix2 r b) : EReal) + gateAt (fun k => x (ix2 r k)) (fun k => g (ix1 k)) (fun d b => wg (ix2 d b)) b
          * embAt (fun f => p (ix2 r f)) (fun f b => wp (ix2 f b)) b := by
  have e : (timesW (normW h x g) wg (ix2 r b) : EReal) = ∑ d : Fin 1024, normAt (fun k => x (ix2 r k)) (fun k => g (ix1 k)) d * wg (ix2 d b) := by
    rw [timesW_at]
    simp only [normW_at]
  exact congrArg₂ (fun u v : EReal => (x (ix2 r b) : EReal) + u * v) ((sigmoidW_at h.one _ _).trans (congrArg Ideal.logistic e)) (timesW_at p wp r b)

theorem mixW_at (x : FVec Ideal (Mat T 1024) .f32) (o : FVec Ideal (Mat T 1024) .bf16) (w : FVec Ideal (Mat 1024 1024) .f32) (r : Fin T) (b : Fin 1024) :
    (mixW x o w (ix2 r b) : EReal) = mixAt (fun k => x (ix2 r k)) (fun k => o (ix2 r k)) (fun d b => w (ix2 d b)) b :=
  congrArg (fun u : EReal => (x (ix2 r b) : EReal) + u) (timesW_at _ w r b)

/-- The whole at a row and a column. -/
theorem postW_at (X : FVec Ideal (Mat T 1024) .f32) (A : FVec Ideal (Mat T 1024) .bf16) (P : FVec Ideal (Cube 2 T 256) .f32) (G : FVec Ideal (Cube 2 2 1024) .f32)
    (I : FVec Ideal (Quad 2 2 1024 5632) .f32) (O : FVec Ideal (Quad 2 2 2816 1024) .f32) (GP : FVec Ideal (Mat 2 1024) .f32) (WG : FVec Ideal (Cube 2 1024 1024) .f32)
    (WP : FVec Ideal (Cube 2 256 1024) .f32) (WO : FVec Ideal (Cube 1 1024 1024) .f32) (GF : FVec Ideal (Flat 1024) .f32) (r : Fin T) (b : Fin 1024) :
    (postW h X A P G I O GP WG WP WO GF (ix2 r b) : EReal)
      = postAt (fun k => X (ix2 r k)) (fun k => A (ix2 r k)) (fun d b => WO (ix3 0 d b)) (fun k => G (ix3 1 1 k)) (fun d j => I (ix4 1 1 d j))
          (fun j b => O (ix4 1 1 j b)) (fun f => P (ix3 1 r f)) (fun k => GP (ix2 1 k)) (fun d b => WG (ix3 1 d b)) (fun f b => WP (ix3 1 f b))
          (fun k => GF (ix1 k)) b := by
  have ewg : ∀ d b : Fin 1024, (squareW WG (ix2 d b) : EReal) = WG (ix3 1 d b) := second_at WG sliceSquare castSquare
  have ewp : ∀ (f : Fin 256) (b : Fin 1024), (embW WP (ix2 f b) : EReal) = WP (ix3 1 f b) := second_at WP sliceEmb castEmb
  have ep : ∀ f : Fin 256, (rowsW h P (ix2 r f) : EReal) = P (ix3 1 r f) := second_at P h.layer h.flat r
  unfold postW
  rw [normW_at]
  simp only [gatedW_at, stepW_at, mixW_at, scaleW_at, inW_at, outW_at, gainW_at, onlyW_at, ewg, ewp, ep]
  rfl

/-- Every row of the result. -/
def result (X : FVec Ideal (Mat T 1024) .f32) (A : FVec Ideal (Mat T 1024) .bf16) (P : FVec Ideal (Cube 2 T 256) .f32) (G : FVec Ideal (Cube 2 2 1024) .f32)
    (I : FVec Ideal (Quad 2 2 1024 5632) .f32) (O : FVec Ideal (Quad 2 2 2816 1024) .f32) (GP : FVec Ideal (Mat 2 1024) .f32) (WG : FVec Ideal (Cube 2 1024 1024) .f32)
    (WP : FVec Ideal (Cube 2 256 1024) .f32) (WO : FVec Ideal (Cube 1 1024 1024) .f32) (GF : FVec Ideal (Flat 1024) .f32) : FVec Ideal (Mat T 1024) .f32 := fun i =>
  postAt (fun k => X (ix2 (i 0) k)) (fun k => A (ix2 (i 0) k)) (fun d b => WO (ix3 0 d b)) (fun k => G (ix3 1 1 k)) (fun d j => I (ix4 1 1 d j))
    (fun j b => O (ix4 1 1 j b)) (fun f => P (ix3 1 (i 0) f)) (fun k => GP (ix2 1 k)) (fun d b => WG (ix3 1 d b)) (fun f b => WP (ix3 1 f b)) (fun k => GF (ix1 k)) (i 1)

/-- The whole is that, at every row. -/
theorem postW_eq (X : FVec Ideal (Mat T 1024) .f32) (A : FVec Ideal (Mat T 1024) .bf16) (P : FVec Ideal (Cube 2 T 256) .f32) (G : FVec Ideal (Cube 2 2 1024) .f32)
    (I : FVec Ideal (Quad 2 2 1024 5632) .f32) (O : FVec Ideal (Quad 2 2 2816 1024) .f32) (GP : FVec Ideal (Mat 2 1024) .f32) (WG : FVec Ideal (Cube 2 1024 1024) .f32)
    (WP : FVec Ideal (Cube 2 256 1024) .f32) (WO : FVec Ideal (Cube 1 1024 1024) .f32) (GF : FVec Ideal (Flat 1024) .f32) :
    postW h X A P G I O GP WG WP WO GF = result X A P G I O GP WG WP WO GF := by
  funext i
  obtain ⟨r, b, rfl⟩ : ∃ (r : Fin T) (b : Fin 1024), i = ix2 r b := ⟨i 0, i 1, eq_ix2 i⟩
  exact postW_at h X A P G I O GP WG WP WO GF r b

end Cert.Post.Whole

end
-- ==== Proof.Post.Array.lean ====
/- The last call's result array at the ideal values: the weights as the host prepares them, the block each point holds, and
   every row of the result. -/
module

public import proofs.«01_k».proof.Proof.Post.Pieces
public import proofs.«01_k».proof.Proof.Post.WholeAt
public import Idealize.ShloMosaic.Lib.Pipeline.ValueKit.Geometry

@[expose] public section

noncomputable section

namespace Cert.Kernel3Ideal.Post

open Idealize.ShloMosaic Idealize.ShloMosaic.TcCoe Idealize.ShloMosaic.ValueIdx
open Idealize.SL Idealize.SL.Sem
open Cert.Ffn Cert.Post Cert.Kernel3Ideal.Gen
open scoped BigOperators

variable (m : (ℓ : Loc nD τ sig) → Buf (Elt Ideal) ℓ) (ρ : Dev nD → PrngReg)

/-- The argument arrays. -/
def argX (c : Dev nD) : (⟨2, ![65536, 1024]⟩ : Shape).Idx → EReal := m ((c.tc : Thread nD τ).loc main_arg0)
def argA (c : Dev nD) : (⟨2, ![65536, 1024]⟩ : Shape).Idx → EReal := m ((c.tc : Thread nD τ).loc main_arg1)
def argP (c : Dev nD) : (⟨3, ![2, 65536, 256]⟩ : Shape).Idx → EReal := m ((c.tc : Thread nD τ).loc main_arg2)
def argG (c : Dev nD) : (⟨3, ![2, 2, 1024]⟩ : Shape).Idx → EReal := m ((c.tc : Thread nD τ).loc main_arg3)
def argI (c : Dev nD) : (⟨4, ![2, 2, 1024, 5632]⟩ : Shape).Idx → EReal := m ((c.tc : Thread nD τ).loc main_arg4)
def argO (c : Dev nD) : (⟨4, ![2, 2, 2816, 1024]⟩ : Shape).Idx → EReal := m ((c.tc : Thread nD τ).loc main_arg5)
def argGP (c : Dev nD) : (⟨2, ![2, 1024]⟩ : Shape).Idx → EReal := m ((c.tc : Thread nD τ).loc main_arg6)
def argWG (c : Dev nD) : (⟨3, ![2, 1024, 1024]⟩ : Shape).Idx → EReal := m ((c.tc : Thread nD τ).loc main_arg7)
def argWP (c : Dev nD) : (⟨3, ![2, 256, 1024]⟩ : Shape).Idx → EReal := m ((c.tc : Thread nD τ).loc main_arg8)
def argWO (c : Dev nD) : (⟨3, ![1, 1024, 1024]⟩ : Shape).Idx → EReal := m ((c.tc : Thread nD τ).loc main_arg9)
def argGF (c : Dev nD) : (⟨1, ![1024]⟩ : Shape).Idx → EReal := m ((c.tc : Thread nD τ).loc main_arg10)

/-! ## The weights as the host prepares them -/

theorem host_i (c : Dev nD) : V m c main_v0 = argI m c := rfl
theorem host_o (c : Dev nD) : V m c main_v2 = shapeCast S2x2x11x256x1024 (argO m c) shapeCasts_S2x2x2816x1024_S2x2x11x256x1024 := rfl
theorem host_g (c : Dev nD) : V m c main_v3 = shapeCast S2x2x1x1024 (argG m c) shapeCasts_S2x2x1024_S2x2x1x1024 := rfl
theorem host_gp (c : Dev nD) : V m c main_v4 = shapeCast S2x1x1024 (argGP m c) shapeCasts_S2x1024_S2x1x1024 := rfl
theorem host_wg (c : Dev nD) : V m c main_v5 = argWG m c := rfl
theorem host_wp (c : Dev nD) : V m c main_v6 = argWP m c := rfl
theorem host_gf (c : Dev nD) : V m c main_v7 = shapeCast S1x1024 (argGF m c) shapeCasts_S1024_S1x1024 := rfl
theorem host_wo (c : Dev nD) : V m c main_v8 = argWO m c := rfl

/-! ## The block a point holds -/

theorem N_eq : cfg0.N = 64 := N_0
theorem index_x : ∀ t : Fin cfg0.N, win0_0.index t = ![t.val, 0] := (by decide +kernel : ∀ t : Fin grid0.N, win0_0.index t = ![t.val, 0])
theorem index_a : ∀ t : Fin cfg0.N, win0_1.index t = ![t.val, 0] := (by decide +kernel : ∀ t : Fin grid0.N, win0_1.index t = ![t.val, 0])
theorem index_wo : ∀ t : Fin cfg0.N, win0_2.index t = ![0, 0, 0] := (by decide +kernel : ∀ t : Fin grid0.N, win0_2.index t = ![0, 0, 0])
theorem index_g : ∀ t : Fin cfg0.N, win0_3.index t = ![1, 1, 0, 0] := (by decide +kernel : ∀ t : Fin grid0.N, win0_3.index t = ![1, 1, 0, 0])
theorem index_i : ∀ t : Fin cfg0.N, win0_4.index t = ![1, 1, 0, 0] := (by decide +kernel : ∀ t : Fin grid0.N, win0_4.index t = ![1, 1, 0, 0])
theorem index_o : ∀ t : Fin cfg0.N, win0_5.index t = ![1, 1, 0, 0, 0] := (by decide +kernel : ∀ t : Fin grid0.N, win0_5.index t = ![1, 1, 0, 0, 0])
theorem index_p : ∀ t : Fin cfg0.N, win0_6.index t = ![1, t.val, 0] := (by decide +kernel : ∀ t : Fin grid0.N, win0_6.index t = ![1, t.val, 0])
theorem index_gp : ∀ t : Fin cfg0.N, win0_7.index t = ![1, 0, 0] := (by decide +kernel : ∀ t : Fin grid0.N, win0_7.index t = ![1, 0, 0])
theorem index_wg : ∀ t : Fin cfg0.N, win0_8.index t = ![1, 0, 0] := (by decide +kernel : ∀ t : Fin grid0.N, win0_8.index t = ![1, 0, 0])
theorem index_wp : ∀ t : Fin cfg0.N, win0_9.index t = ![1, 0, 0] := (by decide +kernel : ∀ t : Fin grid0.N, win0_9.index t = ![1, 0, 0])
theorem index_gf : ∀ t : Fin cfg0.N, win0_10.index t = ![0, 0] := (by decide +kernel : ∀ t : Fin grid0.N, win0_10.index t = ![0, 0])
theorem index_r : ∀ t : Fin cfg0.N, win0_11.index t = ![t.val, 0] := (by decide +kernel : ∀ t : Fin grid0.N, win0_11.index t = ![t.val, 0])

/-- Row `a` of tile `n`. -/
def tileRow (n : ℕ) (a : Fin 1024) : Fin 65536 := ⟨n % 64 * 1024 + a.val, by have := a.isLt; have := Nat.mod_lt n (show 0 < 64 by decide); omega⟩

theorem blk_x (c : Dev nD) (t : Fin cfg0.N) (a b : Fin 1024) : (iblk m c 0 t (ix2 a b) : EReal) = argX m c (ix2 (tileRow t.val a) b) := by
  have e := index_x t
  have hN := N_eq
  have h1 : t.val % 64 = t.val := Nat.mod_eq_of_lt (hN ▸ t.isLt)
  blk_simp [iblk]
  refine congrArg (argX m c) (funext fun d => Fin.ext ?_)
  fin_cases d
  · blk_simp [e]; simp [tileRow, h1]
  · blk_simp [e]

theorem blk_a (c : Dev nD) (t : Fin cfg0.N) (a b : Fin 1024) : (iblk m c 1 t (ix2 a b) : EReal) = argA m c (ix2 (tileRow t.val a) b) := by
  have e := index_a t
  have hN := N_eq
  have h1 : t.val % 64 = t.val := Nat.mod_eq_of_lt (hN ▸ t.isLt)
  blk_simp [iblk]
  refine congrArg (argA m c) (funext fun d => Fin.ext ?_)
  fin_cases d
  · blk_simp [e]; simp [tileRow, h1]
  · blk_simp [e]

theorem blk_p (c : Dev nD) (t : Fin cfg0.N) (a : Fin 1024) (b : Fin 256) : (iblk m c 6 t (ix3 0 a b) : EReal) = argP m c (ix3 1 (tileRow t.val a) b) := by
  have e := index_p t
  have hN := N_eq
  have h1 : t.val % 64 = t.val := Nat.mod_eq_of_lt (hN ▸ t.isLt)
  blk_simp [iblk]
  refine congrArg (argP m c) (funext fun d => Fin.ext ?_)
  fin_cases d
  · blk_simp [e]; rfl
  · blk_simp [e]; simp [tileRow, h1]
  · blk_simp [e]

theorem blk_wo (c : Dev nD) (t : Fin cfg0.N) (d b : Fin 1024) : (iblk m c 2 t (ix3 0 d b) : EReal) = argWO m c (ix3 0 d b) := by
  have e := index_wo t
  refine Eq.trans (b := (V m c main_v8 : S1x1024x1024.Idx → EReal) (ix3 0 d b)) ?_ (congrFun (host_wo m c) _)
  blk_simp [iblk]
  refine congrArg (V m c main_v8 : S1x1024x1024.Idx → EReal) (funext fun d => Fin.ext ?_)
  fin_cases d
  · blk_simp [e]
  · blk_simp [e]
  · blk_simp [e]

theorem blk_i (c : Dev nD) (t : Fin cfg0.N) (d : Fin 1024) (j : Fin 5632) : (iblk m c 4 t (ix4 0 0 d j) : EReal) = argI m c (ix4 1 1 d j) := by
  have e := index_i t
  refine Eq.trans (b := (V m c main_v0 : S2x2x1024x5632.Idx → EReal) (ix4 1 1 d j)) ?_ (congrFun (host_i m c) _)
  blk_simp [iblk]
  refine congrArg (V m c main_v0 : S2x2x1024x5632.Idx → EReal) (funext fun d => Fin.ext ?_)
  fin_cases d
  · blk_simp [e]; rfl
  · blk_simp [e]; rfl
  · blk_simp [e]
  · blk_simp [e]

theorem blk_wg (c : Dev nD) (t : Fin cfg0.N) (d b : Fin 1024) : (iblk m c 8 t (ix3 0 d b) : EReal) = argWG m c (ix3 1 d b) := by
  have e := index_wg t
  refine Eq.trans (b := (V m c main_v5 : S2x1024x1024.Idx → EReal) (ix3 1 d b)) ?_ (congrFun (host_wg m c) _)
  blk_simp [iblk]
  refine congrArg (V m c main_v5 : S2x1024x1024.Idx → EReal) (funext fun d => Fin.ext ?_)
  fin_cases d
  · blk_simp [e]; rfl
  · blk_simp [e]
  · blk_simp [e]

theorem blk_wp (c : Dev nD) (t : Fin cfg0.N) (f : Fin 256) (b : Fin 1024) : (iblk m c 9 t (ix3 0 f b) : EReal) = argWP m c (ix3 1 f b) := by
  have e := index_wp t
  refine Eq.trans (b := (V m c main_v6 : S2x256x1024.Idx → EReal) (ix3 1 f b)) ?_ (congrFun (host_wp m c) _)
  blk_simp [iblk]
  refine congrArg (V m c main_v6 : S2x256x1024.Idx → EReal) (funext fun d => Fin.ext ?_)
  fin_cases d
  · blk_simp [e]; rfl
  · blk_simp [e]
  · blk_simp [e]

theorem blk_g (c : Dev nD) (t : Fin cfg0.N) (k : Fin 1024) : (iblk m c 3 t (ix4 0 0 0 k) : EReal) = argG m c (ix3 1 1 k) := by
  have e := index_g t
  refine Eq.trans (b := (V m c main_v3 : S2x2x1x1024.Idx → EReal) (ix4 1 1 0 k)) ?_ ?_
  · blk_simp [iblk]
    refine congrArg (V m c main_v3 : S2x2x1x1024.Idx → EReal) (funext fun d => Fin.ext ?_)
    fin_cases d
    · blk_simp [e]; rfl
    · blk_simp [e]; rfl
    · blk_simp [e]
    · blk_simp [e]
  · rw [host_g]
    refine shapeCast_apply (argG m c) shapeCasts_S2x2x1024_S2x2x1x1024 (ix4 1 1 0 k) (ix3 1 1 k) ?_
    rw [Shape.rowMajor_val_four, Shape.rowMajor_val_three]
    show (1 * 2 + 1) * 1024 + k.val = ((1 * 2 + 1) * 1 + 0) * 1024 + k.val
    omega

theorem blk_gp (c : Dev nD) (t : Fin cfg0.N) (k : Fin 1024) : (iblk m c 7 t (ix3 0 0 k) : EReal) = argGP m c (ix2 1 k) := by
  have e := index_gp t
  refine Eq.trans (b := (V m c main_v4 : S2x1x1024.Idx → EReal) (ix3 1 0 k)) ?_ ?_
  · blk_simp [iblk]
    refine congrArg (V m c main_v4 : S2x1x1024.Idx → EReal) (funext fun d => Fin.ext ?_)
    fin_cases d
    · blk_simp [e]; rfl
    · blk_simp [e]
    · blk_simp [e]
  · rw [host_gp]
    refine shapeCast_apply (argGP m c) shapeCasts_S2x1024_S2x1x1024 (ix3 1 0 k) (ix2 1 k) ?_
    rw [Shape.rowMajor_val_three, Shape.rowMajor_val_two]
    show 1 * 1024 + k.val = (1 * 1 + 0) * 1024 + k.val
    omega

theorem blk_gf (c : Dev nD) (t : Fin cfg0.N) (k : Fin 1024) : (iblk m c 10 t (ix2 0 k) : EReal) = argGF m c (ix1 k) := by
  have e := index_gf t
  refine Eq.trans (b := (V m c main_v7 : S1x1024.Idx → EReal) (ix2 0 k)) ?_ ?_
  · blk_simp [iblk]
    refine congrArg (V m c main_v7 : S1x1024.Idx → EReal) (funext fun d => Fin.ext ?_)
    fin_cases d
    · blk_simp [e]
    · blk_simp [e]
  · rw [host_gf]
    refine shapeCast_apply (argGF m c) shapeCasts_S1024_S1x1024 (ix2 0 k) (ix1 k) ?_
    rw [Shape.rowMajor_val_two, Shape.rowMajor_val_one]
    show k.val = 0 * 1024 + k.val
    omega

theorem blk_o (c : Dev nD) (t : Fin cfg0.N) (j : Fin 2816) (b : Fin 1024) : (outAt (iblk m c 5 t) j b : EReal) = argO m c (ix4 1 1 j b) := by
  have e := index_o t
  have hj := j.isLt
  unfold outAt
  refine Eq.trans (b := (V m c main_v2 : S2x2x11x256x1024.Idx → EReal) (ix5 1 1 ⟨j.val / 256, by omega⟩ ⟨j.val % 256, Nat.mod_lt _ (by decide)⟩ b)) ?_ ?_
  · blk_simp [iblk]
    refine congrArg (V m c main_v2 : S2x2x11x256x1024.Idx → EReal) (funext fun d => Fin.ext ?_)
    fin_cases d
    · blk_simp [e]; rfl
    · blk_simp [e]; rfl
    · blk_simp [e]
    · blk_simp [e]
    · blk_simp [e]
  · rw [host_o]
    refine shapeCast_apply (argO m c) shapeCasts_S2x2x2816x1024_S2x2x11x256x1024 _ (ix4 1 1 j b) ?_
    rw [Shape.rowMajor_val_four, Shape.rowMajor_val_five]
    show ((1 * 2 + 1) * 2816 + j.val) * 1024 + b.val = (((1 * 2 + 1) * 11 + j.val / 256) * 256 + j.val % 256) * 1024 + b.val
    omega

/-! ## The array -/

/-- The result of the program's arguments. -/
def out (c : Dev nD) : (⟨2, ![65536, 1024]⟩ : Shape).Idx → EReal :=
  Whole.result (argX m c) (argA m c) (argP m c) (argG m c) (argI m c) (argO m c) (argGP m c) (argWG m c) (argWP m c) (argWO m c) (argGF m c)

theorem tile_at (c : Dev nD) (t : Fin cfg0.N) (a b : Fin 1024) : (outsAt0 m c t (ix2 a b) : EReal) = out m c (ix2 (tileRow t.val a) b) := by
  unfold outsAt0
  rw [out_eq]
  refine (postT_at (iblk m c 0 t) (iblk m c 1 t) (iblk m c 2 t) (iblk m c 3 t) (iblk m c 4 t) (iblk m c 5 t) (iblk m c 6 t) (iblk m c 7 t) (iblk m c 8 t) (iblk m c 9 t) (iblk m c 10 t) a b).trans ?_
  simp only [blk_x, blk_a, blk_wo, blk_g, blk_i, blk_p, blk_gp, blk_wg, blk_wp, blk_gf]
  rw [show outAt (iblk m c 5 t) = fun j b => argO m c (ix4 1 1 j b) from funext fun j => funext fun b => blk_o m c t j b]
  rfl

theorem final (c : Dev nD) : (dats m 0 c).arrAt 11 cfg0.N = out m c := by
  refine (dats m 0 c).arrAt_eq_of_covers 11 _ (by decide +kernel) fun t hf y => ?_
  have hN := N_eq
  have e := index_r t
  have h1 : t.val % 64 = t.val := Nat.mod_eq_of_lt (hN ▸ t.isLt)
  blk_simp
  rw [after0_11]
  obtain ⟨a, b, rfl⟩ : ∃ (a b : Fin 1024), y = ix2 a b := ⟨y 0, y 1, eq_ix2 y⟩
  refine (tile_at m c t a b).trans (congrArg (out m c) (funext fun d => Fin.ext ?_))
  fin_cases d
  · blk_simp [e]; simp [tileRow, h1]
  · blk_simp [e]

end Cert.Kernel3Ideal.Post

end
-- ==== Proof.Post.Claim.lean ====
/- The claims about what follows the last attention: the reference's frame, and that the kernel's result is the
   reference's. -/
module

public import proofs.«01_k».proof.Defs
public import proofs.«01_k».proof.Proof.Post.Run
public import proofs.«01_k».proof.Proof.Gen.Kernel3Ideal.Value
public import proofs.«01_k».proof.Proof.Post.Array
public import Idealize.ShloMosaic.Lib.Quiescent

@[expose] public section

noncomputable section

namespace Cert.Post

open Idealize.ShloMosaic Idealize.ShloMosaic.TcCoe Idealize.ShloMosaic.ValueIdx Idealize.SL.Sem

/-- The reference's frame. -/
theorem reference_frame : Cert.quiescent_Reference3Ideal := fun m ρ _ =>
  (θ_run _ _ _).mono (fun _ h => ⟨fun c => (h c).2, sem_eq_zero_of_no_sems rfl _⟩) (Cert.Reference3Ideal.Post.run m ρ)

/-- The kernel's result is the reference's. -/
theorem algebraic : Cert.algebraic_Kernel3Ideal_Reference3Ideal := by
  intro m g m' g' hpre hargs
  refine ⟨fun c => (Cert.Kernel3Ideal.Gen.dats m 0 c).arrAt 11 Cert.Kernel3Ideal.cfg0.N, Cert.Kernel3Ideal.Value.run_blocks m g, ?_⟩
  refine (θ_run _ _ _).mono (fun r h c => ⟨(h c).1.trans ?_, (h c).2⟩) (Cert.Reference3Ideal.Post.run m' g')
  obtain ⟨e0, e1, e2, e3, e4, e5, e6, e7, e8, e9, e10⟩ := hargs c
  rw [e0, e1, e2, e3, e4, e5, e6, e7, e8, e9, e10]
  exact (Whole.postW_eq _ _ _ _ _ _ _ _ _ _ _ _).trans (Cert.Kernel3Ideal.Post.final m c).symm

end Cert.Post

end
-- ==== Proof.Post.Sample.Run.lean ====
/- The run of the reference of the mixer's end at 16384 rows: its operations as a list, and every execution's result as
   `postW` of the arguments. The list and the lemmas before the run are the generated ones. -/
module

public import proofs.«01_k».proof.Proof.Gen.Reference4Ideal
public import proofs.«01_k».proof.Proof.Post.Whole
public import Idealize.ShloMosaic.Lib.StableHlo.Run

@[expose] public section

noncomputable section

namespace Cert.Reference4Ideal.Post

open Cert.Reference4Ideal Cert.Reference4Ideal.Gen Cert.Post.Whole Idealize.ShloMosaic Idealize.ShloMosaic.TcCoe Idealize.SL.Sem Idealize.ShloMosaic.StableHlo

variable {F : FTy → Type} [FloatOps F]

/-- The layout facts at 16384 rows. -/
theorem fits : Fits 16384 := ⟨by decide, by decide, by decide, by decide, by decide, by decide, by decide, by decide, by decide, by decide, by decide, by decide⟩

/-- @main's 96 operations, in order (a called function's operations stand in its call's place, spelt `TRef.…`). -/
abbrev ops : List (HloOp τ sig (Elt F)) :=
  [ unary main_arg1 main_v0 ((extf .f32 · bitsLt_bf16_f32) : (⟨S16384x1024, .bf16⟩ : BufTy).Contents (Elt F) → (⟨S16384x1024, .f32⟩ : BufTy).Contents (Elt F)),
    reshape main_arg9 main_v1 (rfl : (.f32 : EltTy) = .f32) shapeCasts_S1x1024x1024_S1024x1024,
    binary main_v0 main_v1 main_v2 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    binary main_arg0 main_v2 main_v3 (addf : (⟨S16384x1024, .f32⟩ : BufTy).Contents (Elt F) → (⟨S16384x1024, .f32⟩ : BufTy).Contents (Elt F) → (⟨S16384x1024, .f32⟩ : BufTy).Contents (Elt F)),
    unary main_arg3 main_v4 ((extractStridedSlice S1x1x1024 ![1, 1, 0] · slices_S2x2x1024_S1x1x1024_1_1_0) : (⟨S2x2x1024, .f32⟩ : BufTy).Contents (Elt F) → (⟨S1x1x1024, .f32⟩ : BufTy).Contents (Elt F)),
    reshape main_v4 main_v5 (rfl : (.f32 : EltTy) = .f32) shapeCasts_S1x1x1024_S1024,
    binary main_v3 main_v3 main_v6 (mulf : (⟨S16384x1024, .f32⟩ : BufTy).Contents (Elt F) → (⟨S16384x1024, .f32⟩ : BufTy).Contents (Elt F) → (⟨S16384x1024, .f32⟩ : BufTy).Contents (Elt F)),
    nullary main_cst (constant S_ .f32 0x00000000#32),
    binary main_v6 main_cst main_v7 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    nullary main_cst_0 (constant S_ .f32 0x44800000#32),
    unary main_cst_0 main_v9 (broadcastInDim S16384x1 ![] bcast_S_S16384x1 : (⟨S_, .f32⟩ : BufTy).Contents (Elt F) → (⟨S16384x1, .f32⟩ : BufTy).Contents (Elt F)),
    binary main_v8 main_v9 main_v10 (Host.divf : (⟨S16384x1, .f32⟩ : BufTy).Contents (Elt F) → (⟨S16384x1, .f32⟩ : BufTy).Contents (Elt F) → (⟨S16384x1, .f32⟩ : BufTy).Contents (Elt F)),
    nullary main_cst_1 (constant S_ .f32 0x358637BD#32),
    unary main_cst_1 main_v11 (broadcastInDim S16384x1 ![] bcast_S_S16384x1 : (⟨S_, .f32⟩ : BufTy).Contents (Elt F) → (⟨S16384x1, .f32⟩ : BufTy).Contents (Elt F)),
    binary main_v10 main_v11 main_v12 (addf : (⟨S16384x1, .f32⟩ : BufTy).Contents (Elt F) → (⟨S16384x1, .f32⟩ : BufTy).Contents (Elt F) → (⟨S16384x1, .f32⟩ : BufTy).Contents (Elt F)),
    unary main_v12 main_v13 (Host.rsqrt : (⟨S16384x1, .f32⟩ : BufTy).Contents (Elt F) → (⟨S16384x1, .f32⟩ : BufTy).Contents (Elt F)),
    unary main_v13 main_v14 (broadcastInDim S16384x1024 ![0, 1] bcast_S16384x1_S16384x1024_0_1 : (⟨S16384x1, .f32⟩ : BufTy).Contents (Elt F) → (⟨S16384x1024, .f32⟩ : BufTy).Contents (Elt F)),
    binary main_v3 main_v14 main_v15 (mulf : (⟨S16384x1024, .f32⟩ : BufTy).Contents (Elt F) → (⟨S16384x1024, .f32⟩ : BufTy).Contents (Elt F) → (⟨S16384x1024, .f32⟩ : BufTy).Contents (Elt F)),
    unary main_v5 main_v16 (broadcastInDim S1x1024 ![1] bcast_S1024_S1x1024_1 : (⟨S1024, .f32⟩ : BufTy).Contents (Elt F) → (⟨S1x1024, .f32⟩ : BufTy).Contents (Elt F)),
    unary main_v16 main_v17 (broadcastInDim S16384x1024 ![0, 1] bcast_S1x1024_S16384x1024_0_1 : (⟨S1x1024, .f32⟩ : BufTy).Contents (Elt F) → (⟨S16384x1024, .f32⟩ : BufTy).Contents (Elt F)),
    binary main_v15 main_v17 main_v18 (mulf : (⟨S16384x1024, .f32⟩ : BufTy).Contents (Elt F) → (⟨S16384x1024, .f32⟩ : BufTy).Contents (Elt F) → (⟨S16384x1024, .f32⟩ : BufTy).Contents (Elt F)),
    unary main_arg4 main_v19 ((extractStridedSlice S1x1x1024x5632 ![1, 1, 0, 0] · slices_S2x2x1024x5632_S1x1x1024x5632_1_1_0_0) : (⟨S2x2x1024x5632, .f32⟩ : BufTy).Contents (Elt F) → (⟨S1x1x1024x5632, .f32⟩ : BufTy).Contents (Elt F)),
    reshape main_v19 main_v20 (rfl : (.f32 : EltTy) = .f32) shapeCasts_S1x1x1024x5632_S1024x5632,
    unary main_arg5 main_v21 ((extractStridedSlice S1x1x2816x1024 ![1, 1, 0, 0] · slices_S2x2x2816x1024_S1x1x2816x1024_1_1_0_0) : (⟨S2x2x2816x1024, .f32⟩ : BufTy).Contents (Elt F) → (⟨S1x1x2816x1024, .f32⟩ : BufTy).Contents (Elt F)),
    reshape main_v21 main_v22 (rfl : (.f32 : EltTy) = .f32) shapeCasts_S1x1x2816x1024_S2816x1024,
    binary main_v18 main_v20 main_v23 ((fun l r => Host.dotGeneral dot_S16384x1024_S1024x5632_S16384x5632_1_0_0_1_n_n none l r) : (⟨S16384x1024, .f32⟩ : BufTy).Contents (Elt F) → (⟨S1024x5632, .f32⟩ : BufTy).Contents (Elt F) → (⟨S16384x5632, .f32⟩ : BufTy).Contents (Elt F)),
    unary main_v23 main_v24 ((extractStridedSlice S16384x2816 ![0, 0] · slices_S16384x5632_S16384x2816_0_0) : (⟨S16384x5632, .f32⟩ : BufTy).Contents (Elt F) → (⟨S16384x2816, .f32⟩ : BufTy).Contents (Elt F)),
    unary main_v23 main_v25 ((extractStridedSlice S16384x2816 ![0, 2816] · slices_S16384x5632_S16384x2816_0_2816) : (⟨S16384x5632, .f32⟩ : BufTy).Contents (Elt F) → (⟨S16384x2816, .f32⟩ : BufTy).Contents (Elt F)),
    TRef.unary (TRef.of (T := ⟨S16384x2816, .f32⟩) main_v24) (TRef.of (T := ⟨S16384x2816, .f32⟩) main_call0_v0) Host.negf,
    TRef.unary (TRef.of (T := ⟨S16384x2816, .f32⟩) main_call0_v0) (TRef.of (T := ⟨S16384x2816, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S16384x2816, .f32⟩) main_call0_v2) (broadcastInDim S16384x2816 ![] bcast_S_S16384x2816),
    TRef.binary (TRef.of (T := ⟨S16384x2816, .f32⟩) main_call0_v2) (TRef.of (T := ⟨S16384x2816, .f32⟩) main_call0_v1) (TRef.of (T := ⟨S16384x2816, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S16384x2816, .f32⟩) main_call0_v4) (broadcastInDim S16384x2816 ![] bcast_S_S16384x2816),
    TRef.binary (TRef.of (T := ⟨S16384x2816, .f32⟩) main_call0_v4) (TRef.of (T := ⟨S16384x2816, .f32⟩) main_call0_v3) (TRef.of (T := ⟨S16384x2816, .f32⟩) main_call0_v5) Host.divf,
    TRef.binary (TRef.of (T := ⟨S16384x2816, .f32⟩) main_v24) (TRef.of (T := ⟨S16384x2816, .f32⟩) main_call0_v5) (TRef.of (T := ⟨S16384x2816, .f32⟩) main_v26) mulf,
    binary main_v26 main_v25 main_v27 (mulf : (⟨S16384x2816, .f32⟩ : BufTy).Contents (Elt F) → (⟨S16384x2816, .f32⟩ : BufTy).Contents (Elt F) → (⟨S16384x2816, .f32⟩ : BufTy).Contents (Elt F)),
    binary main_v27 main_v22 main_v28 ((fun l r => Host.dotGeneral dot_S16384x2816_S2816x1024_S16384x1024_1_0_0_1_n_n none l r) : (⟨S16384x2816, .f32⟩ : BufTy).Contents (Elt F) → (⟨S2816x1024, .f32⟩ : BufTy).Contents (Elt F) → (⟨S16384x1024, .f32⟩ : BufTy).Contents (Elt F)),
    nullary main_cst_2 (constant S_ .f32 0x3F000000#32),
    unary main_cst_2 main_v29 (broadcastInDim S16384x1024 ![] bcast_S_S16384x1024 : (⟨S_, .f32⟩ : BufTy).Contents (Elt F) → (⟨S16384x1024, .f32⟩ : BufTy).Contents (Elt F)),
    binary main_v29 main_v28 main_v30 (mulf : (⟨S16384x1024, .f32⟩ : BufTy).Contents (Elt F) → (⟨S16384x1024, .f32⟩ : BufTy).Contents (Elt F) → (⟨S16384x1024, .f32⟩ : BufTy).Contents (Elt F)),
    binary main_v3 main_v30 main_v31 (addf : (⟨S16384x1024, .f32⟩ : BufTy).Contents (Elt F) → (⟨S16384x1024, .f32⟩ : BufTy).Contents (Elt F) → (⟨S16384x1024, .f32⟩ : BufTy).Contents (Elt F)),
    unary main_arg6 main_v32 ((extractStridedSlice S1x1024 ![1, 0] · slices_S2x1024_S1x1024_1_0) : (⟨S2x1024, .f32⟩ : BufTy).Contents (Elt F) → (⟨S1x1024, .f32⟩ : BufTy).Contents (Elt F)),
    reshape main_v32 main_v33 (rfl : (.f32 : EltTy) = .f32) shapeCasts_S1x1024_S1024,
    binary main_v31 main_v31 main_v34 (mulf : (⟨S16384x1024, .f32⟩ : BufTy).Contents (Elt F) → (⟨S16384x1024, .f32⟩ : BufTy).Contents (Elt F) → (⟨S16384x1024, .f32⟩ : BufTy).Contents (Elt F)),
    nullary main_cst_3 (constant S_ .f32 0x00000000#32),
    binary main_v34 main_cst_3 main_v35 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v35 main_v36 (broadcastInDim S16384x1 ![0] bcast_S16384_S16384x1_0 : (⟨S16384, .f32⟩ : BufTy).Contents (Elt F) → (⟨S16384x1, .f32⟩ : BufTy).Contents (Elt F)),
    nullary main_cst_4 (constant S_ .f32 0x44800000#32),
    unary main_cst_4 main_v37 (broadcastInDim S16384x1 ![] bcast_S_S16384x1 : (⟨S_, .f32⟩ : BufTy).Contents (Elt F) → (⟨S16384x1, .f32⟩ : BufTy).Contents (Elt F)),
    binary main_v36 main_v37 main_v38 (Host.divf : (⟨S16384x1, .f32⟩ : BufTy).Contents (Elt F) → (⟨S16384x1, .f32⟩ : BufTy).Contents (Elt F) → (⟨S16384x1, .f32⟩ : BufTy).Contents (Elt F)),
    nullary main_cst_5 (constant S_ .f32 0x358637BD#32),
    unary main_cst_5 main_v39 (broadcastInDim S16384x1 ![] bcast_S_S16384x1 : (⟨S_, .f32⟩ : BufTy).Contents (Elt F) → (⟨S16384x1, .f32⟩ : BufTy).Contents (Elt F)),
    binary main_v38 main_v39 main_v40 (addf : (⟨S16384x1, .f32⟩ : BufTy).Contents (Elt F) → (⟨S16384x1, .f32⟩ : BufTy).Contents (Elt F) → (⟨S16384x1, .f32⟩ : BufTy).Contents (Elt F)),
    unary main_v40 main_v41 (Host.rsqrt : (⟨S16384x1, .f32⟩ : BufTy).Contents (Elt F) → (⟨S16384x1, .f32⟩ : BufTy).Contents (Elt F)),
    unary main_v41 main_v42 (broadcastInDim S16384x1024 ![0, 1] bcast_S16384x1_S16384x1024_0_1 : (⟨S16384x1, .f32⟩ : BufTy).Contents (Elt F) → (⟨S16384x1024, .f32⟩ : BufTy).Contents (Elt F)),
    binary main_v31 main_v42 main_v43 (mulf : (⟨S16384x1024, .f32⟩ : BufTy).Contents (Elt F) → (⟨S16384x1024, .f32⟩ : BufTy).Contents (Elt F) → (⟨S16384x1024, .f32⟩ : BufTy).Contents (Elt F)),
    unary main_v33 main_v44 (broadcastInDim S1x1024 ![1] bcast_S1024_S1x1024_1 : (⟨S1024, .f32⟩ : BufTy).Contents (Elt F) → (⟨S1x1024, .f32⟩ : BufTy).Contents (Elt F)),
    unary main_v44 main_v45 (broadcastInDim S16384x1024 ![0, 1] bcast_S1x1024_S16384x1024_0_1 : (⟨S1x1024, .f32⟩ : BufTy).Contents (Elt F) → (⟨S16384x1024, .f32⟩ : BufTy).Contents (Elt F)),
    binary main_v43 main_v45 main_v46 (mulf : (⟨S16384x1024, .f32⟩ : BufTy).Contents (Elt F) → (⟨S16384x1024, .f32⟩ : BufTy).Contents (Elt F) → (⟨S16384x1024, .f32⟩ : BufTy).Contents (Elt F)),
    unary main_arg7 main_v47 ((extractStridedSlice S1x1024x1024 ![1, 0, 0] · slices_S2x1024x1024_S1x1024x1024_1_0_0) : (⟨S2x1024x1024, .f32⟩ : BufTy).Contents (Elt F) → (⟨S1x1024x1024, .f32⟩ : BufTy).Contents (Elt F)),
    reshape main_v47 main_v48 (rfl : (.f32 : EltTy) = .f32) shapeCasts_S1x1024x1024_S1024x1024,
    binary main_v46 main_v48 main_v49 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    unary main_v49 main_v50 (Host.negf : (⟨S16384x1024, .f32⟩ : BufTy).Contents (Elt F) → (⟨S16384x1024, .f32⟩ : BufTy).Contents (Elt F)),
    unary main_v50 main_v51 (Host.exp : (⟨S16384x1024, .f32⟩ : BufTy).Contents (Elt F) → (⟨S16384x1024, .f32⟩ : BufTy).Contents (Elt F)),
    nullary main_cst_6 (constant S_ .f32 0x3F800000#32),
    unary main_cst_6 main_v52 (broadcastInDim S16384x1024 ![] bcast_S_S16384x1024 : (⟨S_, .f32⟩ : BufTy).Contents (Elt F) → (⟨S16384x1024, .f32⟩ : BufTy).Contents (Elt F)),
    binary main_v52 main_v51 main_v53 (addf : (⟨S16384x1024, .f32⟩ : BufTy).Contents (Elt F) → (⟨S16384x1024, .f32⟩ : BufTy).Contents (Elt F) → (⟨S16384x1024, .f32⟩ : BufTy).Contents (Elt F)),
    nullary main_cst_7 (constant S_ .f32 0x3F800000#32),
    unary main_cst_7 main_v54 (broadcastInDim S16384x1024 ![] bcast_S_S16384x1024 : (⟨S_, .f32⟩ : BufTy).Contents (Elt F) → (⟨S16384x1024, .f32⟩ : BufTy).Contents (Elt F)),
    binary main_v54 main_v53 main_v55 (Host.divf : (⟨S16384x1024, .f32⟩ : BufTy).Contents (Elt F) → (⟨S16384x1024, .f32⟩ : BufTy).Contents (Elt F) → (⟨S16384x1024, .f32⟩ : BufTy).Contents (Elt F)),
    unary main_arg2 main_v56 ((extractStridedSlice S1x16384x256 ![1, 0, 0] · slices_S2x16384x256_S1x16384x256_1_0_0) : (⟨S2x16384x256, .f32⟩ : BufTy).Contents (Elt F) → (⟨S1x16384x256, .f32⟩ : BufTy).Contents (Elt F)),
    reshape main_v56 main_v57 (rfl : (.f32 : EltTy) = .f32) shapeCasts_S1x16384x256_S16384x256,
    unary main_arg8 main_v58 ((extractStridedSlice S1x256x1024 ![1, 0, 0] · slices_S2x256x1024_S1x256x1024_1_0_0) : (⟨S2x256x1024, .f32⟩ : BufTy).Contents (Elt F) → (⟨S1x256x1024, .f32⟩ : BufTy).Contents (Elt F)),
    reshape main_v58 main_v59 (rfl : (.f32 : EltTy) = .f32) shapeCasts_S1x256x1024_S256x1024,
    binary main_v57 main_v59 main_v60 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    binary main_v55 main_v60 main_v61 (mulf : (⟨S16384x1024, .f32⟩ : BufTy).Contents (Elt F) → (⟨S16384x1024, .f32⟩ : BufTy).Contents (Elt F) → (⟨S16384x1024, .f32⟩ : BufTy).Contents (Elt F)),
    binary main_v31 main_v61 main_v62 (addf : (⟨S16384x1024, .f32⟩ : BufTy).Contents (Elt F) → (⟨S16384x1024, .f32⟩ : BufTy).Contents (Elt F) → (⟨S16384x1024, .f32⟩ : BufTy).Contents (Elt F)),
    binary main_v62 main_v62 main_v63 (mulf : (⟨S16384x1024, .f32⟩ : BufTy).Contents (Elt F) → (⟨S16384x1024, .f32⟩ : BufTy).Contents (Elt F) → (⟨S16384x1024, .f32⟩ : BufTy).Contents (Elt F)),
    nullary main_cst_8 (constant S_ .f32 0x00000000#32),
    binary main_v63 main_cst_8 main_v64 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v64 main_v65 (broadcastInDim S16384x1 ![0] bcast_S16384_S16384x1_0 : (⟨S16384, .f32⟩ : BufTy).Contents (Elt F) → (⟨S16384x1, .f32⟩ : BufTy).Contents (Elt F)),
    nullary main_cst_9 (constant S_ .f32 0x44800000#32),
    unary main_cst_9 main_v66 (broadcastInDim S16384x1 ![] bcast_S_S16384x1 : (⟨S_, .f32⟩ : BufTy).Contents (Elt F) → (⟨S16384x1, .f32⟩ : BufTy).Contents (Elt F)),
    binary main_v65 main_v66 main_v67 (Host.divf : (⟨S16384x1, .f32⟩ : BufTy).Contents (Elt F) → (⟨S16384x1, .f32⟩ : BufTy).Contents (Elt F) → (⟨S16384x1, .f32⟩ : BufTy).Contents (Elt F)),
    nullary main_cst_10 (constant S_ .f32 0x358637BD#32),
    unary main_cst_10 main_v68 (broadcastInDim S16384x1 ![] bcast_S_S16384x1 : (⟨S_, .f32⟩ : BufTy).Contents (Elt F) → (⟨S16384x1, .f32⟩ : BufTy).Contents (Elt F)),
    binary main_v67 main_v68 main_v69 (addf : (⟨S16384x1, .f32⟩ : BufTy).Contents (Elt F) → (⟨S16384x1, .f32⟩ : BufTy).Contents (Elt F) → (⟨S16384x1, .f32⟩ : BufTy).Contents (Elt F)),
    unary main_v69 main_v70 (Host.rsqrt : (⟨S16384x1, .f32⟩ : BufTy).Contents (Elt F) → (⟨S16384x1, .f32⟩ : BufTy).Contents (Elt F)),
    unary main_v70 main_v71 (broadcastInDim S16384x1024 ![0, 1] bcast_S16384x1_S16384x1024_0_1 : (⟨S16384x1, .f32⟩ : BufTy).Contents (Elt F) → (⟨S16384x1024, .f32⟩ : BufTy).Contents (Elt F)),
    binary main_v62 main_v71 main_v72 (mulf : (⟨S16384x1024, .f32⟩ : BufTy).Contents (Elt F) → (⟨S16384x1024, .f32⟩ : BufTy).Contents (Elt F) → (⟨S16384x1024, .f32⟩ : BufTy).Contents (Elt F)),
    unary main_arg10 main_v73 (broadcastInDim S1x1024 ![1] bcast_S1024_S1x1024_1 : (⟨S1024, .f32⟩ : BufTy).Contents (Elt F) → (⟨S1x1024, .f32⟩ : BufTy).Contents (Elt F)),
    unary main_v73 main_v74 (broadcastInDim S16384x1024 ![0, 1] bcast_S1x1024_S16384x1024_0_1 : (⟨S1x1024, .f32⟩ : BufTy).Contents (Elt F) → (⟨S16384x1024, .f32⟩ : BufTy).Contents (Elt F)),
    binary main_v72 main_v74 main_v75 (mulf : (⟨S16384x1024, .f32⟩ : BufTy).Contents (Elt F) → (⟨S16384x1024, .f32⟩ : BufTy).Contents (Elt F) → (⟨S16384x1024, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., reshape_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩

set_option maxRecDepth 8192 in
set_option maxRecDepth 8192 in
set_option maxHeartbeats 38400000 in
/-- On every device, for any float values, from any memory with zero counters: every weakly fair execution of
    @main terminates with the result at `postW` of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) =
        postW fits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v75).trans (by simp only [ops, TRef.binary, TRef.nullary, TRef.unary, TRef.toBuf, TRef.ofBuf, cast_eq]; after_results_simp <;> rfl),
      (h c main_arg0).trans (by simp only [ops, TRef.binary, TRef.nullary, TRef.unary, TRef.toBuf, TRef.ofBuf, cast_eq]; after_results_simp <;> rfl),
      (h c main_arg1).trans (by simp only [ops, TRef.binary, TRef.nullary, TRef.unary, TRef.toBuf, TRef.ofBuf, cast_eq]; after_results_simp <;> rfl),
      (h c main_arg2).trans (by simp only [ops, TRef.binary, TRef.nullary, TRef.unary, TRef.toBuf, TRef.ofBuf, cast_eq]; after_results_simp <;> rfl),
      (h c main_arg3).trans (by simp only [ops, TRef.binary, TRef.nullary, TRef.unary, TRef.toBuf, TRef.ofBuf, cast_eq]; after_results_simp <;> rfl),
      (h c main_arg4).trans (by simp only [ops, TRef.binary, TRef.nullary, TRef.unary, TRef.toBuf, TRef.ofBuf, cast_eq]; after_results_simp <;> rfl),
      (h c main_arg5).trans (by simp only [ops, TRef.binary, TRef.nullary, TRef.unary, TRef.toBuf, TRef.ofBuf, cast_eq]; after_results_simp <;> rfl),
      (h c main_arg6).trans (by simp only [ops, TRef.binary, TRef.nullary, TRef.unary, TRef.toBuf, TRef.ofBuf, cast_eq]; after_results_simp <;> rfl),
      (h c main_arg7).trans (by simp only [ops, TRef.binary, TRef.nullary, TRef.unary, TRef.toBuf, TRef.ofBuf, cast_eq]; after_results_simp <;> rfl),
      (h c main_arg8).trans (by simp only [ops, TRef.binary, TRef.nullary, TRef.unary, TRef.toBuf, TRef.ofBuf, cast_eq]; after_results_simp <;> rfl),
      (h c main_arg9).trans (by simp only [ops, TRef.binary, TRef.nullary, TRef.unary, TRef.toBuf, TRef.ofBuf, cast_eq]; after_results_simp <;> rfl),
      (h c main_arg10).trans (by simp only [ops, TRef.binary, TRef.nullary, TRef.unary, TRef.toBuf, TRef.ofBuf, cast_eq]; after_results_simp <;> rfl)⟩)
    (run_seq scopedRefs_eq scopedSems_eq defs main (fun _ => ops) main_eq (fun _ => ops_sub) m ρ)

end Cert.Reference4Ideal.Post

end
-- ==== Proof.Post.Sample.Pieces.lean ====
/- What the last call, launched for the second batch, leaves in its output block: the output projection, the half-step, the gated branch and the last
   normalisation of the tile. The block is stored eight times over; each store covers it, and each load of it reads the
   store before. -/
module

public import proofs.«01_k».proof.Proof.Gen.Kernel4Ideal.Frame
public import proofs.«01_k».proof.Proof.Post.Tile
public import Idealize.ShloMosaic.Lib.VecWindow

@[expose] public section

set_option maxRecDepth 16384

noncomputable section

namespace Cert.Kernel4Ideal.Post

open Idealize.ShloMosaic Idealize.ShloMosaic.TcCoe Idealize.ShloMosaic.Tactic
open Cert.Kernel4Ideal.Gen Cert.Ffn Cert.Post

variable {F : FTy → Type} [FloatOps F]

/-- What the loads of the output block read: the product over the first hidden units, 512 more each time, and in the end
    over all. -/
theorem load0 (c : Dev nD) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg12 : Memref sig .tc .vmem S1024x1024 .f32) (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) :
    kernelRun0_A.sl.v44 c arg12 = accT (kernelRun0_A.sl.r_1 c arg1 harg1 arg2 harg2 arg3 harg3 arg4 harg4 x0 x1 x2 x3) (arg5.view.read (Elt F) (harg5.unread x4)) (arg6.view.read (Elt F) (harg6.unread x5)) 0 (by decide) :=
  View.readCov_full (s := S1024x1024) arg12.view _ _ _ _

theorem load1 (c : Dev nD) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg12 : Memref sig .tc .vmem S1024x1024 .f32) (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) :
    kernelRun0_A.sl.v73 c arg1 harg1 arg2 harg2 arg3 harg3 arg4 harg4 arg5 harg5 arg6 harg6 arg12 x0 x1 x2 x3 x4 x5 = accT (kernelRun0_A.sl.r_1 c arg1 harg1 arg2 harg2 arg3 harg3 arg4 harg4 x0 x1 x2 x3) (arg5.view.read (Elt F) (harg5.unread x4)) (arg6.view.read (Elt F) (harg6.unread x5)) 1 (by decide) := by
  refine (View.readCov_full (s := S1024x1024) arg12.view _ _ _ _).trans ?_
  refine Eq.trans (b := pairT (kernelRun0_A.sl.v44 c arg12) (actOf (kernelRun0_A.sl.r_1 c arg1 harg1 arg2 harg2 arg3 harg3 arg4 harg4 x0 x1 x2 x3) (arg5.view.read (Elt F) (harg5.unread x4)) 0 (by decide)) (actOf (kernelRun0_A.sl.r_1 c arg1 harg1 arg2 harg2 arg3 harg3 arg4 harg4 x0 x1 x2 x3) (arg5.view.read (Elt F) (harg5.unread x4)) 256 (by decide))
    (View.ld (arg6.view.read (Elt F) (harg6.unread x5)) (Rect.unit ![0, 0, 0, 0, 0] ![1, 1, 2, 256, 1024] (inbOut 0 2 (by decide))))) (by sl_kernel_rfl) ?_
  rw [load0 c arg1 harg1 arg2 harg2 arg3 harg3 arg4 harg4 arg5 harg5 arg6 harg6 arg12 x0 x1 x2 x3 x4 x5]; rfl

theorem load2 (c : Dev nD) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg12 : Memref sig .tc .vmem S1024x1024 .f32) (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) :
    kernelRun0_A.sl.v102 c arg1 harg1 arg2 harg2 arg3 harg3 arg4 harg4 arg5 harg5 arg6 harg6 arg12 x0 x1 x2 x3 x4 x5 = accT (kernelRun0_A.sl.r_1 c arg1 harg1 arg2 harg2 arg3 harg3 arg4 harg4 x0 x1 x2 x3) (arg5.view.read (Elt F) (harg5.unread x4)) (arg6.view.read (Elt F) (harg6.unread x5)) 2 (by decide) := by
  refine (View.readCov_full (s := S1024x1024) arg12.view _ _ _ _).trans ?_
  refine Eq.trans (b := pairT (kernelRun0_A.sl.v73 c arg1 harg1 arg2 harg2 arg3 harg3 arg4 harg4 arg5 harg5 arg6 harg6 arg12 x0 x1 x2 x3 x4 x5) (actOf (kernelRun0_A.sl.r_1 c arg1 harg1 arg2 harg2 arg3 harg3 arg4 harg4 x0 x1 x2 x3) (arg5.view.read (Elt F) (harg5.unread x4)) 512 (by decide)) (actOf (kernelRun0_A.sl.r_1 c arg1 harg1 arg2 harg2 arg3 harg3 arg4 harg4 x0 x1 x2 x3) (arg5.view.read (Elt F) (harg5.unread x4)) 768 (by decide))
    (View.ld (arg6.view.read (Elt F) (harg6.unread x5)) (Rect.unit ![0, 0, 2, 0, 0] ![1, 1, 2, 256, 1024] (inbOut 2 2 (by decide))))) (by sl_kernel_rfl) ?_
  rw [load1 c arg1 harg1 arg2 harg2 arg3 harg3 arg4 harg4 arg5 harg5 arg6 harg6 arg12 x0 x1 x2 x3 x4 x5]; rfl

theorem load3 (c : Dev nD) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg12 : Memref sig .tc .vmem S1024x1024 .f32) (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) :
    kernelRun0_A.sl.v131 c arg1 harg1 arg2 harg2 arg3 harg3 arg4 harg4 arg5 harg5 arg6 harg6 arg12 x0 x1 x2 x3 x4 x5 = accT (kernelRun0_A.sl.r_1 c arg1 harg1 arg2 harg2 arg3 harg3 arg4 harg4 x0 x1 x2 x3) (arg5.view.read (Elt F) (harg5.unread x4)) (arg6.view.read (Elt F) (harg6.unread x5)) 3 (by decide) := by
  refine (View.readCov_full (s := S1024x1024) arg12.view _ _ _ _).trans ?_
  refine Eq.trans (b := pairT (kernelRun0_A.sl.v102 c arg1 harg1 arg2 harg2 arg3 harg3 arg4 harg4 arg5 harg5 arg6 harg6 arg12 x0 x1 x2 x3 x4 x5) (actOf (kernelRun0_A.sl.r_1 c arg1 harg1 arg2 harg2 arg3 harg3 arg4 harg4 x0 x1 x2 x3) (arg5.view.read (Elt F) (harg5.unread x4)) 1024 (by decide)) (actOf (kernelRun0_A.sl.r_1 c arg1 harg1 arg2 harg2 arg3 harg3 arg4 harg4 x0 x1 x2 x3) (arg5.view.read (Elt F) (harg5.unread x4)) 1280 (by decide))
    (View.ld (arg6.view.read (Elt F) (harg6.unread x5)) (Rect.unit ![0, 0, 4, 0, 0] ![1, 1, 2, 256, 1024] (inbOut 4 2 (by decide))))) (by sl_kernel_rfl) ?_
  rw [load2 c arg1 harg1 arg2 harg2 arg3 harg3 arg4 harg4 arg5 harg5 arg6 harg6 arg12 x0 x1 x2 x3 x4 x5]; rfl

theorem load4 (c : Dev nD) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg12 : Memref sig .tc .vmem S1024x1024 .f32) (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) :
    kernelRun0_A.sl.v160 c arg1 harg1 arg2 harg2 arg3 harg3 arg4 harg4 arg5 harg5 arg6 harg6 arg12 x0 x1 x2 x3 x4 x5 = accT (kernelRun0_A.sl.r_1 c arg1 harg1 arg2 harg2 arg3 harg3 arg4 harg4 x0 x1 x2 x3) (arg5.view.read (Elt F) (harg5.unread x4)) (arg6.view.read (Elt F) (harg6.unread x5)) 4 (by decide) := by
  refine (View.readCov_full (s := S1024x1024) arg12.view _ _ _ _).trans ?_
  refine Eq.trans (b := pairT (kernelRun0_A.sl.v131 c arg1 harg1 arg2 harg2 arg3 harg3 arg4 harg4 arg5 harg5 arg6 harg6 arg12 x0 x1 x2 x3 x4 x5) (actOf (kernelRun0_A.sl.r_1 c arg1 harg1 arg2 harg2 arg3 harg3 arg4 harg4 x0 x1 x2 x3) (arg5.view.read (Elt F) (harg5.unread x4)) 1536 (by decide)) (actOf (kernelRun0_A.sl.r_1 c arg1 harg1 arg2 harg2 arg3 harg3 arg4 harg4 x0 x1 x2 x3) (arg5.view.read (Elt F) (harg5.unread x4)) 1792 (by decide))
    (View.ld (arg6.view.read (Elt F) (harg6.unread x5)) (Rect.unit ![0, 0, 6, 0, 0] ![1, 1, 2, 256, 1024] (inbOut 6 2 (by decide))))) (by sl_kernel_rfl) ?_
  rw [load3 c arg1 harg1 arg2 harg2 arg3 harg3 arg4 harg4 arg5 harg5 arg6 harg6 arg12 x0 x1 x2 x3 x4 x5]; rfl

theorem load5 (c : Dev nD) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg12 : Memref sig .tc .vmem S1024x1024 .f32) (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) :
    kernelRun0_A.sl.v168 c arg1 harg1 arg2 harg2 arg3 harg3 arg4 harg4 arg5 harg5 arg6 harg6 arg12 x0 x1 x2 x3 x4 x5 = accT (kernelRun0_A.sl.r_1 c arg1 harg1 arg2 harg2 arg3 harg3 arg4 harg4 x0 x1 x2 x3) (arg5.view.read (Elt F) (harg5.unread x4)) (arg6.view.read (Elt F) (harg6.unread x5)) 5 (by decide) := by
  refine (View.readCov_full (s := S1024x1024) arg12.view _ _ _ _).trans ?_
  refine Eq.trans (b := pairT (kernelRun0_A.sl.v160 c arg1 harg1 arg2 harg2 arg3 harg3 arg4 harg4 arg5 harg5 arg6 harg6 arg12 x0 x1 x2 x3 x4 x5) (actOf (kernelRun0_A.sl.r_1 c arg1 harg1 arg2 harg2 arg3 harg3 arg4 harg4 x0 x1 x2 x3) (arg5.view.read (Elt F) (harg5.unread x4)) 2048 (by decide)) (actOf (kernelRun0_A.sl.r_1 c arg1 harg1 arg2 harg2 arg3 harg3 arg4 harg4 x0 x1 x2 x3) (arg5.view.read (Elt F) (harg5.unread x4)) 2304 (by decide))
    (View.ld (arg6.view.read (Elt F) (harg6.unread x5)) (Rect.unit ![0, 0, 8, 0, 0] ![1, 1, 2, 256, 1024] (inbOut 8 2 (by decide))))) (by sl_kernel_rfl) ?_
  rw [load4 c arg1 harg1 arg2 harg2 arg3 harg3 arg4 harg4 arg5 harg5 arg6 harg6 arg12 x0 x1 x2 x3 x4 x5]; rfl

theorem load6 (c : Dev nD) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg12 : Memref sig .tc .vmem S1024x1024 .f32) (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) :
    kernelRun0_A.sl.v185 c arg1 harg1 arg2 harg2 arg3 harg3 arg4 harg4 arg5 harg5 arg6 harg6 arg12 x0 x1 x2 x3 x4 x5 = sumT (kernelRun0_A.sl.r_1 c arg1 harg1 arg2 harg2 arg3 harg3 arg4 harg4 x0 x1 x2 x3) (arg5.view.read (Elt F) (harg5.unread x4)) (arg6.view.read (Elt F) (harg6.unread x5)) := by
  refine (View.readCov_full (s := S1024x1024) arg12.view _ _ _ _).trans ?_
  refine Eq.trans (b := lastT (kernelRun0_A.sl.v168 c arg1 harg1 arg2 harg2 arg3 harg3 arg4 harg4 arg5 harg5 arg6 harg6 arg12 x0 x1 x2 x3 x4 x5) (actOf (kernelRun0_A.sl.r_1 c arg1 harg1 arg2 harg2 arg3 harg3 arg4 harg4 x0 x1 x2 x3) (arg5.view.read (Elt F) (harg5.unread x4)) 2560 (by decide))
    (View.ld (arg6.view.read (Elt F) (harg6.unread x5)) (Rect.unit ![0, 0, 10, 0, 0] ![1, 1, 1, 256, 1024] (inbOut 10 1 (by decide))))) (by sl_kernel_rfl) ?_
  rw [load5 c arg1 harg1 arg2 harg2 arg3 harg3 arg4 harg4 arg5 harg5 arg6 harg6 arg12 x0 x1 x2 x3 x4 x5]; rfl

/-- The block in the end. -/
theorem out_eq (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1x1024x1024 .bf16) (harg3 : arg3.IsWhole) (arg4 : Memref sig .tc .vmem S1x1x1x1024 .f32) (harg4 : arg4.IsWhole) (arg5 : Memref sig .tc .vmem S1x1x1024x5632 .bf16) (harg5 : arg5.IsWhole) (arg6 : Memref sig .tc .vmem S1x1x11x256x1024 .bf16) (harg6 : arg6.IsWhole) (arg7 : Memref sig .tc .vmem S1x1024x256 .f32) (harg7 : arg7.IsWhole) (arg8 : Memref sig .tc .vmem S1x1x1024 .f32) (harg8 : arg8.IsWhole) (arg9 : Memref sig .tc .vmem S1x1024x1024 .bf16) (harg9 : arg9.IsWhole) (arg10 : Memref sig .tc .vmem S1x256x1024 .bf16) (harg10 : arg10.IsWhole) (arg11 : Memref sig .tc .vmem S1x1024 .f32) (harg11 : arg11.IsWhole) (arg12 : Memref sig .tc .vmem S1024x1024 .f32) (harg12 : arg12.IsWhole)
    (x0 : Vec F S1024x1024 .f32) (x1 : Vec F S1024x1024 .bf16) (x2 : Vec F S1x1024x1024 .bf16) (x3 : Vec F S1x1x1x1024 .f32) (x4 : Vec F S1x1x1024x5632 .bf16) (x5 : Vec F S1x1x11x256x1024 .bf16) (x6 : Vec F S1x1024x256 .f32) (x7 : Vec F S1x1x1024 .f32) (x8 : Vec F S1x1024x1024 .bf16) (x9 : Vec F S1x256x1024 .bf16) (x10 : Vec F S1x1024 .f32) :
    out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 = postT x0 x1 x2 x3 x4 x5 x6 x7 x8 x9 x10 := by
  unfold out0_A_11 kernelRun0_A
  dsimp only
  refine (View.read_writes_full (s := S1024x1024) VO0_11 _ _ _ _).trans ?_
  have e0 : arg1.view.readAt (Elt F) (Rect.unit ![0, 0] S1024x1024.size inb_S1024x1024_S1024x1024_0_0).toLoadRect (harg1.unread x0) = x0 :=
    (View.readAt_full (s := S1024x1024) arg1.view _ _).trans (harg1.read_unread x0)
  have e1 : arg2.view.readAt (Elt F) (Rect.unit ![0, 0] S1024x1024.size inb_S1024x1024_S1024x1024_0_0).toLoadRect (harg2.unread x1) = x1 :=
    (View.readAt_full (s := S1024x1024) arg2.view _ _).trans (harg2.read_unread x1)
  have e2 : arg3.view.readAt (Elt F) (Rect.unit ![0, 0, 0] S1x1024x1024.size inb_S1x1024x1024_S1x1024x1024_0_0_0).toLoadRect (harg3.unread x2) = x2 :=
    (View.readAt_full (s := S1x1024x1024) arg3.view _ _).trans (harg3.read_unread x2)
  have e3 : arg4.view.readAt (Elt F) (Rect.unit ![0, 0, 0, 0] S1x1x1x1024.size inb_S1x1x1x1024_S1x1x1x1024_0_0_0_0).toLoadRect (harg4.unread x3) = x3 :=
    (View.readAt_full (s := S1x1x1x1024) arg4.view _ _).trans (harg4.read_unread x3)
  have e6 : arg7.view.readAt (Elt F) (Rect.unit ![0, 0, 0] S1x1024x256.size inb_S1x1024x256_S1x1024x256_0_0_0).toLoadRect (harg7.unread x6) = x6 :=
    (View.readAt_full (s := S1x1024x256) arg7.view _ _).trans (harg7.read_unread x6)
  have e7 : arg8.view.readAt (Elt F) (Rect.unit ![0, 0, 0] S1x1x1024.size inb_S1x1x1024_S1x1x1024_0_0_0).toLoadRect (harg8.unread x7) = x7 :=
    (View.readAt_full (s := S1x1x1024) arg8.view _ _).trans (harg8.read_unread x7)
  have e8 : arg9.view.readAt (Elt F) (Rect.unit ![0, 0, 0] S1x1024x1024.size inb_S1x1024x1024_S1x1024x1024_0_0_0).toLoadRect (harg9.unread x8) = x8 :=
    (View.readAt_full (s := S1x1024x1024) arg9.view _ _).trans (harg9.read_unread x8)
  have e9 : arg10.view.readAt (Elt F) (Rect.unit ![0, 0, 0] S1x256x1024.size inb_S1x256x1024_S1x256x1024_0_0_0).toLoadRect (harg10.unread x9) = x9 :=
    (View.readAt_full (s := S1x256x1024) arg10.view _ _).trans (harg10.read_unread x9)
  have e10 : arg11.view.readAt (Elt F) (Rect.unit ![0, 0] S1x1024.size inb_S1x1024_S1x1024_0_0).toLoadRect (harg11.unread x10) = x10 :=
    (View.readAt_full (s := S1x1024) arg11.view _ _).trans (harg11.read_unread x10)
  have er : kernelRun0_A.sl.r c arg1 harg1 arg2 harg2 arg3 harg3 x0 x1 x2 = addf x0 (squareT x1 x2) := by
    refine Eq.trans (b := addf (arg1.view.readAt (Elt F) (Rect.unit ![0, 0] S1024x1024.size inb_S1024x1024_S1024x1024_0_0).toLoadRect (harg1.unread x0))
      (squareT (arg2.view.readAt (Elt F) (Rect.unit ![0, 0] S1024x1024.size inb_S1024x1024_S1024x1024_0_0).toLoadRect (harg2.unread x1))
        (arg3.view.readAt (Elt F) (Rect.unit ![0, 0, 0] S1x1024x1024.size inb_S1x1024x1024_S1x1024x1024_0_0_0).toLoadRect (harg3.unread x2)))) (by sl_kernel_rfl) ?_
    rw [e0, e1, e2]
  have ey : kernelRun0_A.sl.r_1 c arg1 harg1 arg2 harg2 arg3 harg3 arg4 harg4 x0 x1 x2 x3 = truncf .bf16 (normT (addf x0 (squareT x1 x2)) (shapeCast Row x3 castScale)) less := by
    refine Eq.trans (b := truncf .bf16 (normT (kernelRun0_A.sl.r c arg1 harg1 arg2 harg2 arg3 harg3 x0 x1 x2) (shapeCast Row
      (arg4.view.readAt (Elt F) (Rect.unit ![0, 0, 0, 0] S1x1x1x1024.size inb_S1x1x1x1024_S1x1x1x1024_0_0_0_0).toLoadRect (harg4.unread x3)) castScale)) less) (by sl_kernel_rfl) ?_
    rw [er, e3]
  have eh : kernelRun0_A.sl.r_20 c arg1 harg1 arg2 harg2 arg3 harg3 arg4 harg4 arg5 harg5 arg6 harg6 arg12 x0 x1 x2 x3 x4 x5 = stepT (addf x0 (squareT x1 x2)) x3 x4 x5 := by
    refine Eq.trans (b := halfT (kernelRun0_A.sl.r c arg1 harg1 arg2 harg2 arg3 harg3 x0 x1 x2) (kernelRun0_A.sl.v185 c arg1 harg1 arg2 harg2 arg3 harg3 arg4 harg4 arg5 harg5 arg6 harg6 arg12 x0 x1 x2 x3 x4 x5)) (by sl_kernel_rfl) ?_
    rw [load6, er, ey, harg5.read_unread x4, harg6.read_unread x5]; rfl
  have eg : kernelRun0_A.sl.r_21 c arg1 harg1 arg2 harg2 arg3 harg3 arg4 harg4 arg5 harg5 arg6 harg6 arg8 harg8 arg9 harg9 arg12 x0 x1 x2 x3 x4 x5 x7 x8 = gateT (stepT (addf x0 (squareT x1 x2)) x3 x4 x5) x7 x8 := by
    refine Eq.trans (b := gateT (kernelRun0_A.sl.r_20 c arg1 harg1 arg2 harg2 arg3 harg3 arg4 harg4 arg5 harg5 arg6 harg6 arg12 x0 x1 x2 x3 x4 x5)
      (arg8.view.readAt (Elt F) (Rect.unit ![0, 0, 0] S1x1x1024.size inb_S1x1x1024_S1x1x1024_0_0_0).toLoadRect (harg8.unread x7))
      (arg9.view.readAt (Elt F) (Rect.unit ![0, 0, 0] S1x1024x1024.size inb_S1x1024x1024_S1x1024x1024_0_0_0).toLoadRect (harg9.unread x8))) (by sl_kernel_rfl) ?_
    rw [eh, e7, e8]
  refine Eq.trans (b := endT (kernelRun0_A.sl.r_20 c arg1 harg1 arg2 harg2 arg3 harg3 arg4 harg4 arg5 harg5 arg6 harg6 arg12 x0 x1 x2 x3 x4 x5)
    (kernelRun0_A.sl.r_21 c arg1 harg1 arg2 harg2 arg3 harg3 arg4 harg4 arg5 harg5 arg6 harg6 arg8 harg8 arg9 harg9 arg12 x0 x1 x2 x3 x4 x5 x7 x8)
    (arg7.view.readAt (Elt F) (Rect.unit ![0, 0, 0] S1x1024x256.size inb_S1x1024x256_S1x1024x256_0_0_0).toLoadRect (harg7.unread x6))
    (arg10.view.readAt (Elt F) (Rect.unit ![0, 0, 0] S1x256x1024.size inb_S1x256x1024_S1x256x1024_0_0_0).toLoadRect (harg10.unread x9))
    (arg11.view.readAt (Elt F) (Rect.unit ![0, 0] S1x1024.size inb_S1x1024_S1x1024_0_0).toLoadRect (harg11.unread x10))) (by sl_kernel_rfl) ?_
  rw [eh, eg, e6, e9, e10]; rfl

end Cert.Kernel4Ideal.Post

end
-- ==== Proof.Post.Sample.Array.lean ====
/- The last call's result array for the second batch (16384 rows) at the ideal values: the weights as the host prepares them, the block each point holds, and
   every row of the result. -/
module

public import proofs.«01_k».proof.Proof.Post.Sample.Pieces
public import proofs.«01_k».proof.Proof.Post.WholeAt
public import Idealize.ShloMosaic.Lib.Pipeline.ValueKit.Geometry

@[expose] public section

noncomputable section

namespace Cert.Kernel4Ideal.Post

open Idealize.ShloMosaic Idealize.ShloMosaic.TcCoe Idealize.ShloMosaic.ValueIdx
open Idealize.SL Idealize.SL.Sem
open Cert.Ffn Cert.Post Cert.Kernel4Ideal.Gen
open scoped BigOperators

variable (m : (ℓ : Loc nD τ sig) → Buf (Elt Ideal) ℓ) (ρ : Dev nD → PrngReg)

/-- The argument arrays. -/
def argX (c : Dev nD) : (⟨2, ![16384, 1024]⟩ : Shape).Idx → EReal := m ((c.tc : Thread nD τ).loc main_arg0)
def argA (c : Dev nD) : (⟨2, ![16384, 1024]⟩ : Shape).Idx → EReal := m ((c.tc : Thread nD τ).loc main_arg1)
def argP (c : Dev nD) : (⟨3, ![2, 16384, 256]⟩ : Shape).Idx → EReal := m ((c.tc : Thread nD τ).loc main_arg2)
def argG (c : Dev nD) : (⟨3, ![2, 2, 1024]⟩ : Shape).Idx → EReal := m ((c.tc : Thread nD τ).loc main_arg3)
def argI (c : Dev nD) : (⟨4, ![2, 2, 1024, 5632]⟩ : Shape).Idx → EReal := m ((c.tc : Thread nD τ).loc main_arg4)
def argO (c : Dev nD) : (⟨4, ![2, 2, 2816, 1024]⟩ : Shape).Idx → EReal := m ((c.tc : Thread nD τ).loc main_arg5)
def argGP (c : Dev nD) : (⟨2, ![2, 1024]⟩ : Shape).Idx → EReal := m ((c.tc : Thread nD τ).loc main_arg6)
def argWG (c : Dev nD) : (⟨3, ![2, 1024, 1024]⟩ : Shape).Idx → EReal := m ((c.tc : Thread nD τ).loc main_arg7)
def argWP (c : Dev nD) : (⟨3, ![2, 256, 1024]⟩ : Shape).Idx → EReal := m ((c.tc : Thread nD τ).loc main_arg8)
def argWO (c : Dev nD) : (⟨3, ![1, 1024, 1024]⟩ : Shape).Idx → EReal := m ((c.tc : Thread nD τ).loc main_arg9)
def argGF (c : Dev nD) : (⟨1, ![1024]⟩ : Shape).Idx → EReal := m ((c.tc : Thread nD τ).loc main_arg10)

/-! ## The weights as the host prepares them -/

theorem host_i (c : Dev nD) : V m c main_v0 = argI m c := rfl
theorem host_o (c : Dev nD) : V m c main_v2 = shapeCast S2x2x11x256x1024 (argO m c) shapeCasts_S2x2x2816x1024_S2x2x11x256x1024 := rfl
theorem host_g (c : Dev nD) : V m c main_v3 = shapeCast S2x2x1x1024 (argG m c) shapeCasts_S2x2x1024_S2x2x1x1024 := rfl
theorem host_gp (c : Dev nD) : V m c main_v4 = shapeCast S2x1x1024 (argGP m c) shapeCasts_S2x1024_S2x1x1024 := rfl
theorem host_wg (c : Dev nD) : V m c main_v5 = argWG m c := rfl
theorem host_wp (c : Dev nD) : V m c main_v6 = argWP m c := rfl
theorem host_gf (c : Dev nD) : V m c main_v7 = shapeCast S1x1024 (argGF m c) shapeCasts_S1024_S1x1024 := rfl
theorem host_wo (c : Dev nD) : V m c main_v8 = argWO m c := rfl

/-! ## The block a point holds -/

theorem N_eq : cfg0.N = 16 := N_0
theorem index_x : ∀ t : Fin cfg0.N, win0_0.index t = ![t.val, 0] := (by decide +kernel : ∀ t : Fin grid0.N, win0_0.index t = ![t.val, 0])
theorem index_a : ∀ t : Fin cfg0.N, win0_1.index t = ![t.val, 0] := (by decide +kernel : ∀ t : Fin grid0.N, win0_1.index t = ![t.val, 0])
theorem index_wo : ∀ t : Fin cfg0.N, win0_2.index t = ![0, 0, 0] := (by decide +kernel : ∀ t : Fin grid0.N, win0_2.index t = ![0, 0, 0])
theorem index_g : ∀ t : Fin cfg0.N, win0_3.index t = ![1, 1, 0, 0] := (by decide +kernel : ∀ t : Fin grid0.N, win0_3.index t = ![1, 1, 0, 0])
theorem index_i : ∀ t : Fin cfg0.N, win0_4.index t = ![1, 1, 0, 0] := (by decide +kernel : ∀ t : Fin grid0.N, win0_4.index t = ![1, 1, 0, 0])
theorem index_o : ∀ t : Fin cfg0.N, win0_5.index t = ![1, 1, 0, 0, 0] := (by decide +kernel : ∀ t : Fin grid0.N, win0_5.index t = ![1, 1, 0, 0, 0])
theorem index_p : ∀ t : Fin cfg0.N, win0_6.index t = ![1, t.val, 0] := (by decide +kernel : ∀ t : Fin grid0.N, win0_6.index t = ![1, t.val, 0])
theorem index_gp : ∀ t : Fin cfg0.N, win0_7.index t = ![1, 0, 0] := (by decide +kernel : ∀ t : Fin grid0.N, win0_7.index t = ![1, 0, 0])
theorem index_wg : ∀ t : Fin cfg0.N, win0_8.index t = ![1, 0, 0] := (by decide +kernel : ∀ t : Fin grid0.N, win0_8.index t = ![1, 0, 0])
theorem index_wp : ∀ t : Fin cfg0.N, win0_9.index t = ![1, 0, 0] := (by decide +kernel : ∀ t : Fin grid0.N, win0_9.index t = ![1, 0, 0])
theorem index_gf : ∀ t : Fin cfg0.N, win0_10.index t = ![0, 0] := (by decide +kernel : ∀ t : Fin grid0.N, win0_10.index t = ![0, 0])
theorem index_r : ∀ t : Fin cfg0.N, win0_11.index t = ![t.val, 0] := (by decide +kernel : ∀ t : Fin grid0.N, win0_11.index t = ![t.val, 0])

/-- Row `a` of tile `n`. -/
def tileRow (n : ℕ) (a : Fin 1024) : Fin 16384 := ⟨n % 16 * 1024 + a.val, by have := a.isLt; have := Nat.mod_lt n (show 0 < 16 by decide); omega⟩

theorem blk_x (c : Dev nD) (t : Fin cfg0.N) (a b : Fin 1024) : (iblk m c 0 t (ix2 a b) : EReal) = argX m c (ix2 (tileRow t.val a) b) := by
  have e := index_x t
  have hN := N_eq
  have h1 : t.val % 16 = t.val := Nat.mod_eq_of_lt (hN ▸ t.isLt)
  blk_simp [iblk]
  refine congrArg (argX m c) (funext fun d => Fin.ext ?_)
  fin_cases d
  · blk_simp [e]; simp [tileRow, h1]
  · blk_simp [e]

theorem blk_a (c : Dev nD) (t : Fin cfg0.N) (a b : Fin 1024) : (iblk m c 1 t (ix2 a b) : EReal) = argA m c (ix2 (tileRow t.val a) b) := by
  have e := index_a t
  have hN := N_eq
  have h1 : t.val % 16 = t.val := Nat.mod_eq_of_lt (hN ▸ t.isLt)
  blk_simp [iblk]
  refine congrArg (argA m c) (funext fun d => Fin.ext ?_)
  fin_cases d
  · blk_simp [e]; simp [tileRow, h1]
  · blk_simp [e]

theorem blk_p (c : Dev nD) (t : Fin cfg0.N) (a : Fin 1024) (b : Fin 256) : (iblk m c 6 t (ix3 0 a b) : EReal) = argP m c (ix3 1 (tileRow t.val a) b) := by
  have e := index_p t
  have hN := N_eq
  have h1 : t.val % 16 = t.val := Nat.mod_eq_of_lt (hN ▸ t.isLt)
  blk_simp [iblk]
  refine congrArg (argP m c) (funext fun d => Fin.ext ?_)
  fin_cases d
  · blk_simp [e]; rfl
  · blk_simp [e]; simp [tileRow, h1]
  · blk_simp [e]

theorem blk_wo (c : Dev nD) (t : Fin cfg0.N) (d b : Fin 1024) : (iblk m c 2 t (ix3 0 d b) : EReal) = argWO m c (ix3 0 d b) := by
  have e := index_wo t
  refine Eq.trans (b := (V m c main_v8 : S1x1024x1024.Idx → EReal) (ix3 0 d b)) ?_ (congrFun (host_wo m c) _)
  blk_simp [iblk]
  refine congrArg (V m c main_v8 : S1x1024x1024.Idx → EReal) (funext fun d => Fin.ext ?_)
  fin_cases d
  · blk_simp [e]
  · blk_simp [e]
  · blk_simp [e]

theorem blk_i (c : Dev nD) (t : Fin cfg0.N) (d : Fin 1024) (j : Fin 5632) : (iblk m c 4 t (ix4 0 0 d j) : EReal) = argI m c (ix4 1 1 d j) := by
  have e := index_i t
  refine Eq.trans (b := (V m c main_v0 : S2x2x1024x5632.Idx → EReal) (ix4 1 1 d j)) ?_ (congrFun (host_i m c) _)
  blk_simp [iblk]
  refine congrArg (V m c main_v0 : S2x2x1024x5632.Idx → EReal) (funext fun d => Fin.ext ?_)
  fin_cases d
  · blk_simp [e]; rfl
  · blk_simp [e]; rfl
  · blk_simp [e]
  · blk_simp [e]

theorem blk_wg (c : Dev nD) (t : Fin cfg0.N) (d b : Fin 1024) : (iblk m c 8 t (ix3 0 d b) : EReal) = argWG m c (ix3 1 d b) := by
  have e := index_wg t
  refine Eq.trans (b := (V m c main_v5 : S2x1024x1024.Idx → EReal) (ix3 1 d b)) ?_ (congrFun (host_wg m c) _)
  blk_simp [iblk]
  refine congrArg (V m c main_v5 : S2x1024x1024.Idx → EReal) (funext fun d => Fin.ext ?_)
  fin_cases d
  · blk_simp [e]; rfl
  · blk_simp [e]
  · blk_simp [e]

theorem blk_wp (c : Dev nD) (t : Fin cfg0.N) (f : Fin 256) (b : Fin 1024) : (iblk m c 9 t (ix3 0 f b) : EReal) = argWP m c (ix3 1 f b) := by
  have e := index_wp t
  refine Eq.trans (b := (V m c main_v6 : S2x256x1024.Idx → EReal) (ix3 1 f b)) ?_ (congrFun (host_wp m c) _)
  blk_simp [iblk]
  refine congrArg (V m c main_v6 : S2x256x1024.Idx → EReal) (funext fun d => Fin.ext ?_)
  fin_cases d
  · blk_simp [e]; rfl
  · blk_simp [e]
  · blk_simp [e]

theorem blk_g (c : Dev nD) (t : Fin cfg0.N) (k : Fin 1024) : (iblk m c 3 t (ix4 0 0 0 k) : EReal) = argG m c (ix3 1 1 k) := by
  have e := index_g t
  refine Eq.trans (b := (V m c main_v3 : S2x2x1x1024.Idx → EReal) (ix4 1 1 0 k)) ?_ ?_
  · blk_simp [iblk]
    refine congrArg (V m c main_v3 : S2x2x1x1024.Idx → EReal) (funext fun d => Fin.ext ?_)
    fin_cases d
    · blk_simp [e]; rfl
    · blk_simp [e]; rfl
    · blk_simp [e]
    · blk_simp [e]
  · rw [host_g]
    refine shapeCast_apply (argG m c) shapeCasts_S2x2x1024_S2x2x1x1024 (ix4 1 1 0 k) (ix3 1 1 k) ?_
    rw [Shape.rowMajor_val_four, Shape.rowMajor_val_three]
    show (1 * 2 + 1) * 1024 + k.val = ((1 * 2 + 1) * 1 + 0) * 1024 + k.val
    omega

theorem blk_gp (c : Dev nD) (t : Fin cfg0.N) (k : Fin 1024) : (iblk m c 7 t (ix3 0 0 k) : EReal) = argGP m c (ix2 1 k) := by
  have e := index_gp t
  refine Eq.trans (b := (V m c main_v4 : S2x1x1024.Idx → EReal) (ix3 1 0 k)) ?_ ?_
  · blk_simp [iblk]
    refine congrArg (V m c main_v4 : S2x1x1024.Idx → EReal) (funext fun d => Fin.ext ?_)
    fin_cases d
    · blk_simp [e]; rfl
    · blk_simp [e]
    · blk_simp [e]
  · rw [host_gp]
    refine shapeCast_apply (argGP m c) shapeCasts_S2x1024_S2x1x1024 (ix3 1 0 k) (ix2 1 k) ?_
    rw [Shape.rowMajor_val_three, Shape.rowMajor_val_two]
    show 1 * 1024 + k.val = (1 * 1 + 0) * 1024 + k.val
    omega

theorem blk_gf (c : Dev nD) (t : Fin cfg0.N) (k : Fin 1024) : (iblk m c 10 t (ix2 0 k) : EReal) = argGF m c (ix1 k) := by
  have e := index_gf t
  refine Eq.trans (b := (V m c main_v7 : S1x1024.Idx → EReal) (ix2 0 k)) ?_ ?_
  · blk_simp [iblk]
    refine congrArg (V m c main_v7 : S1x1024.Idx → EReal) (funext fun d => Fin.ext ?_)
    fin_cases d
    · blk_simp [e]
    · blk_simp [e]
  · rw [host_gf]
    refine shapeCast_apply (argGF m c) shapeCasts_S1024_S1x1024 (ix2 0 k) (ix1 k) ?_
    rw [Shape.rowMajor_val_two, Shape.rowMajor_val_one]
    show k.val = 0 * 1024 + k.val
    omega

theorem blk_o (c : Dev nD) (t : Fin cfg0.N) (j : Fin 2816) (b : Fin 1024) : (outAt (iblk m c 5 t) j b : EReal) = argO m c (ix4 1 1 j b) := by
  have e := index_o t
  have hj := j.isLt
  unfold outAt
  refine Eq.trans (b := (V m c main_v2 : S2x2x11x256x1024.Idx → EReal) (ix5 1 1 ⟨j.val / 256, by omega⟩ ⟨j.val % 256, Nat.mod_lt _ (by decide)⟩ b)) ?_ ?_
  · blk_simp [iblk]
    refine congrArg (V m c main_v2 : S2x2x11x256x1024.Idx → EReal) (funext fun d => Fin.ext ?_)
    fin_cases d
    · blk_simp [e]; rfl
    · blk_simp [e]; rfl
    · blk_simp [e]
    · blk_simp [e]
    · blk_simp [e]
  · rw [host_o]
    refine shapeCast_apply (argO m c) shapeCasts_S2x2x2816x1024_S2x2x11x256x1024 _ (ix4 1 1 j b) ?_
    rw [Shape.rowMajor_val_four, Shape.rowMajor_val_five]
    show ((1 * 2 + 1) * 2816 + j.val) * 1024 + b.val = (((1 * 2 + 1) * 11 + j.val / 256) * 256 + j.val % 256) * 1024 + b.val
    omega

/-! ## The array -/

/-- The result of the program's arguments. -/
def out (c : Dev nD) : (⟨2, ![16384, 1024]⟩ : Shape).Idx → EReal :=
  Whole.result (argX m c) (argA m c) (argP m c) (argG m c) (argI m c) (argO m c) (argGP m c) (argWG m c) (argWP m c) (argWO m c) (argGF m c)

theorem tile_at (c : Dev nD) (t : Fin cfg0.N) (a b : Fin 1024) : (outsAt0 m c t (ix2 a b) : EReal) = out m c (ix2 (tileRow t.val a) b) := by
  unfold outsAt0
  rw [out_eq]
  refine (postT_at (iblk m c 0 t) (iblk m c 1 t) (iblk m c 2 t) (iblk m c 3 t) (iblk m c 4 t) (iblk m c 5 t) (iblk m c 6 t) (iblk m c 7 t) (iblk m c 8 t) (iblk m c 9 t) (iblk m c 10 t) a b).trans ?_
  simp only [blk_x, blk_a, blk_wo, blk_g, blk_i, blk_p, blk_gp, blk_wg, blk_wp, blk_gf]
  rw [show outAt (iblk m c 5 t) = fun j b => argO m c (ix4 1 1 j b) from funext fun j => funext fun b => blk_o m c t j b]
  rfl

theorem final (c : Dev nD) : (dats m 0 c).arrAt 11 cfg0.N = out m c := by
  refine (dats m 0 c).arrAt_eq_of_covers 11 _ (by decide +kernel) fun t hf y => ?_
  have hN := N_eq
  have e := index_r t
  have h1 : t.val % 16 = t.val := Nat.mod_eq_of_lt (hN ▸ t.isLt)
  blk_simp
  rw [after0_11]
  obtain ⟨a, b, rfl⟩ : ∃ (a b : Fin 1024), y = ix2 a b := ⟨y 0, y 1, eq_ix2 y⟩
  refine (tile_at m c t a b).trans (congrArg (out m c) (funext fun d => Fin.ext ?_))
  fin_cases d
  · blk_simp [e]; simp [tileRow, h1]
  · blk_simp [e]

end Cert.Kernel4Ideal.Post

end
-- ==== Proof.Post.Sample.Claim.lean ====
/- The claims about what follows the last attention, for the second batch: the reference's frame, and that the kernel's result is the
   reference's. -/
module

public import proofs.«01_k».proof.Defs
public import proofs.«01_k».proof.Proof.Post.Sample.Run
public import proofs.«01_k».proof.Proof.Gen.Kernel4Ideal.Value
public import proofs.«01_k».proof.Proof.Post.Sample.Array
public import Idealize.ShloMosaic.Lib.Quiescent

@[expose] public section

noncomputable section

namespace Cert.Post.Sample

open Idealize.ShloMosaic Idealize.ShloMosaic.TcCoe Idealize.ShloMosaic.ValueIdx Idealize.SL.Sem

/-- The reference's frame. -/
theorem reference_frame : Cert.quiescent_Reference4Ideal := fun m ρ _ =>
  (θ_run _ _ _).mono (fun _ h => ⟨fun c => (h c).2, sem_eq_zero_of_no_sems rfl _⟩) (Cert.Reference4Ideal.Post.run m ρ)

/-- The kernel's result is the reference's. -/
theorem algebraic : Cert.algebraic_Kernel4Ideal_Reference4Ideal := by
  intro m g m' g' hpre hargs
  refine ⟨fun c => (Cert.Kernel4Ideal.Gen.dats m 0 c).arrAt 11 Cert.Kernel4Ideal.cfg0.N, Cert.Kernel4Ideal.Value.run_blocks m g, ?_⟩
  refine (θ_run _ _ _).mono (fun r h c => ⟨(h c).1.trans ?_, (h c).2⟩) (Cert.Reference4Ideal.Post.run m' g')
  obtain ⟨e0, e1, e2, e3, e4, e5, e6, e7, e8, e9, e10⟩ := hargs c
  rw [e0, e1, e2, e3, e4, e5, e6, e7, e8, e9, e10]
  exact (Whole.postW_eq _ _ _ _ _ _ _ _ _ _ _ _).trans (Cert.Kernel4Ideal.Post.final m c).symm

end Cert.Post.Sample

end
-- ==== Proof.Gla.Value.lean ====
/- The projections of the gated linear mixer as plain sums: a row's normalised coordinates against the columns of the first
   weight, and the two decays, each a product of a 16-column slice with a second weight, a bias, and the logarithm of the
   logistic over 16. -/
module

public import proofs.«01_k».proof.Proof.Ffn.TileAt

@[expose] public section

noncomputable section

namespace Cert.Gla

open Idealize.ShloMosaic Idealize.ShloMosaic.ValueIdx
open Cert.Ffn (normAt)
open scoped BigOperators

/-- The constants 0.0883883461, 0, 1 and 16 as the programs hold them. -/
abbrev scale : EReal := Ideal.ofBits .f32 0x3DB504F3#32
abbrev nought : EReal := Ideal.ofBits .f32 0x00000000#32
abbrev one : EReal := Ideal.ofBits .f32 0x3F800000#32
abbrev sixteen : EReal := Ideal.ofBits .f32 0x41800000#32

/-- The logarithm of the logistic over 16, as the kernel writes it. -/
def decayOf (z : EReal) : EReal := Ideal.div (min z nought - Ideal.log (one + Ideal.exp (nought - max z (-z)))) sixteen

/-- The same as the reference writes it: minus the softplus of `-z`. -/
def softOf (z : EReal) : EReal :=
  Ideal.div (-(max (-z) nought + Ideal.log1p (Ideal.exp (-(max (-z - nought) (-(-z - nought))))))) sixteen

theorem nought_eq : nought = 0 := Ideal.ofBits_zero_f32
theorem one_eq : one = 1 := by
  show Ideal.ofBits .f32 0x3F800000#32 = _
  simp [Ideal.ofBits, Ideal.ieee]
  rw [← EReal.coe_mul]
  norm_num

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- The logarithm of 1 plus a real exponential is real. -/
theorem log_real (s : ℝ) : Ideal.log (1 + Ideal.exp (s : EReal)) = ((Real.log (1 + Real.exp s) : ℝ) : EReal) := by
  have h : ¬ (1 + Real.exp s ≤ 0) := not_le.2 (by have := Real.exp_pos s; linarith)
  show Ideal.log (((1 : ℝ) : EReal) + ((Real.exp s : ℝ) : EReal)) = _
  rw [← EReal.coe_add]
  exact if_neg h

theorem exp_bot : Ideal.exp ⊥ = 0 := rfl
theorem log_one : Ideal.log 1 = 0 := by
  show (if (1 : ℝ) ≤ 0 then (⊥ : EReal) else ((Real.log 1 : ℝ) : EReal)) = 0
  rw [if_neg (by norm_num), Real.log_one]
  rfl

/-- The two are one function. -/
theorem soft_eq (z : EReal) : softOf z = decayOf z := by
  unfold softOf decayOf Ideal.log1p
  rw [nought_eq, one_eq, sub_zero, neg_neg, zero_sub, max_comm (-z) z]
  refine congrArg (fun v : EReal => Ideal.div v sixteen) ?_
  induction z with
  | bot => simp [log_one, exp_bot]
  | top => simp [log_one, exp_bot]
  | coe r =>
    rw [show -(max (r : EReal) (-(r : EReal))) = ((-(max r (-r)) : ℝ) : EReal) from by
      rw [EReal.coe_neg, coe_max, EReal.coe_neg], log_real]
    rw [show max (-(r : EReal)) 0 = ((max (-r) 0 : ℝ) : EReal) from by rw [coe_max, EReal.coe_neg, EReal.coe_zero],
      show min (r : EReal) 0 = ((min r 0 : ℝ) : EReal) from by rw [coe_min, EReal.coe_zero],
      ← EReal.coe_add, ← EReal.coe_neg, ← EReal.coe_sub]
    refine congrArg _ ?_
    rcases le_total r 0 with h | h
    · rw [max_eq_left (by linarith), min_eq_left h]; ring
    · rw [max_eq_right (by linarith), min_eq_right h]; ring

/-- A sum over 128 columns whose terms vanish outside 16 of them. -/
theorem sum_sixteen (s : ℕ) (hs : s + 16 ≤ 128) (f : Fin 128 → EReal) (g : Fin 16 → EReal)
    (hit : ∀ j : Fin 16, f ⟨s + j.val, by have := j.isLt; omega⟩ = g j)
    (miss : ∀ l : Fin 128, ¬ (s ≤ l.val ∧ l.val < s + 16) → f l = 0) : ∑ l, f l = ∑ j, g j := by
  refine (Fintype.sum_of_injective (fun j : Fin 16 => (⟨s + j.val, by have := j.isLt; omega⟩ : Fin 128)) (fun a b h => ?_) g f (fun l hl => ?_)
    (fun j => (hit j).symm)).symm
  · have e : s + a.val = s + b.val := congrArg Fin.val h
    exact Fin.ext (by omega)
  · refine miss l fun h => hl ⟨⟨l.val - s, by omega⟩, Fin.ext ?_⟩
    show s + (l.val - s) = l.val
    omega

/-- A row's normalised coordinates against column `c` of the first weight. -/
def projAt (x g : Fin 1024 → EReal) (w : Fin 1024 → Fin 3104 → EReal) (c : Fin 3104) : EReal := ∑ d, normAt x g d * w d c

/-- Column number `n` of the first weight. -/
def col (n : ℕ) : Fin 3104 := ⟨n % 3104, Nat.mod_lt _ (by decide)⟩

/-- A decay of a row: the 16 columns from `s`, times the second weight, plus the bias. -/
def gateAt (x g : Fin 1024 → EReal) (w : Fin 1024 → Fin 3104 → EReal) (s : ℕ) (u : Fin 16 → Fin 512 → EReal) (b : Fin 512 → EReal) (c : Fin 512) : EReal :=
  decayOf ((∑ j : Fin 16, projAt x g w (col (s + j.val)) * u j c) + b c)

end Cert.Gla

end
-- ==== Proof.Gla.TileAt.lean ====
/- What the projection kernel leaves in its six output blocks, read at an index at the ideal values. -/
module

public import proofs.«01_k».proof.Proof.Gen.Kernel5Ideal.Frame
public import proofs.«01_k».proof.Proof.Gla.Value

@[expose] public section

noncomputable section

namespace Cert.Kernel5Ideal.Gla

open Idealize.ShloMosaic Idealize.ShloMosaic.ValueIdx
open Cert.Gla Cert.Kernel5Ideal.Gen
open Cert.Ffn (normAt normT normT_at)
open scoped BigOperators

/-- 1024 rows times a matrix, from zero, is the sum over the inner axis. -/
theorem product_at {K N : ℕ} (y : FVec Ideal ⟨2, ![1024, K]⟩ .bf16) (w : Vec Ideal ⟨2, ![K, N]⟩ .bf16)
    (h : (⟨2, ![K, N]⟩ : Shape).ShapeCasts ⟨2, ![K, N]⟩) (a : Fin 1024) (r : Fin N) :
    (matmul (F := Ideal) (φ₁ := .bf16) (φ₂ := .bf16) (DotDims.plain 1024 K N) none y (shapeCast ⟨2, ![K, N]⟩ w h)
      (constant ⟨2, ![1024, N]⟩ .f32 0x00000000#32) (ix2 a r) : EReal) = ∑ d : Fin K, (y (ix2 a d) : EReal) * (w (ix2 d r) : EReal) := by
  simp only [matmul]
  refine (Ideal.matmul_plain_apply (M := 1024) (K := K) (N := N) none _ _ _ a r).trans ?_
  have hz : (constant (F := Ideal) ⟨2, ![1024, N]⟩ .f32 0x00000000#32 (ix2 a r) : EReal) = 0 := Ideal.ofBits_zero_f32
  rw [hz, zero_add]
  exact Finset.sum_congr rfl fun d _ => congrArg (fun v : EReal => (y (ix2 a d) : EReal) * v) (shapeCast_apply w h _ _ rfl)

variable (x : Vec Ideal S1024x1024 .f32) (g : Vec Ideal S1x1024 .f32) (w : Vec Ideal S1024x3072 .bf16) (lo : Vec Ideal S1024x128 .bf16)
  (up : Vec Ideal S128x1024 .bf16) (bias : Vec Ideal S1x1024 .f32)

theorem zeros : (![0, 0] : Fin 2 → ℕ) = fun _ => 0 := funext fun a => match a with | ⟨0, _⟩ => rfl | ⟨1, _⟩ => rfl

/-- The normalised rows. -/
theorem norm_at (a d : Fin 1024) : (k0_pay3 x g (ix2 a d) : EReal) = normAt (fun k => x (ix2 a k)) (fun k => g (ix2 0 k)) d := by
  refine Eq.trans (b := (normT (F := Ideal) x (shapeCast S1x1024 g shapeCasts_S1x1024_S1x1024) (ix2 a d) : EReal)) rfl ((normT_at x _ a d).trans ?_)
  exact congrArg (fun s => normAt (fun k => x (ix2 a k)) s d) (funext fun k => shapeCast_apply g shapeCasts_S1x1024_S1x1024 _ _ rfl)

/-- The normalised rows against a column of a weight. -/
def dotAt {N : ℕ} (v : Vec Ideal ⟨2, ![1024, N]⟩ .bf16) (a : Fin 1024) (c : Fin N) : EReal :=
  ∑ d, normAt (fun k => x (ix2 a k)) (fun k => g (ix2 0 k)) d * v (ix2 d c)

theorem wide_at {N : ℕ} (v : Vec Ideal ⟨2, ![1024, N]⟩ .bf16) (h : (⟨2, ![1024, N]⟩ : Shape).ShapeCasts ⟨2, ![1024, N]⟩) (a : Fin 1024) (r : Fin N) :
    (matmul (F := Ideal) (φ₁ := .bf16) (φ₂ := .bf16) (DotDims.plain 1024 1024 N) none (k0_pay3 x g) (shapeCast ⟨2, ![1024, N]⟩ v h)
      (constant ⟨2, ![1024, N]⟩ .f32 0x00000000#32) (ix2 a r) : EReal) = dotAt x g v a r := by
  refine (product_at _ v h a r).trans (Finset.sum_congr rfl fun d _ => ?_)
  rw [norm_at]

theorem cols_at {K M N off : ℕ} (v : Vec Ideal ⟨2, ![K, M]⟩ .bf16) (inb : ∀ a, (![0, off] : Fin 2 → ℕ) a + (![K, N] : Fin 2 → ℕ) a ≤ (⟨2, ![K, M]⟩ : Shape).size a)
    (d : Fin K) (r : Fin N) (c : Fin M) (hc : c.val = off + r.val) :
    (View.ld v (Rect.unit ![0, off] ![K, N] inb) (ix2 d r) : EReal) = v (ix2 d c) := by
  refine View.ld_unit_apply_of _ _ _ _ _ _ fun a => ?_
  match a with
  | ⟨0, _⟩ => exact (Nat.zero_add _).symm
  | ⟨1, _⟩ => exact hc

theorem dot_cols {N off : ℕ} (inb : ∀ a, (![0, off] : Fin 2 → ℕ) a + (![1024, N] : Fin 2 → ℕ) a ≤ (⟨2, ![1024, 3072]⟩ : Shape).size a)
    (a : Fin 1024) (r : Fin N) (c : Fin 3072) (hc : c.val = off + r.val) :
    dotAt (N := N) x g (View.ld w (Rect.unit ![0, off] ![1024, N] inb)) a r = dotAt x g w a c :=
  Finset.sum_congr rfl fun d _ => congrArg (fun v : EReal => _ * v) (cols_at w inb d r c hc)

theorem q_at (a : Fin 1024) (r : Fin 512) (c : Fin 3072) (hc : c.val = r.val) :
    (out0_6 x g w lo up bias (ix2 a r) : EReal) = dotAt x g w a c * scale := by
  have e : out0_6 x g w lo up bias = _ := View.canon_unit_zero zeros _ _
  rw [e, View.ld_unit_zero zeros, View.ld_unit_zero zeros]
  exact congrArg (fun v : EReal => v * scale)
    ((wide_at x g (View.ld w r0_3) shapeCasts_S1024x512_S1024x512 a r).trans (dot_cols x g w _ a r c (by omega)))

theorem k_at (a : Fin 1024) (r : Fin 512) (c : Fin 3072) (hc : c.val = 512 + r.val) :
    (out0_7 x g w lo up bias (ix2 a r) : EReal) = dotAt x g w a c := by
  have e : out0_7 x g w lo up bias = _ := View.canon_unit_zero zeros _ _
  rw [e]
  unfold k0_pay15
  rw [View.ld_unit_zero zeros, View.ld_unit_zero zeros]
  exact (wide_at x g (View.ld w r0_7) shapeCasts_S1024x512_S1024x512 a r).trans (dot_cols x g w _ a r c hc)

theorem v_at (a : Fin 1024) (r : Fin 1024) (c : Fin 3072) (hc : c.val = 1024 + r.val) :
    (out0_8 x g w lo up bias (ix2 a r) : EReal) = dotAt x g w a c := by
  have e : out0_8 x g w lo up bias = _ := View.canon_unit_zero zeros _ _
  rw [e]
  unfold k0_pay15
  rw [View.ld_unit_zero zeros, View.ld_unit_zero zeros]
  exact (wide_at x g (View.ld w r0_8) shapeCasts_S1024x1024_S1024x1024 a r).trans (dot_cols x g w _ a r c hc)

theorem r_at (a : Fin 1024) (r : Fin 1024) (c : Fin 3072) (hc : c.val = 2048 + r.val) :
    (out0_9 x g w lo up bias (ix2 a r) : EReal) = dotAt x g w a c := by
  have e : out0_9 x g w lo up bias = _ := View.canon_unit_zero zeros _ _
  rw [e]
  unfold k0_pay15
  rw [View.ld_unit_zero zeros, View.ld_unit_zero zeros]
  exact (wide_at x g (View.ld w r0_11) shapeCasts_S1024x1024_S1024x1024 a r).trans (dot_cols x g w _ a r c hc)

/-- The decay's argument from its blocks: 128 columns against the second weight, plus the bias. -/
def argAt (a : Fin 1024) (c : Fin 1024) : EReal := (∑ l : Fin 128, dotAt x g lo a l * up (ix2 l c)) + bias (ix2 0 c)

theorem low_at (a : Fin 1024) (l : Fin 128) : (k0_pay4 x g lo (ix2 a l) : EReal) = dotAt x g lo a l :=
  wide_at x g lo shapeCasts_S1024x128_S1024x128 a l

theorem arg_at (y : FVec Ideal S1024x128 .bf16) (hy : ∀ a l, (y (ix2 a l) : EReal) = dotAt x g lo a l) {off : ℕ}
    (inb : ∀ a, (![0, off] : Fin 2 → ℕ) a + (![128, 512] : Fin 2 → ℕ) a ≤ (⟨2, ![128, 1024]⟩ : Shape).size a)
    (inb' : ∀ a, (![0, off] : Fin 2 → ℕ) a + (![1, 512] : Fin 2 → ℕ) a ≤ (⟨2, ![1, 1024]⟩ : Shape).size a)
    (a : Fin 1024) (r : Fin 512) (c : Fin 1024) (hc : c.val = off + r.val) :
    (k0_pay12 y (View.ld up (Rect.unit ![0, off] ![128, 512] inb)) (View.ld bias (Rect.unit ![0, off] ![1, 512] inb')) (ix2 a r) : EReal)
      = argAt x g lo up bias a c := by
  refine congrArg₂ (fun s t : EReal => s + t) ((product_at y _ shapeCasts_S128x512_S128x512 a r).trans (Finset.sum_congr rfl fun l _ => ?_)) ?_
  · exact congrArg₂ (fun s t : EReal => s * t) (hy a l) (cols_at up inb l r c hc)
  · refine (broadcastTo_apply (s := S1x512) (t := S1024x512) _ broadcasts_S1x512_S1024x512 (ix2 a r) (ix2 0 r)
      fun d => match d with | ⟨0, _⟩ => rfl | ⟨1, _⟩ => rfl).trans ((shapeCast_apply _ shapeCasts_S1x512_S1x512 (ix2 0 r) (ix2 0 r) rfl).trans ?_)
    refine View.ld_unit_apply_of _ _ _ _ _ _ fun d => ?_
    match d with
    | ⟨0, _⟩ => rfl
    | ⟨1, _⟩ => exact hc

theorem forward_at (a : Fin 1024) (r : Fin 512) (c : Fin 1024) (hc : c.val = r.val) :
    (out0_10 x g w lo up bias (ix2 a r) : EReal) = decayOf (argAt x g lo up bias a c) := by
  have e : out0_10 x g w lo up bias = _ := View.canon_unit_zero zeros _ _
  rw [e, View.ld_unit_zero zeros, View.ld_unit_zero zeros, View.ld_unit_zero zeros]
  exact congrArg decayOf (arg_at x g lo up bias (k0_pay4 x g lo) (low_at x g lo) inb_S128x1024_S128x512_0_0 inb_S1x1024_S1x512_0_0 a r c (by omega))

theorem backward_at (a : Fin 1024) (r : Fin 512) (c : Fin 1024) (hc : c.val = 512 + r.val) :
    (out0_11 x g w lo up bias (ix2 a r) : EReal) = decayOf (argAt x g lo up bias a c) := by
  have e : out0_11 x g w lo up bias = _ := View.canon_unit_zero zeros _ _
  rw [e]
  unfold k0_pay16
  rw [View.ld_unit_zero zeros, View.ld_unit_zero zeros, View.ld_unit_zero zeros]
  exact congrArg decayOf (arg_at x g lo up bias (k0_pay4 x g lo) (low_at x g lo) inb_S128x1024_S128x512_0_512 inb_S1x1024_S1x512_0_512 a r c hc)

end Cert.Kernel5Ideal.Gla

end
-- ==== Proof.Gla.Scatter.lean ====
/- The decays' second weights as the host lays them out: 16 by 512 entries written into a 128 by 1024 matrix at a row and a
   column. -/
module

public import proofs.«01_k».proof.Proof.Gen.Kernel5Ideal.Launch
public import Idealize.ShloMosaic.Lib.Routing.OpsSet
public import Idealize.ShloMosaic.Lib.ValueLayout

@[expose] public section

noncomputable section

namespace Cert.Kernel5Ideal.Gla

open Idealize.ShloMosaic Idealize.ShloMosaic.ValueIdx
open Cert.Kernel5Ideal.Gen

abbrev dims := scatter_S1x128x1024_S2_S1x16x512_012_n_12_0

/-- An update lands at its own place moved by the two index words. -/
theorem lands (k : S1x16x512.Idx) (idx : IVec S2 32) (p q : ℕ) (hp : (idx (ix1 0)).toInt = (p : Int)) (hq : (idx (ix1 1)).toInt = (q : Int))
    (r : Fin 128) (c : Fin 1024) : dims.resultIdx? k idx = some (ix3 0 r c) ↔ p + (k 1).val = r.val ∧ q + (k 2).val = c.val := by
  have s0 : dims.start k idx 0 = 0 := by unfold ScatterDims.start; exact dif_neg (by decide)
  have s1 : dims.start k idx 1 = (p : Int) := by
    unfold ScatterDims.start
    rw [dif_pos (by decide)]
    refine Eq.trans (congrArg (fun i => (idx i).toInt) (funext fun b => ?_)) hp
    match b with
    | ⟨0, _⟩ => rfl
  have s2 : dims.start k idx 2 = (q : Int) := by
    unfold ScatterDims.start
    rw [dif_pos (by decide)]
    refine Eq.trans (congrArg (fun i => (idx i).toInt) (funext fun b => ?_)) hq
    match b with
    | ⟨0, _⟩ => rfl
  have w0 : dims.window k 0 = (k 0).val := by unfold ScatterDims.window; exact dif_pos (by decide)
  have w1 : dims.window k 1 = (k 1).val := by unfold ScatterDims.window; exact dif_pos (by decide)
  have w2 : dims.window k 2 = (k 2).val := by unfold ScatterDims.window; exact dif_pos (by decide)
  have k0 : (k 0).val = 0 := by have h : (k 0).val < 1 := (k 0).isLt; omega
  rw [Routing.resultIdx?_eq_some]
  constructor
  · intro h
    have h1 := h 1
    have h2 := h 2
    rw [s1, w1] at h1
    rw [s2, w2] at h2
    change (p : Int) + ((k 1).val : Int) = ((r.val : ℕ) : Int) at h1
    change (q : Int) + ((k 2).val : Int) = ((c.val : ℕ) : Int) at h2
    omega
  · rintro ⟨h1, h2⟩ a
    match a with
    | ⟨0, _⟩ => exact (congrArg₂ (fun (u : Int) (v : ℕ) => u + (v : Int)) s0 (w0.trans k0)).trans rfl
    | ⟨1, _⟩ =>
      refine (congrArg₂ (fun (u : Int) (v : ℕ) => u + (v : Int)) s1 w1).trans ?_
      show (p : Int) + ((k 1).val : Int) = ((r.val : ℕ) : Int)
      omega
    | ⟨2, _⟩ =>
      refine (congrArg₂ (fun (u : Int) (v : ℕ) => u + (v : Int)) s2 w2).trans ?_
      show (q : Int) + ((k 2).val : Int) = ((c.val : ℕ) : Int)
      omega

variable {α : Type} (x : S1x128x1024.Idx → α) (idx : IVec S2 32) (u : S1x16x512.Idx → α) (p q : ℕ)
  (hp : (idx (ix1 0)).toInt = (p : Int)) (hq : (idx (ix1 1)).toInt = (q : Int))

include hp hq

/-- Inside the written block the matrix holds the update. -/
theorem set_hit (j : Fin 16) (e : Fin 512) (r : Fin 128) (c : Fin 1024) (hr : r.val = p + j.val) (hc : c.val = q + e.val) :
    Host.scatter dims (fun _ b => b) x idx u (ix3 0 r c) = u (ix3 0 j e) := by
  refine Routing.scatter_set_hit dims x idx u (ix3 0 r c) _ (fun k hk => congrArg u (funext fun a => Fin.ext ?_)) (ix3 0 j e)
    ((lands _ idx p q hp hq r c).2 ⟨hr.symm, hc.symm⟩)
  obtain ⟨h1, h2⟩ := (lands k idx p q hp hq r c).1 hk
  match a with
  | ⟨0, _⟩ => have h : (k 0).val < 1 := (k 0).isLt; show (k 0).val = 0; omega
  | ⟨1, _⟩ => show (k 1).val = j.val; omega
  | ⟨2, _⟩ => show (k 2).val = e.val; omega

/-- Outside it, what was there. -/
theorem set_miss (r : Fin 128) (c : Fin 1024) (h : ¬ ((p ≤ r.val ∧ r.val < p + 16) ∧ (q ≤ c.val ∧ c.val < q + 512))) :
    Host.scatter dims (fun _ b => b) x idx u (ix3 0 r c) = x (ix3 0 r c) := by
  refine Routing.scatter_set_miss dims x idx u (ix3 0 r c) fun k hk => h ?_
  obtain ⟨h1, h2⟩ := (lands k idx p q hp hq r c).1 hk
  have l1 : (k 1).val < 16 := (k 1).isLt
  have l2 : (k 2).val < 512 := (k 2).isLt
  omega

end Cert.Kernel5Ideal.Gla

end
-- ==== Proof.Gla.Weights.lean ====
/- The weights of the projection kernel as its host prepares them, read at an index. -/
module

public import proofs.«01_k».proof.Proof.Gen.Kernel5Ideal.Frame
public import proofs.«01_k».proof.Proof.Gla.Scatter
public import proofs.«01_k».proof.Proof.Gla.Value
public import Idealize.ShloMosaic.Lib.KernelVsHost
public import Idealize.ShloMosaic.Lib.StableHlo.RunRead

@[expose] public section

noncomputable section

namespace Cert.Kernel5Ideal.Gla

open Idealize.ShloMosaic Idealize.ShloMosaic.TcCoe Idealize.ShloMosaic.ValueIdx
open Idealize.SL Idealize.SL.Sem
open Cert.Gla Cert.Kernel5Ideal.Gen
open scoped BigOperators

variable (m : (ℓ : Loc nD τ sig) → Buf (Elt Ideal) ℓ)

/-- The seven argument arrays. -/
def argX (c : Dev nD) : (⟨2, ![65536, 1024]⟩ : Shape).Idx → EReal := m ((c.tc : Thread nD τ).loc main_arg0)
def argG (c : Dev nD) : (⟨2, ![2, 1024]⟩ : Shape).Idx → EReal := m ((c.tc : Thread nD τ).loc main_arg1)
def argW (c : Dev nD) : (⟨3, ![1, 1024, 3104]⟩ : Shape).Idx → EReal := m ((c.tc : Thread nD τ).loc main_arg2)
def argF (c : Dev nD) : (⟨3, ![1, 16, 512]⟩ : Shape).Idx → EReal := m ((c.tc : Thread nD τ).loc main_arg3)
def argFb (c : Dev nD) : (⟨2, ![1, 512]⟩ : Shape).Idx → EReal := m ((c.tc : Thread nD τ).loc main_arg4)
def argB (c : Dev nD) : (⟨3, ![1, 16, 512]⟩ : Shape).Idx → EReal := m ((c.tc : Thread nD τ).loc main_arg5)
def argBb (c : Dev nD) : (⟨2, ![1, 512]⟩ : Shape).Idx → EReal := m ((c.tc : Thread nD τ).loc main_arg6)

/-! ## The rows' scale and the wide weight -/

theorem host_g (c : Dev nD) : V m c main_v19 = shapeCast S1x1024 (extractStridedSlice S1x1x1024 ![0, 0, 0]
    (shapeCast S2x1x1024 (argG m c) shapeCasts_S2x1024_S2x1x1024) slices_S2x1x1024_S1x1x1024_0_0_0) shapeCasts_S1x1x1024_S1x1024 := rfl

theorem g_at (c : Dev nD) (k : Fin 1024) : ((V m c main_v19 : S1x1024.Idx → EReal) (ix2 0 k) : EReal) = argG m c (ix2 0 k) := by
  rw [host_g]
  refine (shapeCast_apply _ shapeCasts_S1x1x1024_S1x1024 (ix2 0 k) (ix3 0 0 k) ?_).trans
    ((extractStridedSlice_apply _ _ slices_S2x1x1024_S1x1x1024_0_0_0 (ix3 0 0 k) (ix3 0 0 k) fun a => ?_).trans
      (shapeCast_apply _ shapeCasts_S2x1024_S2x1x1024 (ix3 0 0 k) (ix2 0 k) ?_))
  · rw [Shape.rowMajor_val_two, Shape.rowMajor_val_three]
    show (0 * 1 + 0) * 1024 + k.val = 0 * 1024 + k.val
    omega
  · match a with
    | ⟨0, _⟩ => rfl
    | ⟨1, _⟩ => rfl
    | ⟨2, _⟩ => exact (Nat.zero_add _).symm
  · rw [Shape.rowMajor_val_two, Shape.rowMajor_val_three]
    show 0 * 1024 + k.val = (0 * 1 + 0) * 1024 + k.val
    omega

theorem host_w (c : Dev nD) : (V m c main_v20 : S1024x3072.Idx → EReal) = shapeCast S1024x3072 (extractStridedSlice S1x1024x3072 ![0, 0, 0] (argW m c)
    slices_S1x1024x3104_S1x1024x3072_0_0_0) shapeCasts_S1x1024x3072_S1024x3072 := rfl

theorem w_at (c : Dev nD) (d : Fin 1024) (j : Fin 3072) (q : Fin 3104) (hq : q.val = j.val) :
    ((V m c main_v20 : S1024x3072.Idx → EReal) (ix2 d j) : EReal) = argW m c (ix3 0 d q) := by
  rw [host_w]
  refine (shapeCast_apply _ shapeCasts_S1x1024x3072_S1024x3072 (ix2 d j) (ix3 0 d j) ?_).trans
    (extractStridedSlice_apply _ _ slices_S1x1024x3104_S1x1024x3072_0_0_0 (ix3 0 d j) (ix3 0 d q) fun a => ?_)
  · rw [Shape.rowMajor_val_two, Shape.rowMajor_val_three]
    show (0 * 1024 + d.val) * 3072 + j.val = d.val * 3072 + j.val
    omega
  · match a with
    | ⟨0, _⟩ => rfl
    | ⟨1, _⟩ => exact (Nat.zero_add _).symm
    | ⟨2, _⟩ => exact hq.trans (Nat.zero_add _).symm

/-! ## The narrow weight: 32 columns, then zeros -/

theorem host_lo (c : Dev nD) : (V m c main_v21 : S1024x128.Idx → EReal) = shapeCast S1024x128 (pad S1x1024x128 ![0, 0, 0] ![0, 0, 96] ![0, 0, 0]
    (extractStridedSlice S1x1024x32 ![0, 0, 3072] (argW m c) slices_S1x1024x3104_S1x1024x32_0_0_3072) (sitofp (F := Ideal) .f32 (constantI S_ 32 0#32))
    pads_S1x1024x32_S1x1024x128_000_000_0960 h_S_) shapeCasts_S1x1024x128_S1024x128 := rfl

theorem lo_at (c : Dev nD) (d : Fin 1024) (l : Fin 128) (hl : l.val < 32) (q : Fin 3104) (hq : q.val = 3072 + l.val) :
    ((V m c main_v21 : S1024x128.Idx → EReal) (ix2 d l) : EReal) = argW m c (ix3 0 d q) := by
  rw [host_lo]
  refine (shapeCast_apply _ shapeCasts_S1x1024x128_S1024x128 (ix2 d l) (ix3 0 d l) ?_).trans
    ((pad_apply_of_inside _ _ _ _ _ pads_S1x1024x32_S1x1024x128_000_000_0960 h_S_ (ix3 0 d l) (ix3 0 d (⟨l.val, hl⟩ : Fin 32)) fun a => ?_).trans
      (extractStridedSlice_apply _ _ slices_S1x1024x3104_S1x1024x32_0_0_3072 (ix3 0 d (⟨l.val, hl⟩ : Fin 32)) (ix3 0 d q) fun a => ?_))
  · rw [Shape.rowMajor_val_two, Shape.rowMajor_val_three]
    show (0 * 1024 + d.val) * 128 + l.val = d.val * 128 + l.val
    omega
  · match a with
    | ⟨0, _⟩ => rfl
    | ⟨1, _⟩ => show d.val = 0 + d.val * (0 + 1); omega
    | ⟨2, _⟩ => show l.val = 0 + l.val * (0 + 1); omega
  · match a with
    | ⟨0, _⟩ => rfl
    | ⟨1, _⟩ => exact (Nat.zero_add _).symm
    | ⟨2, _⟩ => exact hq

/-! ## The second weights: two blocks in a matrix of zeros -/

/-- Two index words. -/
abbrev words (p q : BitVec 32) : IVec S2 32 := concatenate S2 0 [⟨S1, broadcastInDim S1 ![] bcast_S_S1 (constantI S_ 32 p)⟩,
  ⟨S1, broadcastInDim S1 ![] bcast_S_S1 (constantI S_ 32 q)⟩] concatenates_S1_S1_S2_d0

theorem words_zero (p q : BitVec 32) : words p q (ix1 0) = p :=
  concatenate_pair_apply_left (t := S2) (s₁ := S1) (s₂ := S1) 0 _ _ concatenates_S1_S1_S2_d0 (ix1 0) rfl (ix1 0) fun d => match d with | ⟨0, _⟩ => rfl

theorem words_one (p q : BitVec 32) : words p q (ix1 1) = q :=
  concatenate_pair_apply_right (t := S2) (s₁ := S1) (s₂ := S1) 0 _ _ concatenates_S1_S1_S2_d0 (ix1 1) rfl rfl (ix1 0)
    (fun d hd => match d with | ⟨0, _⟩ => absurd rfl hd) rfl

/-- The matrix of zeros. -/
abbrev zeroT : FVec Ideal S1x128x1024 .f32 := broadcastInDim S1x128x1024 ![] bcast_S_S1x128x1024 (constant S_ .f32 0x00000000#32)

/-- Writing one block, as a function of the matrix, the words and the block. -/
abbrev writeT (x : FVec Ideal S1x128x1024 .f32) (i : IVec S2 32) (u : FVec Ideal S1x16x512 .f32) : FVec Ideal S1x128x1024 .f32 :=
  Host.scatter (α := Elt Ideal .f32) dims (fun _ b => b) x i u

/-- The host's operations, and what they leave after the first `n`. -/
abbrev hostLine : List (HloOp τ sig (Elt Ideal)) := List.flatten [hostOps0, hostOps0_1, hostOps0_2]
abbrev before (c : Dev nD) (n : ℕ) (b : Ref sig .tc) : Buf (Elt Ideal) ((c : Thread nD τ).loc b) := StableHlo.upto hostLine (fun b => m (c, b)) n b

theorem before_v6 (c : Dev nD) : before m c 15 main_v6 = zeroT := rfl
theorem before_v9 (c : Dev nD) : before m c 15 main_v9 = words 0#32 0#32 := rfl
theorem before_argF (c : Dev nD) : before m c 15 main_arg3 = argF m c := rfl
theorem before_v13 (c : Dev nD) : before m c 21 main_v13 = words 16#32 512#32 := rfl
theorem before_argB (c : Dev nD) : before m c 21 main_arg5 = argB m c := rfl

theorem before_v10 (c : Dev nD) : before m c 21 main_v10 = writeT zeroT (words 0#32 0#32) (argF m c) := by
  refine (StableHlo.upto_last_write (i := 15) [main_c_2, main_v11, main_c_3, main_v12, main_v13] rfl rfl (by decide) _).trans ?_
  refine (StableHlo.ternary_result ..).trans ?_
  exact congr (congr (congrArg writeT (before_v6 m c)) (before_v9 m c)) (before_argF m c)

theorem host_v14 (c : Dev nD) : V m c main_v14 = writeT (writeT zeroT (words 0#32 0#32) (argF m c)) (words 16#32 512#32) (argB m c) := by
  refine (StableHlo.after_last_write (i := 21) [main_v15, main_v16, main_v17, main_v18, main_v19, main_v20, main_v21, main_v22, main_v23] rfl rfl (by decide) _).trans ?_
  refine (StableHlo.ternary_result ..).trans ?_
  exact congr (congr (congrArg writeT (before_v10 m c)) (before_v13 m c)) (before_argB m c)

theorem host_up (c : Dev nD) : V m c main_v22 = shapeCast S128x1024 (truncf (F := Ideal) .bf16 (V m c main_v14) bitsLt_bf16_f32)
    shapeCasts_S1x128x1024_S128x1024 := rfl

theorem up_cast (c : Dev nD) (l : Fin 128) (e : Fin 1024) : ((V m c main_v22 : S128x1024.Idx → EReal) (ix2 l e) : EReal)
    = writeT (writeT zeroT (words 0#32 0#32) (argF m c)) (words 16#32 512#32) (argB m c) (ix3 0 l e) := by
  rw [host_up, host_v14]
  generalize writeT (writeT zeroT (words 0#32 0#32) (argF m c)) (words 16#32 512#32) (argB m c) = x
  refine (shapeCast_apply _ shapeCasts_S1x128x1024_S128x1024 (ix2 l e) (ix3 0 l e) ?_).trans rfl
  rw [Shape.rowMajor_val_two, Shape.rowMajor_val_three]
  show (0 * 128 + l.val) * 1024 + e.val = l.val * 1024 + e.val
  omega

theorem p0 (q : BitVec 32) : (words 0#32 q (ix1 0)).toInt = ((0 : ℕ) : Int) := by rw [words_zero]; rfl
theorem q0 (p : BitVec 32) : (words p 0#32 (ix1 1)).toInt = ((0 : ℕ) : Int) := by rw [words_one]; rfl
theorem p16 (q : BitVec 32) : (words 16#32 q (ix1 0)).toInt = ((16 : ℕ) : Int) := by rw [words_zero]; rfl
theorem q512 (p : BitVec 32) : (words p 512#32 (ix1 1)).toInt = ((512 : ℕ) : Int) := by rw [words_one]; rfl

theorem up_forward (c : Dev nD) (j : Fin 16) (r : Fin 512) (l : Fin 128) (e : Fin 1024) (hl : l.val = j.val) (he : e.val = r.val) :
    ((V m c main_v22 : S128x1024.Idx → EReal) (ix2 l e) : EReal) = argF m c (ix3 0 j r) := by
  have := r.isLt
  exact (up_cast m c l e).trans ((set_miss _ _ _ 16 512 (p16 _) (q512 _) l e (by omega)).trans
    (set_hit _ _ _ 0 0 (p0 _) (q0 _) j r l e (by omega) (by omega)))

theorem up_backward (c : Dev nD) (j : Fin 16) (r : Fin 512) (l : Fin 128) (e : Fin 1024) (hl : l.val = 16 + j.val) (he : e.val = 512 + r.val) :
    ((V m c main_v22 : S128x1024.Idx → EReal) (ix2 l e) : EReal) = argB m c (ix3 0 j r) :=
  (up_cast m c l e).trans (set_hit _ _ _ 16 512 (p16 _) (q512 _) j r l e hl he)

/-- Elsewhere it is 0: in the first 512 columns outside the first 16 rows, in the last 512 outside the next 16. -/
theorem up_zero (c : Dev nD) (l : Fin 128) (e : Fin 1024) (h : ¬ (l.val < 16 ∧ e.val < 512)) (h' : ¬ ((16 ≤ l.val ∧ l.val < 32) ∧ 512 ≤ e.val)) :
    ((V m c main_v22 : S128x1024.Idx → EReal) (ix2 l e) : EReal) = (0 : EReal) :=
  (up_cast m c l e).trans ((set_miss _ _ _ 16 512 (p16 _) (q512 _) l e (by omega)).trans
    ((set_miss _ _ _ 0 0 (p0 _) (q0 _) l e (by omega)).trans nought_eq))

/-! ## The biases side by side -/

theorem host_bias (c : Dev nD) : (V m c main_v23 : S1x1024.Idx → EReal) = shapeCast S1x1024 (shapeCast S1x1x1024
    (concatenate S1x1024 1 [⟨S1x512, argFb m c⟩, ⟨S1x512, argBb m c⟩] concatenates_S1x512_S1x512_S1x1024_d1) shapeCasts_S1x1024_S1x1x1024)
    shapeCasts_S1x1x1024_S1x1024 := rfl

theorem bias_cast (c : Dev nD) (e : Fin 1024) : ((V m c main_v23 : S1x1024.Idx → EReal) (ix2 0 e) : EReal)
    = concatenate S1x1024 1 [⟨S1x512, argFb m c⟩, ⟨S1x512, argBb m c⟩] concatenates_S1x512_S1x512_S1x1024_d1 (ix2 0 e) := by
  rw [host_bias]
  refine (shapeCast_apply _ shapeCasts_S1x1x1024_S1x1024 (ix2 0 e) (ix3 0 0 e) ?_).trans (shapeCast_apply _ shapeCasts_S1x1024_S1x1x1024 (ix3 0 0 e) (ix2 0 e) ?_)
  · rw [Shape.rowMajor_val_two, Shape.rowMajor_val_three]
    show (0 * 1 + 0) * 1024 + e.val = 0 * 1024 + e.val
    omega
  · rw [Shape.rowMajor_val_two, Shape.rowMajor_val_three]
    show 0 * 1024 + e.val = (0 * 1 + 0) * 1024 + e.val
    omega

theorem bias_forward (c : Dev nD) (r : Fin 512) (e : Fin 1024) (he : e.val = r.val) :
    ((V m c main_v23 : S1x1024.Idx → EReal) (ix2 0 e) : EReal) = argFb m c (ix2 0 r) :=
  (bias_cast m c e).trans (concatenate_pair_apply_left (t := S1x1024) (s₁ := S1x512) (s₂ := S1x512) 1 _ _ concatenates_S1x512_S1x512_S1x1024_d1 (ix2 0 e) rfl
    (ix2 0 r) fun d => match d with | ⟨0, _⟩ => rfl | ⟨1, _⟩ => he.symm)

theorem bias_backward (c : Dev nD) (r : Fin 512) (e : Fin 1024) (he : e.val = 512 + r.val) :
    ((V m c main_v23 : S1x1024.Idx → EReal) (ix2 0 e) : EReal) = argBb m c (ix2 0 r) :=
  (bias_cast m c e).trans (concatenate_pair_apply_right (t := S1x1024) (s₁ := S1x512) (s₂ := S1x512) 1 _ _ concatenates_S1x512_S1x512_S1x1024_d1 (ix2 0 e) rfl rfl
    (ix2 0 r) (fun d hd => match d with | ⟨0, _⟩ => rfl | ⟨1, _⟩ => absurd rfl hd) (by show r.val + 512 = e.val; omega))

end Cert.Kernel5Ideal.Gla

end
-- ==== Proof.Gla.Array.lean ====
/- The projection kernel's six result arrays at the ideal values: the block each point holds, and the results of every row. -/
module

public import proofs.«01_k».proof.Proof.Gla.TileAt
public import proofs.«01_k».proof.Proof.Gla.Weights
public import Idealize.ShloMosaic.Lib.Pipeline.ValueKit.Geometry

@[expose] public section

noncomputable section

namespace Cert.Kernel5Ideal.Gla

open Idealize.ShloMosaic Idealize.ShloMosaic.TcCoe Idealize.ShloMosaic.ValueIdx
open Idealize.SL Idealize.SL.Sem
open Cert.Gla Cert.Kernel5Ideal.Gen
open Cert.Ffn (normAt)
open scoped BigOperators

variable (m : (ℓ : Loc nD τ sig) → Buf (Elt Ideal) ℓ)

/-! ## The block a point holds -/

theorem N_eq : cfg0.N = 64 := N_0
theorem index_x : ∀ t : Fin cfg0.N, win0_0.index t = ![t.val, 0] := (by decide +kernel : ∀ t : Fin grid0.N, win0_0.index t = ![t.val, 0])
theorem index_g : ∀ t : Fin cfg0.N, win0_1.index t = ![0, 0] := (by decide +kernel : ∀ t : Fin grid0.N, win0_1.index t = ![0, 0])
theorem index_w : ∀ t : Fin cfg0.N, win0_2.index t = ![0, 0] := (by decide +kernel : ∀ t : Fin grid0.N, win0_2.index t = ![0, 0])
theorem index_lo : ∀ t : Fin cfg0.N, win0_3.index t = ![0, 0] := (by decide +kernel : ∀ t : Fin grid0.N, win0_3.index t = ![0, 0])
theorem index_up : ∀ t : Fin cfg0.N, win0_4.index t = ![0, 0] := (by decide +kernel : ∀ t : Fin grid0.N, win0_4.index t = ![0, 0])
theorem index_bias : ∀ t : Fin cfg0.N, win0_5.index t = ![0, 0] := (by decide +kernel : ∀ t : Fin grid0.N, win0_5.index t = ![0, 0])
theorem index_q : ∀ t : Fin cfg0.N, win0_6.index t = ![t.val, 0] := (by decide +kernel : ∀ t : Fin grid0.N, win0_6.index t = ![t.val, 0])
theorem index_k : ∀ t : Fin cfg0.N, win0_7.index t = ![t.val, 0] := (by decide +kernel : ∀ t : Fin grid0.N, win0_7.index t = ![t.val, 0])
theorem index_v : ∀ t : Fin cfg0.N, win0_8.index t = ![t.val, 0] := (by decide +kernel : ∀ t : Fin grid0.N, win0_8.index t = ![t.val, 0])
theorem index_r : ∀ t : Fin cfg0.N, win0_9.index t = ![t.val, 0] := (by decide +kernel : ∀ t : Fin grid0.N, win0_9.index t = ![t.val, 0])
theorem index_f : ∀ t : Fin cfg0.N, win0_10.index t = ![t.val, 0] := (by decide +kernel : ∀ t : Fin grid0.N, win0_10.index t = ![t.val, 0])
theorem index_b : ∀ t : Fin cfg0.N, win0_11.index t = ![t.val, 0] := (by decide +kernel : ∀ t : Fin grid0.N, win0_11.index t = ![t.val, 0])

/-- Row `a` of tile `n`. -/
def tileRow (n : ℕ) (a : Fin 1024) : Fin 65536 := ⟨n % 64 * 1024 + a.val, by have := a.isLt; have := Nat.mod_lt n (show 0 < 64 by decide); omega⟩

theorem blk_x (c : Dev nD) (t : Fin cfg0.N) (a b : Fin 1024) : (iblk m c 0 t (ix2 a b) : EReal) = argX m c (ix2 (tileRow t.val a) b) := by
  have e := index_x t
  have hN := N_eq
  have h1 : t.val % 64 = t.val := Nat.mod_eq_of_lt (hN ▸ t.isLt)
  blk_simp [iblk]
  refine Eq.trans (b := (V m c main_arg0 : S65536x1024.Idx → EReal) (ix2 (tileRow t.val a) b)) ?_ (congrFun (V_main_arg0 m c) _)
  refine congrArg (V m c main_arg0 : S65536x1024.Idx → EReal) (funext fun d => Fin.ext ?_)
  fin_cases d
  · blk_simp [e]; simp [tileRow, h1]
  · blk_simp [e]

theorem blk_g (c : Dev nD) (t : Fin cfg0.N) (k : Fin 1024) : (iblk m c 1 t (ix2 0 k) : EReal) = argG m c (ix2 0 k) := by
  have e := index_g t
  refine Eq.trans (b := (V m c main_v19 : S1x1024.Idx → EReal) (ix2 0 k)) ?_ (g_at m c k)
  blk_simp [iblk]
  refine congrArg (V m c main_v19 : S1x1024.Idx → EReal) (funext fun d => Fin.ext ?_)
  fin_cases d
  · blk_simp [e]
  · blk_simp [e]

theorem blk_w (c : Dev nD) (t : Fin cfg0.N) (d : Fin 1024) (j : Fin 3072) :
    (iblk m c 2 t (ix2 d j) : EReal) = (V m c main_v20 : S1024x3072.Idx → EReal) (ix2 d j) := by
  have e := index_w t
  blk_simp [iblk]
  refine congrArg (V m c main_v20 : S1024x3072.Idx → EReal) (funext fun d => Fin.ext ?_)
  fin_cases d
  · blk_simp [e]
  · blk_simp [e]

theorem blk_lo (c : Dev nD) (t : Fin cfg0.N) (d : Fin 1024) (l : Fin 128) :
    (iblk m c 3 t (ix2 d l) : EReal) = (V m c main_v21 : S1024x128.Idx → EReal) (ix2 d l) := by
  have e := index_lo t
  blk_simp [iblk]
  refine congrArg (V m c main_v21 : S1024x128.Idx → EReal) (funext fun d => Fin.ext ?_)
  fin_cases d
  · blk_simp [e]
  · blk_simp [e]

theorem blk_up (c : Dev nD) (t : Fin cfg0.N) (l : Fin 128) (j : Fin 1024) :
    (iblk m c 4 t (ix2 l j) : EReal) = (V m c main_v22 : S128x1024.Idx → EReal) (ix2 l j) := by
  have e := index_up t
  blk_simp [iblk]
  refine congrArg (V m c main_v22 : S128x1024.Idx → EReal) (funext fun d => Fin.ext ?_)
  fin_cases d
  · blk_simp [e]
  · blk_simp [e]

theorem blk_bias (c : Dev nD) (t : Fin cfg0.N) (j : Fin 1024) :
    (iblk m c 5 t (ix2 0 j) : EReal) = (V m c main_v23 : S1x1024.Idx → EReal) (ix2 0 j) := by
  have e := index_bias t
  blk_simp [iblk]
  refine congrArg (V m c main_v23 : S1x1024.Idx → EReal) (funext fun d => Fin.ext ?_)
  fin_cases d
  · blk_simp [e]
  · blk_simp [e]

/-! ## The results at an index -/

section Results
variable (X : (⟨2, ![65536, 1024]⟩ : Shape).Idx → EReal) (G : (⟨2, ![2, 1024]⟩ : Shape).Idx → EReal)
  (W : (⟨3, ![1, 1024, 3104]⟩ : Shape).Idx → EReal) (U : (⟨3, ![1, 16, 512]⟩ : Shape).Idx → EReal) (B : (⟨2, ![1, 512]⟩ : Shape).Idx → EReal)

/-- A row against a column of the first weight. -/
def proj (r : Fin 65536) (n : ℕ) : EReal := projAt (fun k => X (ix2 r k)) (fun k => G (ix2 0 k)) (fun d j => W (ix3 0 d j)) (col n)

/-- The queries, scaled; the columns from `s`, 512 or 1024 of them; and the decay of the 16 columns from `s`. -/
def resultQ : (⟨2, ![65536, 512]⟩ : Shape).Idx → EReal := fun i => proj X G W (i 0) (i 1).val * scale
def result (N s : ℕ) : (⟨2, ![65536, N]⟩ : Shape).Idx → EReal := fun i => proj X G W (i 0) (s + (i 1).val)
def resultD (s : ℕ) : (⟨2, ![65536, 512]⟩ : Shape).Idx → EReal := fun i =>
  gateAt (fun k => X (ix2 (i 0) k)) (fun k => G (ix2 0 k)) (fun d j => W (ix3 0 d j)) s (fun j c => U (ix3 0 j c)) (fun c => B (ix2 0 c)) (i 1)
end Results

theorem col_val (n : ℕ) (h : n < 3104) : (col n).val = n := Nat.mod_eq_of_lt h

theorem norm_blk (c : Dev nD) (t : Fin cfg0.N) (a : Fin 1024) :
    normAt (fun k => iblk m c 0 t (ix2 a k)) (fun k => iblk m c 1 t (ix2 0 k)) = normAt (fun k => argX m c (ix2 (tileRow t.val a) k)) (fun k => argG m c (ix2 0 k)) :=
  congrArg₂ normAt (funext fun k => blk_x m c t a k) (funext fun k => blk_g m c t k)

theorem dot_w (c : Dev nD) (t : Fin cfg0.N) (a : Fin 1024) (j : Fin 3072) :
    dotAt (N := 3072) (iblk m c 0 t) (iblk m c 1 t) (iblk m c 2 t) a j = proj (argX m c) (argG m c) (argW m c) (tileRow t.val a) j.val := by
  unfold dotAt proj projAt
  rw [norm_blk]
  refine Finset.sum_congr rfl fun d _ => congrArg (fun v : EReal => _ * v) ((blk_w m c t d j).trans (w_at m c d j _ ?_))
  exact col_val _ (by have := j.isLt; omega)

theorem dot_lo (c : Dev nD) (t : Fin cfg0.N) (a : Fin 1024) (l : Fin 128) (hl : l.val < 32) :
    dotAt (N := 128) (iblk m c 0 t) (iblk m c 1 t) (iblk m c 3 t) a l = proj (argX m c) (argG m c) (argW m c) (tileRow t.val a) (3072 + l.val) := by
  unfold dotAt proj projAt
  rw [norm_blk]
  refine Finset.sum_congr rfl fun d _ => congrArg (fun v : EReal => _ * v) ((blk_lo m c t d l).trans (lo_at m c d l hl _ ?_))
  exact col_val _ (by omega)

theorem arg_forward (c : Dev nD) (t : Fin cfg0.N) (a : Fin 1024) (r : Fin 512) (e : Fin 1024) (he : e.val = r.val) :
    argAt (iblk m c 0 t) (iblk m c 1 t) (iblk m c 3 t) (iblk m c 4 t) (iblk m c 5 t) a e
      = (∑ j : Fin 16, proj (argX m c) (argG m c) (argW m c) (tileRow t.val a) (3072 + j.val) * argF m c (ix3 0 j r)) + argFb m c (ix2 0 r) := by
  have hr := r.isLt
  unfold argAt
  refine congrArg₂ (fun s u : EReal => s + u) (sum_sixteen 0 (by decide) _ _ (fun j => ?_) (fun l hl => ?_)) ((blk_bias m c t e).trans (bias_forward m c r e he))
  · have := j.isLt
    refine congrArg₂ (fun s u : EReal => s * u) ((dot_lo m c t a _ (by show 0 + j.val < 32; omega)).trans ?_)
      ((blk_up m c t _ e).trans (up_forward m c j r _ e (Nat.zero_add _) he))
    exact congrArg _ (by show 3072 + (0 + j.val) = _; omega)
  · have h : (iblk m c 4 t (ix2 l e) : EReal) = (0 : EReal) := (blk_up m c t l e).trans (up_zero m c l e (by omega) (by omega))
    exact (congrArg (fun u : EReal => dotAt (N := 128) (iblk m c 0 t) (iblk m c 1 t) (iblk m c 3 t) a l * u) h).trans (mul_zero _)

theorem arg_backward (c : Dev nD) (t : Fin cfg0.N) (a : Fin 1024) (r : Fin 512) (e : Fin 1024) (he : e.val = 512 + r.val) :
    argAt (iblk m c 0 t) (iblk m c 1 t) (iblk m c 3 t) (iblk m c 4 t) (iblk m c 5 t) a e
      = (∑ j : Fin 16, proj (argX m c) (argG m c) (argW m c) (tileRow t.val a) (3088 + j.val) * argB m c (ix3 0 j r)) + argBb m c (ix2 0 r) := by
  have hr := r.isLt
  unfold argAt
  refine congrArg₂ (fun s u : EReal => s + u) (sum_sixteen 16 (by decide) _ _ (fun j => ?_) (fun l hl => ?_)) ((blk_bias m c t e).trans (bias_backward m c r e he))
  · have := j.isLt
    refine congrArg₂ (fun s u : EReal => s * u) ((dot_lo m c t a _ (by show 16 + j.val < 32; omega)).trans ?_)
      ((blk_up m c t _ e).trans (up_backward m c j r _ e rfl he))
    exact congrArg _ (by show 3072 + (16 + j.val) = _; omega)
  · have h : (iblk m c 4 t (ix2 l e) : EReal) = (0 : EReal) := (blk_up m c t l e).trans (up_zero m c l e (by omega) (by omega))
    exact (congrArg (fun u : EReal => dotAt (N := 128) (iblk m c 0 t) (iblk m c 1 t) (iblk m c 3 t) a l * u) h).trans (mul_zero _)

/-! ## The arrays -/

theorem final_q (c : Dev nD) : (dats m 0 c).arrAt 6 cfg0.N = resultQ (argX m c) (argG m c) (argW m c) := by
  refine (dats m 0 c).arrAt_eq_of_covers 6 _ (by decide +kernel) fun t hf y => ?_
  have hN := N_eq
  have e := index_q t
  have h1 : t.val % 64 = t.val := Nat.mod_eq_of_lt (hN ▸ t.isLt)
  blk_simp
  rw [after0_6]
  obtain ⟨a, b, rfl⟩ : ∃ (a : Fin 1024) (b : Fin 512), y = ix2 a b := ⟨y 0, y 1, eq_ix2 y⟩
  refine ((q_at (iblk m c 0 t) (iblk m c 1 t) (iblk m c 2 t) (iblk m c 3 t) (iblk m c 4 t) (iblk m c 5 t) a b ⟨b.val, by have := b.isLt; omega⟩ rfl).trans
    (congrArg (fun v : EReal => v * scale) (dot_w m c t a _))).trans
    (congrArg (resultQ (argX m c) (argG m c) (argW m c)) (a₁ := ix2 (tileRow t.val a) b) (funext fun d => Fin.ext ?_))
  fin_cases d
  · blk_simp [e]; simp [tileRow, h1]
  · blk_simp [e]

theorem final_k (c : Dev nD) : (dats m 0 c).arrAt 7 cfg0.N = result (argX m c) (argG m c) (argW m c) 512 512 := by
  refine (dats m 0 c).arrAt_eq_of_covers 7 _ (by decide +kernel) fun t hf y => ?_
  have hN := N_eq
  have e := index_k t
  have h1 : t.val % 64 = t.val := Nat.mod_eq_of_lt (hN ▸ t.isLt)
  blk_simp
  rw [after0_7]
  obtain ⟨a, b, rfl⟩ : ∃ (a : Fin 1024) (b : Fin 512), y = ix2 a b := ⟨y 0, y 1, eq_ix2 y⟩
  refine ((k_at (iblk m c 0 t) (iblk m c 1 t) (iblk m c 2 t) (iblk m c 3 t) (iblk m c 4 t) (iblk m c 5 t) a b ⟨512 + b.val, by have := b.isLt; omega⟩ rfl).trans
    (dot_w m c t a _)).trans
    (congrArg (result (argX m c) (argG m c) (argW m c) 512 512) (a₁ := ix2 (tileRow t.val a) b) (funext fun d => Fin.ext ?_))
  fin_cases d
  · blk_simp [e]; simp [tileRow, h1]
  · blk_simp [e]

theorem final_v (c : Dev nD) : (dats m 0 c).arrAt 8 cfg0.N = result (argX m c) (argG m c) (argW m c) 1024 1024 := by
  refine (dats m 0 c).arrAt_eq_of_covers 8 _ (by decide +kernel) fun t hf y => ?_
  have hN := N_eq
  have e := index_v t
  have h1 : t.val % 64 = t.val := Nat.mod_eq_of_lt (hN ▸ t.isLt)
  blk_simp
  rw [after0_8]
  obtain ⟨a, b, rfl⟩ : ∃ (a b : Fin 1024), y = ix2 a b := ⟨y 0, y 1, eq_ix2 y⟩
  refine ((v_at (iblk m c 0 t) (iblk m c 1 t) (iblk m c 2 t) (iblk m c 3 t) (iblk m c 4 t) (iblk m c 5 t) a b ⟨1024 + b.val, by have := b.isLt; omega⟩ rfl).trans
    (dot_w m c t a _)).trans
    (congrArg (result (argX m c) (argG m c) (argW m c) 1024 1024) (a₁ := ix2 (tileRow t.val a) b) (funext fun d => Fin.ext ?_))
  fin_cases d
  · blk_simp [e]; simp [tileRow, h1]
  · blk_simp [e]

theorem final_r (c : Dev nD) : (dats m 0 c).arrAt 9 cfg0.N = result (argX m c) (argG m c) (argW m c) 1024 2048 := by
  refine (dats m 0 c).arrAt_eq_of_covers 9 _ (by decide +kernel) fun t hf y => ?_
  have hN := N_eq
  have e := index_r t
  have h1 : t.val % 64 = t.val := Nat.mod_eq_of_lt (hN ▸ t.isLt)
  blk_simp
  rw [after0_9]
  obtain ⟨a, b, rfl⟩ : ∃ (a b : Fin 1024), y = ix2 a b := ⟨y 0, y 1, eq_ix2 y⟩
  refine ((r_at (iblk m c 0 t) (iblk m c 1 t) (iblk m c 2 t) (iblk m c 3 t) (iblk m c 4 t) (iblk m c 5 t) a b ⟨2048 + b.val, by have := b.isLt; omega⟩ rfl).trans
    (dot_w m c t a _)).trans
    (congrArg (result (argX m c) (argG m c) (argW m c) 1024 2048) (a₁ := ix2 (tileRow t.val a) b) (funext fun d => Fin.ext ?_))
  fin_cases d
  · blk_simp [e]; simp [tileRow, h1]
  · blk_simp [e]

theorem final_f (c : Dev nD) : (dats m 0 c).arrAt 10 cfg0.N = resultD (argX m c) (argG m c) (argW m c) (argF m c) (argFb m c) 3072 := by
  refine (dats m 0 c).arrAt_eq_of_covers 10 _ (by decide +kernel) fun t hf y => ?_
  have hN := N_eq
  have e := index_f t
  have h1 : t.val % 64 = t.val := Nat.mod_eq_of_lt (hN ▸ t.isLt)
  blk_simp
  rw [after0_10]
  obtain ⟨a, b, rfl⟩ : ∃ (a : Fin 1024) (b : Fin 512), y = ix2 a b := ⟨y 0, y 1, eq_ix2 y⟩
  refine ((forward_at (iblk m c 0 t) (iblk m c 1 t) (iblk m c 2 t) (iblk m c 3 t) (iblk m c 4 t) (iblk m c 5 t) a b ⟨b.val, by have := b.isLt; omega⟩ rfl).trans
    (congrArg decayOf (arg_forward m c t a b _ rfl))).trans
    (congrArg (resultD (argX m c) (argG m c) (argW m c) (argF m c) (argFb m c) 3072) (a₁ := ix2 (tileRow t.val a) b) (funext fun d => Fin.ext ?_))
  fin_cases d
  · blk_simp [e]; simp [tileRow, h1]
  · blk_simp [e]

theorem final_b (c : Dev nD) : (dats m 0 c).arrAt 11 cfg0.N = resultD (argX m c) (argG m c) (argW m c) (argB m c) (argBb m c) 3088 := by
  refine (dats m 0 c).arrAt_eq_of_covers 11 _ (by decide +kernel) fun t hf y => ?_
  have hN := N_eq
  have e := index_b t
  have h1 : t.val % 64 = t.val := Nat.mod_eq_of_lt (hN ▸ t.isLt)
  blk_simp
  rw [after0_11]
  obtain ⟨a, b, rfl⟩ : ∃ (a : Fin 1024) (b : Fin 512), y = ix2 a b := ⟨y 0, y 1, eq_ix2 y⟩
  refine ((backward_at (iblk m c 0 t) (iblk m c 1 t) (iblk m c 2 t) (iblk m c 3 t) (iblk m c 4 t) (iblk m c 5 t) a b ⟨512 + b.val, by have := b.isLt; omega⟩ rfl).trans
    (congrArg decayOf (arg_backward m c t a b _ rfl))).trans
    (congrArg (resultD (argX m c) (argG m c) (argW m c) (argB m c) (argBb m c) 3088) (a₁ := ix2 (tileRow t.val a) b) (funext fun d => Fin.ext ?_))
  fin_cases d
  · blk_simp [e]; simp [tileRow, h1]
  · blk_simp [e]

end Cert.Kernel5Ideal.Gla

end
-- ==== Proof.Gla.Reference.lean ====
/- The projections' reference at the ideal values, read at an index. -/
module

public import proofs.«01_k».proof.Proof.Gen.Reference5Ideal.Read
public import proofs.«01_k».proof.Proof.Gla.Value

@[expose] public section

noncomputable section

namespace Cert.Reference5Ideal.Gla

open Idealize.ShloMosaic Idealize.ShloMosaic.ValueIdx
open Cert.Gla Cert.Reference5Ideal.Gen Cert.Reference5Ideal.Read
open Cert.Ffn (normAt)
open scoped BigOperators

variable (X : (⟨2, ![65536, 1024]⟩ : Shape).Idx → EReal) (G : (⟨2, ![2, 1024]⟩ : Shape).Idx → EReal)
  (W : (⟨3, ![1, 1024, 3104]⟩ : Shape).Idx → EReal) (U : (⟨3, ![1, 16, 512]⟩ : Shape).Idx → EReal) (B : (⟨2, ![1, 512]⟩ : Shape).Idx → EReal)

theorem scale_at (k : Fin 1024) : (val_main_v1 (F := Ideal) G (ix1 k) : EReal) = G (ix2 0 k) := by
  rw [val_main_v1_apply, val_main_v0_apply]
  refine congrArg G (funext fun a => Fin.ext ?_)
  match a with
  | ⟨0, _⟩ => rfl
  | ⟨1, _⟩ => exact Nat.mod_eq_of_lt k.isLt

theorem weight_at (d : Fin 1024) (j : Fin 3104) : (val_main_v15 (F := Ideal) W (ix2 d j) : EReal) = W (ix3 0 d j) := by
  rw [val_main_v15_apply]
  refine congrArg W (funext fun a => Fin.ext ?_)
  have := d.isLt; have := j.isLt
  match a with
  | ⟨0, _⟩ => rfl
  | ⟨1, _⟩ => show (d.val * 3104 + j.val) / 3104 % 1024 = d.val; omega
  | ⟨2, _⟩ => show (d.val * 3104 + j.val) % 3104 = j.val; omega

theorem squares_at (r : Fin 65536) : (val_main_v3 (F := Ideal) X (ix1 r) : EReal) = ∑ k : Fin 1024, X (ix2 r k) * X (ix2 r k) := by
  rw [val_main_v3_apply, show (val_main_cst (F := Ideal) (Shape.Idx.first h_S_) : EReal) = 0 from Ideal.ofBits_zero_f32, zero_add]
  refine Finset.sum_congr rfl fun k _ => ?_
  rw [show idx_main_v3 (ix1 r) k = ix2 r k from funext fun a => by match a with | ⟨0, _⟩ => rfl | ⟨1, _⟩ => rfl]
  rfl

theorem norm_at (r : Fin 65536) (b : Fin 1024) :
    (val_main_v14 (F := Ideal) X G (ix2 r b) : EReal) = normAt (fun k => X (ix2 r k)) (fun k => G (ix2 0 k)) b := by
  rw [val_main_v14_apply, val_main_v11_apply, val_main_v10_apply, val_main_v9_apply, val_main_v8_apply, val_main_v6_apply, val_main_v4_apply,
    val_main_v5_apply, val_main_v7_apply, val_main_v13_apply, val_main_v12_apply,
    show idx_main_v4 (idx_main_v10 (ix2 r b)) = ix1 r from funext fun a => by match a with | ⟨0, _⟩ => rfl,
    show idx_main_v12 (idx_main_v13 (ix2 r b)) = ix1 b from funext fun a => by match a with | ⟨0, _⟩ => rfl,
    squares_at, scale_at]
  rfl

/-- The row against a column of the first weight. -/
abbrev proj (r : Fin 65536) (j : Fin 3104) : EReal := projAt (fun k => X (ix2 r k)) (fun k => G (ix2 0 k)) (fun d j => W (ix3 0 d j)) j

theorem proj_at (r : Fin 65536) (j : Fin 3104) : (val_main_v16 (F := Ideal) X G W (ix2 r j) : EReal) = proj X G W r j := by
  rw [val_main_v16_apply]
  refine Finset.sum_congr rfl fun d _ => ?_
  rw [show lidx_main_v16 (ix2 r j) d = ix2 r d from funext fun a => by match a with | ⟨0, _⟩ => rfl | ⟨1, _⟩ => rfl,
    show ridx_main_v16 (ix2 r j) d = ix2 d j from funext fun a => by match a with | ⟨0, _⟩ => rfl | ⟨1, _⟩ => rfl, norm_at, weight_at]

theorem col_val (n : ℕ) (h : n < 3104) : (col n).val = n := Nat.mod_eq_of_lt h

theorem proj_col (r : Fin 65536) (n : ℕ) (h : n < 3104) (i : S65536x3104.Idx) (h0 : (i 0).val = r.val) (h1 : (i 1).val = n) :
    (val_main_v16 (F := Ideal) X G W i : EReal) = proj X G W r (col n) :=
  (congrArg (val_main_v16 (F := Ideal) X G W) (funext fun a => Fin.ext (by
    match a with
    | ⟨0, _⟩ => exact h0
    | ⟨1, _⟩ => exact h1.trans (col_val n h).symm))).trans (proj_at X G W r (col n))

theorem q_at (r : Fin 65536) (c : Fin 512) : (val_main_v42 (F := Ideal) X G W (ix2 r c) : EReal) = proj X G W r (col c.val) * scale := by
  rw [val_main_v42_apply, val_main_v17_apply, proj_col X G W r c.val (by have := c.isLt; omega) _ rfl rfl, val_main_v41_apply]
  rfl

theorem k_at (r : Fin 65536) (c : Fin 512) : (val_main_v18 (F := Ideal) X G W (ix2 r c) : EReal) = proj X G W r (col (512 + c.val)) := by
  rw [val_main_v18_apply, proj_col X G W r (512 + c.val) (by have := c.isLt; omega) _ rfl rfl]

theorem v_at (r : Fin 65536) (c : Fin 1024) : (val_main_v43 (F := Ideal) X G W (ix2 r c) : EReal) = proj X G W r (col (1024 + c.val)) := by
  rw [val_main_v43_apply, val_main_v19_apply, proj_col X G W r (1024 + c.val) (by have := c.isLt; omega) _ rfl rfl]
  rfl

theorem r_at (r : Fin 65536) (c : Fin 1024) : (val_main_v20 (F := Ideal) X G W (ix2 r c) : EReal) = proj X G W r (col (2048 + c.val)) := by
  rw [val_main_v20_apply, proj_col X G W r (2048 + c.val) (by have := c.isLt; omega) _ rfl rfl]

/-- A number is not unlike itself, so the softplus takes its second branch. -/
theorem select_alike (d a b : EReal) : Scalar.select (Ideal.cmp .une d d) a b = b := by
  have h : Ideal.cmp .une d d = 0#1 := by simp [Ideal.cmp]
  rw [h]; rfl

theorem second_at (j : Fin 16) (c : Fin 512) : (val_main_v23 (F := Ideal) U (ix2 j c) : EReal) = U (ix3 0 j c) := by
  rw [val_main_v23_apply]
  refine congrArg U (funext fun a => Fin.ext ?_)
  have := j.isLt; have := c.isLt
  match a with
  | ⟨0, _⟩ => rfl
  | ⟨1, _⟩ => show (j.val * 512 + c.val) / 512 % 16 = j.val; omega
  | ⟨2, _⟩ => show (j.val * 512 + c.val) % 512 = c.val; omega

theorem second_at' (j : Fin 16) (c : Fin 512) : (val_main_v32 (F := Ideal) U (ix2 j c) : EReal) = U (ix3 0 j c) := second_at U j c

theorem bias_at (r : Fin 65536) (c : Fin 512) : (val_main_v27 (F := Ideal) B (ix2 r c) : EReal) = B (ix2 0 c) := by
  rw [val_main_v27_apply, val_main_v26_apply, val_main_v25_apply]
  refine congrArg B (funext fun a => Fin.ext ?_)
  match a with
  | ⟨0, _⟩ => rfl
  | ⟨1, _⟩ => exact Nat.mod_eq_of_lt c.isLt

theorem bias_at' (r : Fin 65536) (c : Fin 512) : (val_main_v36 (F := Ideal) B (ix2 r c) : EReal) = B (ix2 0 c) := bias_at B r c

theorem arg_at (r : Fin 65536) (c : Fin 512) : (val_main_v28 (F := Ideal) X G W U B (ix2 r c) : EReal)
    = (∑ j : Fin 16, proj X G W r (col (3072 + j.val)) * U (ix3 0 j c)) + B (ix2 0 c) := by
  rw [val_main_v28_apply, bias_at, val_main_v24_apply]
  refine congrArg (fun s : EReal => s + B (ix2 0 c)) (Finset.sum_congr rfl fun j _ => ?_)
  rw [val_main_v21_apply, proj_col X G W r (3072 + j.val) (by have := j.isLt; omega) _ rfl rfl,
    show ridx_main_v24 (ix2 r c) j = ix2 j c from funext fun a => by match a with | ⟨0, _⟩ => rfl | ⟨1, _⟩ => rfl, second_at]

theorem arg_at' (r : Fin 65536) (c : Fin 512) : (val_main_v37 (F := Ideal) X G W U B (ix2 r c) : EReal)
    = (∑ j : Fin 16, proj X G W r (col (3088 + j.val)) * U (ix3 0 j c)) + B (ix2 0 c) := by
  rw [val_main_v37_apply, bias_at', val_main_v33_apply]
  refine congrArg (fun s : EReal => s + B (ix2 0 c)) (Finset.sum_congr rfl fun j _ => ?_)
  rw [val_main_v22_apply, proj_col X G W r (3088 + j.val) (by have := j.isLt; omega) _ rfl rfl,
    show ridx_main_v33 (ix2 r c) j = ix2 j c from funext fun a => by match a with | ⟨0, _⟩ => rfl | ⟨1, _⟩ => rfl, second_at']

/-- The forward decay. -/
theorem forward_at (r : Fin 65536) (c : Fin 512) : (val_main_v31 (F := Ideal) X G W U B (ix2 r c) : EReal)
    = gateAt (fun k => X (ix2 r k)) (fun k => G (ix2 0 k)) (fun d j => W (ix3 0 d j)) 3072 (fun j c => U (ix3 0 j c)) (fun c => B (ix2 0 c)) c := by
  have e : (val_main_call0_v1 (F := Ideal) X G W U B (ix2 r c) : EReal) = val_main_call0_call0_v11 (F := Ideal) X G W U B (ix2 r c) := by
    rw [val_main_call0_v1_apply, val_main_call0_call0_v4_apply]
    exact select_alike _ _ _
  refine Eq.trans (b := softOf (val_main_v28 (F := Ideal) X G W U B (ix2 r c))) ?_ ((soft_eq _).trans (congrArg decayOf (arg_at X G W U B r c)))
  rw [val_main_v31_apply, val_main_v29_apply, e, val_main_call0_call0_v11_apply, val_main_call0_call0_v1_apply, val_main_call0_call0_v10_apply,
    val_main_call0_call0_v9_apply, val_main_call0_call0_v8_apply, val_main_call0_call0_v7_apply, val_main_call0_call0_v3_apply, val_main_call0_v0_apply,
    val_main_call0_call0_v0_apply, val_main_call0_call0_v2_apply, val_main_v30_apply]
  rfl

/-- The backward decay. -/
theorem backward_at (r : Fin 65536) (c : Fin 512) : (val_main_v40 (F := Ideal) X G W U B (ix2 r c) : EReal)
    = gateAt (fun k => X (ix2 r k)) (fun k => G (ix2 0 k)) (fun d j => W (ix3 0 d j)) 3088 (fun j c => U (ix3 0 j c)) (fun c => B (ix2 0 c)) c := by
  have e : (val_main_call1_v1 (F := Ideal) X G W U B (ix2 r c) : EReal) = val_main_call1_call0_v11 (F := Ideal) X G W U B (ix2 r c) := by
    rw [val_main_call1_v1_apply, val_main_call1_call0_v4_apply]
    exact select_alike _ _ _
  refine Eq.trans (b := softOf (val_main_v37 (F := Ideal) X G W U B (ix2 r c))) ?_ ((soft_eq _).trans (congrArg decayOf (arg_at' X G W U B r c)))
  rw [val_main_v40_apply, val_main_v38_apply, e, val_main_call1_call0_v11_apply, val_main_call1_call0_v1_apply, val_main_call1_call0_v10_apply,
    val_main_call1_call0_v9_apply, val_main_call1_call0_v8_apply, val_main_call1_call0_v7_apply, val_main_call1_call0_v3_apply, val_main_call1_v0_apply,
    val_main_call1_call0_v0_apply, val_main_call1_call0_v2_apply, val_main_v39_apply]
  rfl

end Cert.Reference5Ideal.Gla

end
-- ==== Proof.Gla.Claim.lean ====
/- The projection call's claims: the reference's frame, and that the kernel's six results are the reference's. -/
module

public import proofs.«01_k».proof.Defs
public import proofs.«01_k».proof.Proof.Gen.Reference5Ideal.Run
public import proofs.«01_k».proof.Proof.Gen.Kernel5Ideal.Value
public import proofs.«01_k».proof.Proof.Gla.Array
public import proofs.«01_k».proof.Proof.Gla.Reference
public import Idealize.ShloMosaic.Lib.Quiescent

@[expose] public section

noncomputable section

namespace Cert.Gla

open Idealize.ShloMosaic Idealize.ShloMosaic.TcCoe Idealize.ShloMosaic.ValueIdx Idealize.SL.Sem

/-- The reference's frame. -/
theorem reference_frame : Cert.quiescent_Reference5Ideal := fun m ρ _ =>
  (θ_run _ _ _).mono (fun _ h => ⟨fun c => (h c).2.2.2.2.2.2, sem_eq_zero_of_no_sems rfl _⟩) (Cert.Reference5Ideal.Value.run m ρ)

/-! ## The reference's results are the kernel's -/

section Same
variable (X : (⟨2, ![65536, 1024]⟩ : Shape).Idx → EReal) (G : (⟨2, ![2, 1024]⟩ : Shape).Idx → EReal)
  (W : (⟨3, ![1, 1024, 3104]⟩ : Shape).Idx → EReal) (U : (⟨3, ![1, 16, 512]⟩ : Shape).Idx → EReal) (B : (⟨2, ![1, 512]⟩ : Shape).Idx → EReal)

theorem same_q : Cert.Reference5Ideal.Read.val_main_v42 (F := Ideal) X G W = Cert.Kernel5Ideal.Gla.resultQ X G W := by
  funext i
  obtain ⟨r, b, rfl⟩ : ∃ (r : Fin 65536) (b : Fin 512), i = ix2 r b := ⟨i 0, i 1, eq_ix2 i⟩
  exact Cert.Reference5Ideal.Gla.q_at X G W r b

theorem same_k : Cert.Reference5Ideal.Read.val_main_v18 (F := Ideal) X G W = Cert.Kernel5Ideal.Gla.result X G W 512 512 := by
  funext i
  obtain ⟨r, b, rfl⟩ : ∃ (r : Fin 65536) (b : Fin 512), i = ix2 r b := ⟨i 0, i 1, eq_ix2 i⟩
  exact Cert.Reference5Ideal.Gla.k_at X G W r b

theorem same_v : Cert.Reference5Ideal.Read.val_main_v43 (F := Ideal) X G W = Cert.Kernel5Ideal.Gla.result X G W 1024 1024 := by
  funext i
  obtain ⟨r, b, rfl⟩ : ∃ (r : Fin 65536) (b : Fin 1024), i = ix2 r b := ⟨i 0, i 1, eq_ix2 i⟩
  exact Cert.Reference5Ideal.Gla.v_at X G W r b

theorem same_r : Cert.Reference5Ideal.Read.val_main_v20 (F := Ideal) X G W = Cert.Kernel5Ideal.Gla.result X G W 1024 2048 := by
  funext i
  obtain ⟨r, b, rfl⟩ : ∃ (r : Fin 65536) (b : Fin 1024), i = ix2 r b := ⟨i 0, i 1, eq_ix2 i⟩
  exact Cert.Reference5Ideal.Gla.r_at X G W r b

theorem same_forward : Cert.Reference5Ideal.Read.val_main_v31 (F := Ideal) X G W U B = Cert.Kernel5Ideal.Gla.resultD X G W U B 3072 := by
  funext i
  obtain ⟨r, b, rfl⟩ : ∃ (r : Fin 65536) (b : Fin 512), i = ix2 r b := ⟨i 0, i 1, eq_ix2 i⟩
  exact Cert.Reference5Ideal.Gla.forward_at X G W U B r b

theorem same_backward : Cert.Reference5Ideal.Read.val_main_v40 (F := Ideal) X G W U B = Cert.Kernel5Ideal.Gla.resultD X G W U B 3088 := by
  funext i
  obtain ⟨r, b, rfl⟩ : ∃ (r : Fin 65536) (b : Fin 512), i = ix2 r b := ⟨i 0, i 1, eq_ix2 i⟩
  exact Cert.Reference5Ideal.Gla.backward_at X G W U B r b
end Same

set_option maxHeartbeats 1000000 in
theorem algebraic : Cert.algebraic_Kernel5Ideal_Reference5Ideal := by
  intro m g m' g' hpre hargs
  refine ⟨fun c => (Cert.Kernel5Ideal.Gen.dats m 0 c).arrAt 6 Cert.Kernel5Ideal.cfg0.N, fun c => (Cert.Kernel5Ideal.Gen.dats m 0 c).arrAt 7 Cert.Kernel5Ideal.cfg0.N,
    fun c => (Cert.Kernel5Ideal.Gen.dats m 0 c).arrAt 8 Cert.Kernel5Ideal.cfg0.N, fun c => (Cert.Kernel5Ideal.Gen.dats m 0 c).arrAt 9 Cert.Kernel5Ideal.cfg0.N,
    fun c => (Cert.Kernel5Ideal.Gen.dats m 0 c).arrAt 10 Cert.Kernel5Ideal.cfg0.N, fun c => (Cert.Kernel5Ideal.Gen.dats m 0 c).arrAt 11 Cert.Kernel5Ideal.cfg0.N,
    Cert.Kernel5Ideal.Value.run_blocks m g, ?_⟩
  refine (θ_run _ _ _).mono (fun r h c => ?_) (Cert.Reference5Ideal.Value.run m' g')
  obtain ⟨e0, e1, e2, e3, e4, e5, e6⟩ := hargs c
  obtain ⟨hq, hk, hv, hr, hf, hb, hrest⟩ := h c
  refine ⟨hq.trans ?_, hk.trans ?_, hv.trans ?_, hr.trans ?_, hf.trans ?_, hb.trans ?_, hrest⟩
  · refine (Cert.Reference5Ideal.Read.val_main_v42_eq _ _ _).trans ?_
    rw [e0, e1, e2]
    exact (same_q _ _ _).trans (Cert.Kernel5Ideal.Gla.final_q m c).symm
  · refine (Cert.Reference5Ideal.Read.val_main_v18_eq _ _ _).trans ?_
    rw [e0, e1, e2]
    exact (same_k _ _ _).trans (Cert.Kernel5Ideal.Gla.final_k m c).symm
  · refine (Cert.Reference5Ideal.Read.val_main_v43_eq _ _ _).trans ?_
    rw [e0, e1, e2]
    exact (same_v _ _ _).trans (Cert.Kernel5Ideal.Gla.final_v m c).symm
  · refine (Cert.Reference5Ideal.Read.val_main_v20_eq _ _ _).trans ?_
    rw [e0, e1, e2]
    exact (same_r _ _ _).trans (Cert.Kernel5Ideal.Gla.final_r m c).symm
  · refine (Cert.Reference5Ideal.Read.val_main_v31_eq _ _).trans ?_
    rw [e0, e1, e2, e3, e4]
    exact (same_forward _ _ _ _ _).trans (Cert.Kernel5Ideal.Gla.final_f m c).symm
  · refine (Cert.Reference5Ideal.Read.val_main_v40_eq _ _).trans ?_
    rw [e0, e1, e2, e5, e6]
    exact (same_backward _ _ _ _ _).trans (Cert.Kernel5Ideal.Gla.final_b m c).symm

end Cert.Gla

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_scores
public import proofs.«01_k».proof.Proof.Attn.Kernel.Frame
public import proofs.«01_k».proof.Proof.Attn.KernelIdeal.Frame
public import proofs.«01_k».proof.Proof.Attn.Value.Claim
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Ffn.Claim
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Post.Claim
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Post.Sample.Claim
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.Gla.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_scores.Gen.facts,
  fun m g _ => Cert.Kernel.Attn.frame m g,
  fun m g _ => Cert.KernelIdeal.Attn.frame m g,
  fun m g _ => Cert.KernelIdeal.Attn.frame m g,
  fun m g _ => Cert.Attn.reference_frame m g,
  fun m g _ => Cert.Attn.reference_frame m g,
  fun m ρ _ => Cert.Kernel2.Gen.frame m ρ,
  fun m ρ _ => Cert.Kernel2Ideal.Gen.frame m ρ,
  Cert.Ffn.reference_frame,
  fun m ρ _ => Cert.Kernel3.Gen.frame m ρ,
  fun m ρ _ => Cert.Kernel3Ideal.Gen.frame m ρ,
  Cert.Post.reference_frame,
  fun m ρ _ => Cert.Kernel4.Gen.frame m ρ,
  fun m ρ _ => Cert.Kernel4Ideal.Gen.frame m ρ,
  Cert.Post.Sample.reference_frame,
  fun m ρ _ => Cert.Kernel5.Gen.frame m ρ,
  fun m ρ _ => Cert.Kernel5Ideal.Gen.frame m ρ,
  Cert.Gla.reference_frame,
  trivial,
  Cert.Attn.algebraic,
  trivial,
  Cert.Ffn.algebraic,
  trivial,
  Cert.Post.algebraic,
  trivial,
  Cert.Post.Sample.algebraic,
  trivial,
  Cert.Gla.algebraic⟩

end Cert.Proof

end
